-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_bounded [hPre_bounded : Cert.Pre_bounded.Facts] (m : (ℓ : Loc Cert.NormIdeal.nD Cert.NormIdeal.τ Cert.NormIdeal.sig) → Buf (Elt Ideal) ℓ) : Prop :=
  ∀ c : Dev Cert.NormIdeal.nD,
    (Cert.Pre_bounded.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8)) (m ((c.tc : Thread Cert.NormIdeal.nD Cert.NormIdeal.τ).loc Cert.NormIdeal.main_arg9)) (m ((c.tc : Thread Cert.NormIdeal.nD Cert.NormIdeal.τ).loc Cert.NormIdeal.main_arg10))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_bounded [hPre_bounded : Cert.Pre_bounded.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_bounded.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6)) (m ((c.tc : Thread Cert.NormReferenceIdeal.nD Cert.NormReferenceIdeal.τ).loc Cert.NormReferenceIdeal.main_arg7)) (m ((c.tc : Thread Cert.NormReferenceIdeal.nD Cert.NormReferenceIdeal.τ).loc Cert.NormReferenceIdeal.main_arg8)) (m ((c.tc : Thread Cert.NormReferenceIdeal.nD Cert.NormReferenceIdeal.τ).loc Cert.NormReferenceIdeal.main_arg9)) (m ((c.tc : Thread Cert.NormReferenceIdeal.nD Cert.NormReferenceIdeal.τ).loc Cert.NormReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8)
      ∧ r.2.mem ((c.tc : Thread Cert.Norm.nD Cert.Norm.τ).loc Cert.Norm.main_arg9) = m ((c.tc : Thread Cert.Norm.nD Cert.Norm.τ).loc Cert.Norm.main_arg9)
      ∧ r.2.mem ((c.tc : Thread Cert.Norm.nD Cert.Norm.τ).loc Cert.Norm.main_arg10) = m ((c.tc : Thread Cert.Norm.nD Cert.Norm.τ).loc Cert.Norm.main_arg10))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
      ∧ r.2.mem ((c.tc : Thread Cert.NormIdeal.nD Cert.NormIdeal.τ).loc Cert.NormIdeal.main_arg10) = m ((c.tc : Thread Cert.NormIdeal.nD Cert.NormIdeal.τ).loc Cert.NormIdeal.main_arg10))
      ∧ r.2.sem = fun _ => 0)

def quiescent_NormIdeal_pre_bounded [hNormIdeal : Cert.NormIdeal.Facts] [hPre_bounded : Cert.Pre_bounded.Facts] : Prop :=
  ∀ (m : (ℓ : Loc Cert.NormIdeal.nD Cert.NormIdeal.τ Cert.NormIdeal.sig) → Buf (Elt Ideal) ℓ) (g : Dev Cert.NormIdeal.nD → PrngReg), Pre_NormIdeal_bounded m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
      ∧ r.2.mem ((c.tc : Thread Cert.NormIdeal.nD Cert.NormIdeal.τ).loc Cert.NormIdeal.main_arg10) = m ((c.tc : Thread Cert.NormIdeal.nD Cert.NormIdeal.τ).loc Cert.NormIdeal.main_arg10))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6)
      ∧ r.2.mem ((c.tc : Thread Cert.NormReferenceIdeal.nD Cert.NormReferenceIdeal.τ).loc Cert.NormReferenceIdeal.main_arg7) = m ((c.tc : Thread Cert.NormReferenceIdeal.nD Cert.NormReferenceIdeal.τ).loc Cert.NormReferenceIdeal.main_arg7)
      ∧ r.2.mem ((c.tc : Thread Cert.NormReferenceIdeal.nD Cert.NormReferenceIdeal.τ).loc Cert.NormReferenceIdeal.main_arg8) = m ((c.tc : Thread Cert.NormReferenceIdeal.nD Cert.NormReferenceIdeal.τ).loc Cert.NormReferenceIdeal.main_arg8)
      ∧ r.2.mem ((c.tc : Thread Cert.NormReferenceIdeal.nD Cert.NormReferenceIdeal.τ).loc Cert.NormReferenceIdeal.main_arg9) = m ((c.tc : Thread Cert.NormReferenceIdeal.nD Cert.NormReferenceIdeal.τ).loc Cert.NormReferenceIdeal.main_arg9)
      ∧ r.2.mem ((c.tc : Thread Cert.NormReferenceIdeal.nD Cert.NormReferenceIdeal.τ).loc Cert.NormReferenceIdeal.main_arg10) = m ((c.tc : Thread Cert.NormReferenceIdeal.nD Cert.NormReferenceIdeal.τ).loc Cert.NormReferenceIdeal.main_arg10))
      ∧ r.2.sem = fun _ => 0)

def quiescent_NormReferenceIdeal_pre_bounded [hNormReferenceIdeal : Cert.NormReferenceIdeal.Facts] [hPre_bounded : Cert.Pre_bounded.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_bounded m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6)
      ∧ r.2.mem ((c.tc : Thread Cert.NormReferenceIdeal.nD Cert.NormReferenceIdeal.τ).loc Cert.NormReferenceIdeal.main_arg7) = m ((c.tc : Thread Cert.NormReferenceIdeal.nD Cert.NormReferenceIdeal.τ).loc Cert.NormReferenceIdeal.main_arg7)
      ∧ r.2.mem ((c.tc : Thread Cert.NormReferenceIdeal.nD Cert.NormReferenceIdeal.τ).loc Cert.NormReferenceIdeal.main_arg8) = m ((c.tc : Thread Cert.NormReferenceIdeal.nD Cert.NormReferenceIdeal.τ).loc Cert.NormReferenceIdeal.main_arg8)
      ∧ r.2.mem ((c.tc : Thread Cert.NormReferenceIdeal.nD Cert.NormReferenceIdeal.τ).loc Cert.NormReferenceIdeal.main_arg9) = m ((c.tc : Thread Cert.NormReferenceIdeal.nD Cert.NormReferenceIdeal.τ).loc Cert.NormReferenceIdeal.main_arg9)
      ∧ r.2.mem ((c.tc : Thread Cert.NormReferenceIdeal.nD Cert.NormReferenceIdeal.τ).loc Cert.NormReferenceIdeal.main_arg10) = m ((c.tc : Thread Cert.NormReferenceIdeal.nD Cert.NormReferenceIdeal.τ).loc Cert.NormReferenceIdeal.main_arg10))
      ∧ r.2.sem = fun _ => 0)

def preserves_Kernel_KernelIdeal : Prop :=
  IdealRules.named_const.Statement Cert.KernelIdeal.κ "sm_scale_log2e" .f32 0x3D8293EE#32 (((Real.sqrt 512)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Norm_NormIdeal : Prop :=
  True

def algebraic_NormIdeal_NormReferenceIdeal_pre_bounded [hNormIdeal : Cert.NormIdeal.Facts] [hNormReferenceIdeal : Cert.NormReferenceIdeal.Facts] [hPre_bounded : Cert.Pre_bounded.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_bounded m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)
      ∧ m' ((c.tc : Thread Cert.NormReferenceIdeal.nD Cert.NormReferenceIdeal.τ).loc Cert.NormReferenceIdeal.main_arg6) = m ((c.tc : Thread Cert.NormIdeal.nD Cert.NormIdeal.τ).loc Cert.NormIdeal.main_arg6)
      ∧ m' ((c.tc : Thread Cert.NormReferenceIdeal.nD Cert.NormReferenceIdeal.τ).loc Cert.NormReferenceIdeal.main_arg7) = m ((c.tc : Thread Cert.NormIdeal.nD Cert.NormIdeal.τ).loc Cert.NormIdeal.main_arg7)
      ∧ m' ((c.tc : Thread Cert.NormReferenceIdeal.nD Cert.NormReferenceIdeal.τ).loc Cert.NormReferenceIdeal.main_arg8) = m ((c.tc : Thread Cert.NormIdeal.nD Cert.NormIdeal.τ).loc Cert.NormIdeal.main_arg8)
      ∧ m' ((c.tc : Thread Cert.NormReferenceIdeal.nD Cert.NormReferenceIdeal.τ).loc Cert.NormReferenceIdeal.main_arg9) = m ((c.tc : Thread Cert.NormIdeal.nD Cert.NormIdeal.τ).loc Cert.NormIdeal.main_arg9)
      ∧ m' ((c.tc : Thread Cert.NormReferenceIdeal.nD Cert.NormReferenceIdeal.τ).loc Cert.NormReferenceIdeal.main_arg10) = m ((c.tc : Thread Cert.NormIdeal.nD Cert.NormIdeal.τ).loc Cert.NormIdeal.main_arg10)) →
    ∃ (v0 : (c : Dev Cert.NormIdeal.nD) → Buf (Elt Ideal) ((c.tc : Thread Cert.NormIdeal.nD Cert.NormIdeal.τ).loc Cert.NormIdeal.main_v7_0)) (v1 : (c : Dev Cert.NormIdeal.nD) → Buf (Elt Ideal) ((c.tc : Thread Cert.NormIdeal.nD Cert.NormIdeal.τ).loc Cert.NormIdeal.main_v7_1)) (v2 : (c : Dev Cert.NormIdeal.nD) → Buf (Elt Ideal) ((c.tc : Thread Cert.NormIdeal.nD Cert.NormIdeal.τ).loc Cert.NormIdeal.main_v7_2)) (v3 : (c : Dev Cert.NormIdeal.nD) → Buf (Elt Ideal) ((c.tc : Thread Cert.NormIdeal.nD Cert.NormIdeal.τ).loc Cert.NormIdeal.main_v7_3)) (v4 : (c : Dev Cert.NormIdeal.nD) → Buf (Elt Ideal) ((c.tc : Thread Cert.NormIdeal.nD Cert.NormIdeal.τ).loc Cert.NormIdeal.main_v7_4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v7_0) = v0 c
          ∧ r.2.mem ((c.tc : Thread Cert.NormIdeal.nD Cert.NormIdeal.τ).loc Cert.NormIdeal.main_v7_1) = v1 c
          ∧ r.2.mem ((c.tc : Thread Cert.NormIdeal.nD Cert.NormIdeal.τ).loc Cert.NormIdeal.main_v7_2) = v2 c
          ∧ r.2.mem ((c.tc : Thread Cert.NormIdeal.nD Cert.NormIdeal.τ).loc Cert.NormIdeal.main_v7_3) = v3 c
          ∧ r.2.mem ((c.tc : Thread Cert.NormIdeal.nD Cert.NormIdeal.τ).loc Cert.NormIdeal.main_v7_4) = v4 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
          ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
          ∧ r.2.mem ((c.tc : Thread Cert.NormIdeal.nD Cert.NormIdeal.τ).loc Cert.NormIdeal.main_arg10) = m ((c.tc : Thread Cert.NormIdeal.nD Cert.NormIdeal.τ).loc Cert.NormIdeal.main_arg10))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v32) = v0 c
          ∧ r.2.mem ((c.tc : Thread Cert.NormReferenceIdeal.nD Cert.NormReferenceIdeal.τ).loc Cert.NormReferenceIdeal.main_v33) = v1 c
          ∧ r.2.mem ((c.tc : Thread Cert.NormReferenceIdeal.nD Cert.NormReferenceIdeal.τ).loc Cert.NormReferenceIdeal.main_v34) = v2 c
          ∧ r.2.mem ((c.tc : Thread Cert.NormReferenceIdeal.nD Cert.NormReferenceIdeal.τ).loc Cert.NormReferenceIdeal.main_v35) = v3 c
          ∧ r.2.mem ((c.tc : Thread Cert.NormReferenceIdeal.nD Cert.NormReferenceIdeal.τ).loc Cert.NormReferenceIdeal.main_v36) = v4 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6)
          ∧ r.2.mem ((c.tc : Thread Cert.NormReferenceIdeal.nD Cert.NormReferenceIdeal.τ).loc Cert.NormReferenceIdeal.main_arg7) = m' ((c.tc : Thread Cert.NormReferenceIdeal.nD Cert.NormReferenceIdeal.τ).loc Cert.NormReferenceIdeal.main_arg7)
          ∧ r.2.mem ((c.tc : Thread Cert.NormReferenceIdeal.nD Cert.NormReferenceIdeal.τ).loc Cert.NormReferenceIdeal.main_arg8) = m' ((c.tc : Thread Cert.NormReferenceIdeal.nD Cert.NormReferenceIdeal.τ).loc Cert.NormReferenceIdeal.main_arg8)
          ∧ r.2.mem ((c.tc : Thread Cert.NormReferenceIdeal.nD Cert.NormReferenceIdeal.τ).loc Cert.NormReferenceIdeal.main_arg9) = m' ((c.tc : Thread Cert.NormReferenceIdeal.nD Cert.NormReferenceIdeal.τ).loc Cert.NormReferenceIdeal.main_arg9)
          ∧ r.2.mem ((c.tc : Thread Cert.NormReferenceIdeal.nD Cert.NormReferenceIdeal.τ).loc Cert.NormReferenceIdeal.main_arg10) = m' ((c.tc : Thread Cert.NormReferenceIdeal.nD Cert.NormReferenceIdeal.τ).loc Cert.NormReferenceIdeal.main_arg10))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Norm (hNorm := hNorm)
    ∧ quiescent_NormIdeal (hNormIdeal := hNormIdeal)
    ∧ quiescent_NormIdeal_pre_bounded (hNormIdeal := hNormIdeal) (hPre_bounded := hPre_bounded)
    ∧ quiescent_NormReferenceIdeal (hNormReferenceIdeal := hNormReferenceIdeal)
    ∧ quiescent_NormReferenceIdeal_pre_bounded (hNormReferenceIdeal := hNormReferenceIdeal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Norm_NormIdeal
    ∧ algebraic_NormIdeal_NormReferenceIdeal_pre_bounded (hNormIdeal := hNormIdeal) (hNormReferenceIdeal := hNormReferenceIdeal) (hPre_bounded := hPre_bounded)
-- ==== Pre_bounded.lean ====
abbrev S2x16384x512 : Shape := ⟨3, ![2, 16384, 512]⟩
abbrev S512 : Shape := ⟨1, ![512]⟩
abbrev S512x512 : Shape := ⟨2, ![512, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S2x16384x512 .bf16) (main_arg1 : FVec F S512 .f32) (main_arg2 : FVec F S512 .f32) (main_arg3 : FVec F S512x512 .fp8e4m3) (main_arg4 : FVec F S512x512 .fp8e4m3) (main_arg5 : FVec F S512x512 .fp8e4m3) (main_arg6 : FVec F S512 .f32) (main_arg7 : FVec F S512 .f32) (main_arg8 : FVec F S512 .f32) (main_arg9 : FVec F S512 .f32) (main_arg10 : FVec F S512 .f32) : IVec S512 1 :=
  let main_v0 : FVec F S512 .f32 := Host.absf main_arg1
  let main_cst : FVec F S_ .f32 := constant S_ .f32 0x7E000000#32
  let main_v1 : FVec F S512 .f32 := broadcastInDim S512 ![] bcast_S_S512 main_cst
  let main_v2 : IVec S512 1 := cmpf .ole main_v0 main_v1
  let main_v3 : FVec F S512 .f32 := Host.absf main_arg2
  let main_cst_0 : FVec F S_ .f32 := constant S_ .f32 0x7E000000#32
  let main_v4 : FVec F S512 .f32 := broadcastInDim S512 ![] bcast_S_S512 main_cst_0
  let main_v5 : IVec S512 1 := cmpf .ole main_v3 main_v4
  let main_v6 : IVec S512 1 := andi main_v2 main_v5
  main_v6
-- ==== Pre_finite.lean ====
abbrev S2x16384x512 : Shape := ⟨3, ![2, 16384, 512]⟩
abbrev S512x512 : Shape := ⟨2, ![512, 512]⟩
abbrev S512 : Shape := ⟨1, ![512]⟩
abbrev S_ : Shape := ⟨0, ![]⟩

class Facts : Prop where
  bcast_S_S2x16384x512 : S_.BroadcastsInDim S2x16384x512 (![] : Fin 0 → Fin S2x16384x512.rank)

variable [Facts]

def fn {F : FTy → Type} [FloatOps F] (main_arg0 : FVec F S2x16384x512 .bf16) (main_arg1 : FVec F S2x16384x512 .bf16) (main_arg2 : FVec F S2x16384x512 .bf16) (main_arg3 : FVec F S2x16384x512 .bf16) (main_arg4 : FVec F S512x512 .fp8e4m3) (main_arg5 : FVec F S512 .f32) (main_arg6 : FVec F S512 .f32) : IVec S2x16384x512 1 :=
  let main_v0 : FVec F S2x16384x512 .bf16 := Host.absf main_arg0
  let main_cst : FVec F S_ .bf16 := constant S_ .bf16 0x7F7F#16
  let main_v1 : FVec F S2x16384x512 .bf16 := broadcastInDim S2x16384x512 ![] bcast_S_S2x16384x512 main_cst
  let main_v2 : IVec S2x16384x512 1 := cmpf .ole main_v0 main_v1
  let main_v3 : FVec F S2x16384x512 .bf16 := Host.absf main_arg1
  let main_cst_0 : FVec F S_ .bf16 := constant S_ .bf16 0x7F7F#16
  let main_v4 : FVec F S2x16384x512 .bf16 := broadcastInDim S2x16384x512 ![] bcast_S_S2x16384x512 main_cst_0
  let main_v5 : IVec S2x16384x512 1 := cmpf .ole main_v3 main_v4
  let main_v6 : IVec S2x16384x512 1 := andi main_v2 main_v5
  let main_v7 : FVec F S2x16384x512 .bf16 := Host.absf main_arg2
  let main_cst_1 : FVec F S_ .bf16 := constant S_ .bf16 0x7F7F#16
  let main_v8 : FVec F S2x16384x512 .bf16 := broadcastInDim S2x16384x512 ![] bcast_S_S2x16384x512 main_cst_1
  let main_v9 : IVec S2x16384x512 1 := cmpf .ole main_v7 main_v8
  let main_v10 : IVec S2x16384x512 1 := andi main_v6 main_v9
  main_v10
-- ==== Kernel.lean ====
abbrev S2x16384x512 : Shape := ⟨3, ![2, 16384, 512]⟩
abbrev S512x512 : Shape := ⟨2, ![512, 512]⟩
abbrev S512 : Shape := ⟨1, ![512]⟩
abbrev S1x512 : Shape := ⟨2, ![1, 512]⟩
abbrev S2x1x16384 : Shape := ⟨3, ![2, 1, 16384]⟩
abbrev S1x256x512 : Shape := ⟨3, ![1, 256, 512]⟩
abbrev S1x1x256 : Shape := ⟨3, ![1, 1, 256]⟩
abbrev S16384x512 : Shape := ⟨2, ![16384, 512]⟩
abbrev S256x16384 : Shape := ⟨2, ![256, 16384]⟩
abbrev S256x512 : Shape := ⟨2, ![256, 512]⟩
abbrev S256x128 : Shape := ⟨2, ![256, 128]⟩
abbrev S2 : Shape := ⟨1, ![2]⟩
abbrev S1 : Shape := ⟨1, ![1]⟩
abbrev S_ : Shape := ⟨0, ![]⟩
abbrev S1x16384x512 : Shape := ⟨3, ![1, 16384, 512]⟩
abbrev S256x1024 : Shape := ⟨2, ![256, 1024]⟩
abbrev S1024x512 : Shape := ⟨2, ![1024, 512]⟩
abbrev S256 : Shape := ⟨1, ![256]⟩
abbrev S256x1 : Shape := ⟨2, ![256, 1]⟩
abbrev S1x256x1 : Shape := ⟨3, ![1, 256, 1]⟩
abbrev S1x1x1 : Shape := ⟨3, ![1, 1, 1]⟩
abbrev S256x256 : Shape := ⟨2, ![256, 256]⟩
abbrev S128x256 : Shape := ⟨2, ![128, 256]⟩
abbrev S1x256 : Shape := ⟨2, ![1, 256]⟩

abbrev nBuf : Space → Nat
  | .hbm => 13
  | .vmem => 20
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S2x16384x512, .bf16⟩
  | .hbm, ⟨10, _⟩ => ⟨S2x16384x512, .bf16⟩
  | .hbm, ⟨11, _⟩ => ⟨S2x16384x512, .fp8e4m3⟩
  | .hbm, ⟨12, _⟩ => ⟨S2x1x16384, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S512x512, .fp8e4m3⟩
  | .local _ .vmem, ⟨5, _⟩ => ⟨S1x512, .f32⟩
  | .local _ .vmem, ⟨6, _⟩ => ⟨S1x512, .f32⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .fp8e4m3⟩
  | .local _ .vmem, ⟨12, _⟩ => ⟨S1x256x512, .fp8e4m3⟩
  | .local _ .vmem, ⟨13, _⟩ => ⟨S1x1x256, .f32⟩
  | .local _ .vmem, ⟨14, _⟩ => ⟨S1x1x256, .f32⟩
  | .local _ .vmem, ⟨15, _⟩ => ⟨S16384x512, .bf16⟩
  | .local _ .vmem, ⟨16, _⟩ => ⟨S16384x512, .bf16⟩
  | .local _ .vmem, ⟨17, _⟩ => ⟨S256x16384, .f32⟩
  | .local _ .vmem, ⟨18, _⟩ => ⟨S256x512, .f32⟩
  | .local _ .vmem, ⟨19, _⟩ => ⟨S256x128, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c128_i32 : BitVec 32 := 128#32
  let v11 : BitVec 1 := Scalar.cmpi .slt arg0 c128_i32
  let v12 : BitVec 1 := Scalar.andi v10 v11
  let v13 : BitVec 32 := Scalar.extui v12
  let c0_i32_4 : BitVec 32 := 0#32
  let v14 : BitVec 1 := Scalar.cmpi .ne v13 c0_i32_4
  v14

def k0_off1 (i : grid0.Coords) : Fin 3 → Nat :=
  let arg0 : BitVec 32 := BitVec.ofNat 32 (i 0).val
  let c0_i32_409 : BitVec 32 := 0#32
  let v964 : BitVec 1 := Scalar.cmpi .sgt arg0 c0_i32_409
  let v965 : BitVec 32 := Scalar.extui v964
  let c0_i32_410 : BitVec 32 := 0#32
  let v966 : BitVec 1 := Scalar.cmpi .slt arg0 c0_i32_410
  let v967 : BitVec 32 := Scalar.extui v966
  let v968 : BitVec 32 := Scalar.subi v965 v967
  let c64_i32_408 : BitVec 32 := 64#32
  let c0_i32_411 : BitVec 32 := 0#32
  let v969 : BitVec 1 := Scalar.cmpi .sgt c64_i32_408 c0_i32_411
  let v970 : BitVec 32 := Scalar.extui v969
  let c0_i32_412 : BitVec 32 := 0#32
  let v971 : BitVec 1 := Scalar.cmpi .slt c64_i32_408 c0_i32_412
  let v972 : BitVec 32 := Scalar.extui v971
  let v973 : BitVec 32 := Scalar.subi v970 v972
  let v974 : BitVec 1 := Scalar.cmpi .ne v968 v973
  let v975 : BitVec 32 := Scalar.remsi arg0 c64_i32_408
  let c0_i32_413 : BitVec 32 := 0#32
  let v976 : BitVec 1 := Scalar.cmpi .ne v975 c0_i32_413
  let v977 : BitVec 1 := Scalar.andi v974 v976
  let v963 : BitVec 32 := Scalar.divsi arg0 c64_i32_408
  let c1_i32_414 : BitVec 32 := 1#32
  let v978 : BitVec 32 := Scalar.subi v963 c1_i32_414
  let v979 : BitVec 32 := Scalar.select v977 v978 v963
  let c0_i32_416 : BitVec 32 := 0#32
  let c0_i32_417 : BitVec 32 := 0#32
  ![v979.toNat, 0, 0]
def k0_cond2 (i : grid0.Coords) : BitVec 1 :=
  let arg0 : BitVec 32 := BitVec.ofNat 32 (i 0).val
  let c64_i32_5 : BitVec 32 := 64#32
  let c0_i32_6 : BitVec 32 := 0#32
  let v15 : BitVec 1 := Scalar.cmpi .eq c64_i32_5 c0_i32_6
  let c1_i32_7 : BitVec 32 := 1#32
  let v16 : BitVec 32 := Scalar.select v15 c1_i32_7 c64_i32_5
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let c1_i32_11 : BitVec 32 := 1#32
  let v25 : BitVec 1 := Scalar.cmpi .eq v24 c1_i32_11
  let v26 : BitVec 32 := Scalar.extui v25
  let c0_i32_12 : BitVec 32 := 0#32
  let v27 : BitVec 1 := Scalar.cmpi .ne v26 c0_i32_12
  v27

def k0_off2 (i : grid0.Coords) : Fin 3 → Nat :=
  let arg0 : BitVec 32 := BitVec.ofNat 32 (i 0).val
  let c0_i32_409 : BitVec 32 := 0#32
  let v964 : BitVec 1 := Scalar.cmpi .sgt arg0 c0_i32_409
  let v965 : BitVec 32 := Scalar.extui v964
  let c0_i32_410 : BitVec 32 := 0#32
  let v966 : BitVec 1 := Scalar.cmpi .slt arg0 c0_i32_410
  let v967 : BitVec 32 := Scalar.extui v966
  let v968 : BitVec 32 := Scalar.subi v965 v967
  let c64_i32_408 : BitVec 32 := 64#32
  let c0_i32_411 : BitVec 32 := 0#32
  let v969 : BitVec 1 := Scalar.cmpi .sgt c64_i32_408 c0_i32_411
  let v970 : BitVec 32 := Scalar.extui v969
  let c0_i32_412 : BitVec 32 := 0#32
  let v971 : BitVec 1 := Scalar.cmpi .slt c64_i32_408 c0_i32_412
  let v972 : BitVec 32 := Scalar.extui v971
  let v973 : BitVec 32 := Scalar.subi v970 v972
  let v974 : BitVec 1 := Scalar.cmpi .ne v968 v973
  let v975 : BitVec 32 := Scalar.remsi arg0 c64_i32_408
  let c0_i32_413 : BitVec 32 := 0#32
  let v976 : BitVec 1 := Scalar.cmpi .ne v975 c0_i32_413
  let v977 : BitVec 1 := Scalar.andi v974 v976
  let v963 : BitVec 32 := Scalar.divsi arg0 c64_i32_408
  let c1_i32_414 : BitVec 32 := 1#32
  let v978 : BitVec 32 := Scalar.subi v963 c1_i32_414
  let v979 : BitVec 32 := Scalar.select v977 v978 v963
  let c0_i32_416 : BitVec 32 := 0#32
  let c0_i32_417 : BitVec 32 := 0#32
  ![v979.toNat, 0, 0]
@[reducible] def k0_t1_loop : Scf.Loop 32 :=
  let c0_i32_409 : BitVec 32 := 0#32
  let c64_i32_410 : BitVec 32 := 64#32
  let v964 : BitVec 32 := Scalar.addi c0_i32_409 c64_i32_410
  let c1_i32_411 : BitVec 32 := 1#32
  ⟨c0_i32_409, v964, c1_i32_411⟩
def k0_mult1 (k0_t1 : Fin k0_t1_loop.trips) : BitVec 32 :=
  let c0_i32_409 : BitVec 32 := 0#32
  let c1_i32_411 : BitVec 32 := 1#32
  let arg18 : BitVec 32 := Scf.iv c0_i32_409 c1_i32_411 k0_t1
  let c256_i32 : BitVec 32 := 256#32
  let v978 : BitVec 32 := Scalar.muli arg18 c256_i32
  v978
def k0_off3 (k0_t1 : Fin k0_t1_loop.trips) : Fin 2 → Nat :=
  let c0_i32_409 : BitVec 32 := 0#32
  let c1_i32_411 : BitVec 32 := 1#32
  let arg18 : BitVec 32 := Scf.iv c0_i32_409 c1_i32_411 k0_t1
  let c256_i32 : BitVec 32 := 256#32
  let v978 : BitVec 32 := Scalar.muli arg18 c256_i32
  let v979 : BitVec 32 := v978
  let v980 : Index := Scalar.indexCast v979
  let c0_424 : Index := 0#32
  ![v980.toNat, 0]
def k0_mult2 (k0_t1 : Fin k0_t1_loop.trips) : BitVec 32 :=
  let c0_i32_409 : BitVec 32 := 0#32
  let c1_i32_411 : BitVec 32 := 1#32
  let arg18 : BitVec 32 := Scf.iv c0_i32_409 c1_i32_411 k0_t1
  let c256_i32_427 : BitVec 32 := 256#32
  let v985 : BitVec 32 := Scalar.muli arg18 c256_i32_427
  v985
def k0_off4 (k0_t1 : Fin k0_t1_loop.trips) : Fin 2 → Nat :=
  let c0_428 : Index := 0#32
  let c0_i32_409 : BitVec 32 := 0#32
  let c1_i32_411 : BitVec 32 := 1#32
  let arg18 : BitVec 32 := Scf.iv c0_i32_409 c1_i32_411 k0_t1
  let c256_i32_427 : BitVec 32 := 256#32
  let v985 : BitVec 32 := Scalar.muli arg18 c256_i32_427
  let v986 : BitVec 32 := v985
  let v987 : Index := Scalar.indexCast v986
  ![0, v987.toNat]
@[reducible] def k0_t2_loop : Scf.Loop 32 :=
  let c0_i32_414 : BitVec 32 := 0#32
  let c64_i32_415 : BitVec 32 := 64#32
  let v967 : BitVec 32 := Scalar.addi c0_i32_414 c64_i32_415
  let c1_i32_416 : BitVec 32 := 1#32
  ⟨c0_i32_414, v967, c1_i32_416⟩
def k0_mult3 (k0_t2 : Fin k0_t2_loop.trips) : BitVec 32 :=
  let c0_i32_414 : BitVec 32 := 0#32
  let c1_i32_416 : BitVec 32 := 1#32
  let arg18 : BitVec 32 := Scf.iv c0_i32_414 c1_i32_416 k0_t2
  let c256_i32 : BitVec 32 := 256#32
  let v976 : BitVec 32 := Scalar.muli arg18 c256_i32
  v976
def k0_off5 (k0_t2 : Fin k0_t2_loop.trips) : Fin 2 → Nat :=
  let c0_421 : Index := 0#32
  let c0_i32_414 : BitVec 32 := 0#32
  let c1_i32_416 : BitVec 32 := 1#32
  let arg18 : BitVec 32 := Scf.iv c0_i32_414 c1_i32_416 k0_t2
  let c256_i32 : BitVec 32 := 256#32
  let v976 : BitVec 32 := Scalar.muli arg18 c256_i32
  let v977 : BitVec 32 := v976
  let v978 : Index := Scalar.indexCast v977
  ![0, v978.toNat]
def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let c0_i32_5 : BitVec 32 := 0#32
  let v18 : BitVec 1 := Scalar.cmpi .eq c64_i32_4 c0_i32_5
  let c1_i32_6 : BitVec 32 := 1#32
  let v19 : BitVec 32 := Scalar.select v18 c1_i32_6 c64_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c64_i32_6 : BitVec 32 := 64#32
  let c0_i32_7 : BitVec 32 := 0#32
  let v19 : BitVec 1 := Scalar.cmpi .eq c64_i32_6 c0_i32_7
  let c1_i32_8 : BitVec 32 := 1#32
  let v20 : BitVec 32 := Scalar.select v19 c1_i32_8 c64_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c64_i32_6 : BitVec 32 := 64#32
  let c0_i32_7 : BitVec 32 := 0#32
  let v19 : BitVec 1 := Scalar.cmpi .eq c64_i32_6 c0_i32_7
  let c1_i32_8 : BitVec 32 := 1#32
  let v20 : BitVec 32 := Scalar.select v19 c1_i32_8 c64_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c64_i32_6 : BitVec 32 := 64#32
  let c0_i32_7 : BitVec 32 := 0#32
  let v19 : BitVec 1 := Scalar.cmpi .eq c64_i32_6 c0_i32_7
  let c1_i32_8 : BitVec 32 := 1#32
  let v20 : BitVec 32 := Scalar.select v19 c1_i32_8 c64_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c64_i32_6 : BitVec 32 := 64#32
  let c0_i32_7 : BitVec 32 := 0#32
  let v19 : BitVec 1 := Scalar.cmpi .eq c64_i32_6 c0_i32_7
  let c1_i32_8 : BitVec 32 := 1#32
  let v20 : BitVec 32 := Scalar.select v19 c1_i32_8 c64_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c64_i32_6 : BitVec 32 := 64#32
  let c0_i32_7 : BitVec 32 := 0#32
  let v19 : BitVec 1 := Scalar.cmpi .eq c64_i32_6 c0_i32_7
  let c1_i32_8 : BitVec 32 := 1#32
  let v20 : BitVec 32 := Scalar.select v19 c1_i32_8 c64_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.subi arg0 c1_i32_12
  let c0_i32_13 : BitVec 32 := 0#32
  let v30 : BitVec 32 := Scalar.maxsi v29 c0_i32_13
  let c64_i32_14 : BitVec 32 := 64#32
  let v31 : BitVec 32 := Scalar.divsi v30 c64_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c64_i32_14 c0_i32_17
  let v38 : BitVec 32 := Scalar.extui v37
  let c0_i32_18 : BitVec 32 := 0#32
  let v39 : BitVec 1 := Scalar.cmpi .slt c64_i32_14 c0_i32_18
  let v40 : BitVec 32 := Scalar.extui v39
  let v41 : BitVec 32 := Scalar.subi v38 v40
  let v42 : BitVec 1 := Scalar.cmpi .ne v36 v41
  let v43 : BitVec 32 := Scalar.remsi v30 c64_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c64_i32_21 : BitVec 32 := 64#32
  let c0_i32_22 : BitVec 32 := 0#32
  let v48 : BitVec 1 := Scalar.cmpi .eq c64_i32_21 c0_i32_22
  let c1_i32_23 : BitVec 32 := 1#32
  let v49 : BitVec 32 := Scalar.select v48 c1_i32_23 c64_i32_21
  let v50 : BitVec 32 := Scalar.remsi v30 v49
  let c0_i32_24 : BitVec 32 := 0#32
  let v51 : BitVec 1 := Scalar.cmpi .ne v50 c0_i32_24
  let c0_i32_25 : BitVec 32 := 0#32
  let v52 : BitVec 1 := Scalar.cmpi .slt v50 c0_i32_25
  let c0_i32_26 : BitVec 32 := 0#32
  let v53 : BitVec 1 := Scalar.cmpi .slt v49 c0_i32_26
  let v54 : BitVec 1 := Scalar.xori v52 v53
  let v55 : BitVec 1 := Scalar.andi v54 v51
  let v56 : BitVec 32 := Scalar.addi v50 v49
  let v57 : BitVec 32 := Scalar.select v55 v56 v50
  let c0_i32_27 : BitVec 32 := 0#32
  let c0_i32_28 : BitVec 32 := 0#32
  ![v18.toNat, c0_i32_27.toNat, v57.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "sm_scale_log2e" => some (((Real.sqrt 512)⁻¹ * (Real.log 2)⁻¹ : ℝ) : EReal)
  | _ => none
-- ==== ReferenceIdeal.lean ====
abbrev S2x16384x512 : Shape := ⟨3, ![2, 16384, 512]⟩
abbrev S512x512 : Shape := ⟨2, ![512, 512]⟩
abbrev S512 : Shape := ⟨1, ![512]⟩
abbrev S2x16384x16384 : Shape := ⟨3, ![2, 16384, 16384]⟩
abbrev S_ : Shape := ⟨0, ![]⟩
abbrev S2x16384 : Shape := ⟨2, ![2, 16384]⟩
abbrev S2x16384x1 : Shape := ⟨3, ![2, 16384, 1]⟩
abbrev S32768x512 : Shape := ⟨2, ![32768, 512]⟩
abbrev S1x512 : Shape := ⟨2, ![1, 512]⟩
abbrev S32768 : Shape := ⟨1, ![32768]⟩
abbrev S32768x1 : Shape := ⟨2, ![32768, 1]⟩
abbrev S2x1x16384 : Shape := ⟨3, ![2, 1, 16384]⟩

abbrev nBuf : Space → Nat
  | .hbm => 40
  | .vmem => 9
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S2x16384x16384, .f32⟩
  | .hbm, ⟨8, _⟩ => ⟨S_, .f32⟩
  | .hbm, ⟨9, _⟩ => ⟨S_, .f32⟩
  | .hbm, ⟨10, _⟩ => ⟨S2x16384x16384, .f32⟩
  | .hbm, ⟨11, _⟩ => ⟨S2x16384x16384, .f32⟩
  | .hbm, ⟨12, _⟩ => ⟨S_, .f32⟩
  | .hbm, ⟨13, _⟩ => ⟨S2x16384, .f32⟩
  | .hbm, ⟨14, _⟩ => ⟨S_, .f32⟩
  | .hbm, ⟨15, _⟩ => ⟨S2x16384, .f32⟩
  | .hbm, ⟨16, _⟩ => ⟨S2x16384, .f32⟩
  | .hbm, ⟨17, _⟩ => ⟨S2x16384x1, .f32⟩
  | .hbm, ⟨18, _⟩ => ⟨S2x16384x16384, .f32⟩
  | .hbm, ⟨19, _⟩ => ⟨S2x16384x16384, .f32⟩
  | .hbm, ⟨20, _⟩ => ⟨S2x16384x16384, .f32⟩
  | .hbm, ⟨21, _⟩ => ⟨S_, .f32⟩
  | .hbm, ⟨22, _⟩ => ⟨S2x16384, .f32⟩
  | .hbm, ⟨23, _⟩ => ⟨S2x16384x1, .f32⟩
  | .hbm, ⟨24, _⟩ => ⟨S2x16384x16384, .f32⟩
  | .hbm, ⟨25, _⟩ => ⟨S2x16384x16384, .f32⟩
  | .hbm, ⟨26, _⟩ => ⟨S2x16384x16384, .bf16⟩
  | .hbm, ⟨27, _⟩ => ⟨S2x16384x512, .f32⟩
  | .hbm, ⟨28, _⟩ => ⟨S32768x512, .f32⟩
  | .hbm, ⟨29, _⟩ => ⟨S32768x512, .bf16⟩
  | .hbm, ⟨30, _⟩ => ⟨S1x512, .f32⟩
  | .hbm, ⟨31, _⟩ => ⟨S1x512, .f32⟩
  | .hbm, ⟨32, _⟩ => ⟨S32768x512, .bf16⟩
  | .hbm, ⟨33, _⟩ => ⟨S32768x512, .bf16⟩
  | .hbm, ⟨34, _⟩ => ⟨S32768x512, .fp8e4m3⟩
  | .hbm, ⟨35, _⟩ => ⟨S32768, .f32⟩
  | .hbm, ⟨36, _⟩ => ⟨S2x16384x512, .bf16⟩
  | .hbm, ⟨37, _⟩ => ⟨S2x16384x512, .bf16⟩
  | .hbm, ⟨38, _⟩ => ⟨S2x16384x512, .fp8e4m3⟩
  | .hbm, ⟨39, _⟩ => ⟨S2x1x16384, .f32⟩
  | .local _ .vmem, ⟨0, _⟩ => ⟨S32768x512, .f32⟩
  | .local _ .vmem, ⟨1, _⟩ => ⟨S32768x512, .bf16⟩
  | .local _ .vmem, ⟨2, _⟩ => ⟨S512x512, .fp8e4m3⟩
  | .local _ .vmem, ⟨3, _⟩ => ⟨S1x512, .f32⟩
  | .local _ .vmem, ⟨4, _⟩ => ⟨S1x512, .f32⟩
  | .local _ .vmem, ⟨5, _⟩ => ⟨S32768x512, .bf16⟩
  | .local _ .vmem, ⟨6, _⟩ => ⟨S32768x512, .bf16⟩
  | .local _ .vmem, ⟨7, _⟩ => ⟨S32768x512, .fp8e4m3⟩
  | .local _ .vmem, ⟨8, _⟩ => ⟨S32768, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Norm.lean ====
abbrev S2x16384x512 : Shape := ⟨3, ![2, 16384, 512]⟩
abbrev S512 : Shape := ⟨1, ![512]⟩
abbrev S512x512 : Shape := ⟨2, ![512, 512]⟩
abbrev S1x512 : Shape := ⟨2, ![1, 512]⟩
abbrev S2x1x16384 : Shape := ⟨3, ![2, 1, 16384]⟩
abbrev S1x16384x512 : Shape := ⟨3, ![1, 16384, 512]⟩
abbrev S1x1024x512 : Shape := ⟨3, ![1, 1024, 512]⟩
abbrev S1x1x1024 : Shape := ⟨3, ![1, 1, 1024]⟩
abbrev S8x512 : Shape := ⟨2, ![8, 512]⟩
abbrev S1x512x512 : Shape := ⟨3, ![1, 512, 512]⟩
abbrev S64x8x512 : Shape := ⟨3, ![64, 8, 512]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S1x1024 : Shape := ⟨2, ![1, 1024]⟩

abbrev nBuf : Space → Nat
  | .hbm => 23
  | .vmem => 24
  | .smem => 0
  | _ => 0

abbrev bufTy : (tb : Table) → Fin (tcTables nBuf tb) → BufTy
  | .hbm, ⟨0, _⟩ => ⟨S2x16384x512, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S2x16384x512, .bf16⟩
  | .hbm, ⟨19, _⟩ => ⟨S2x16384x512, .bf16⟩
  | .hbm, ⟨20, _⟩ => ⟨S2x16384x512, .bf16⟩
  | .hbm, ⟨21, _⟩ => ⟨S2x16384x512, .fp8e4m3⟩
  | .hbm, ⟨22, _⟩ => ⟨S2x1x16384, .f32⟩
  | .local _ .vmem, ⟨0, _⟩ => ⟨S1x16384x512, .bf16⟩
  | .local _ .vmem, ⟨1, _⟩ => ⟨S1x16384x512, .bf16⟩
  | .local _ .vmem, ⟨2, _⟩ => ⟨S1x512, .f32⟩
  | .local _ .vmem, ⟨3, _⟩ => ⟨S1x512, .f32⟩
  | .local _ .vmem, ⟨4, _⟩ => ⟨S512x512, .fp8e4m3⟩
  | .local _ .vmem, ⟨5, _⟩ => ⟨S512x512, .fp8e4m3⟩
  | .local _ .vmem, ⟨6, _⟩ => ⟨S512x512, .fp8e4m3⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .fp8e4m3⟩
  | .local _ .vmem, ⟨19, _⟩ => ⟨S1x1024x512, .fp8e4m3⟩
  | .local _ .vmem, ⟨20, _⟩ => ⟨S1x1x1024, .f32⟩
  | .local _ .vmem, ⟨21, _⟩ => ⟨S1x1x1024, .f32⟩
  | .local _ .vmem, ⟨22, _⟩ => ⟨S1x512, .f32⟩
  | .local _ .vmem, ⟨23, _⟩ => ⟨S1x512, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_61 : BitVec 32 := 0#32
  let c32_i32_62 : BitVec 32 := 32#32
  let v166 : BitVec 32 := Scalar.addi c0_i32_61 c32_i32_62
  let c1_i32_63 : BitVec 32 := 1#32
  ⟨c0_i32_61, v166, c1_i32_63⟩
def k0_mult1 (k0_t1 : Fin k0_t1_loop.trips) : BitVec 32 :=
  let c0_i32_61 : BitVec 32 := 0#32
  let c1_i32_63 : BitVec 32 := 1#32
  let arg20 : BitVec 32 := Scf.iv c0_i32_61 c1_i32_63 k0_t1
  let c512_i32 : BitVec 32 := 512#32
  let v253 : BitVec 32 := Scalar.muli arg20 c512_i32
  v253
def k0_off1 (k0_t1 : Fin k0_t1_loop.trips) : Fin 3 → Nat :=
  let c0_106 : Index := 0#32
  let c0_i32_61 : BitVec 32 := 0#32
  let c1_i32_63 : BitVec 32 := 1#32
  let arg20 : BitVec 32 := Scf.iv c0_i32_61 c1_i32_63 k0_t1
  let c512_i32 : BitVec 32 := 512#32
  let v253 : BitVec 32 := Scalar.muli arg20 c512_i32
  let v254 : BitVec 32 := v253
  let v255 : Index := Scalar.indexCast v254
  let c0_107 : Index := 0#32
  ![0, v255.toNat, 0]
@[reducible] def k0_t2_loop : Scf.Loop 32 :=
  let c0_i32_79 : BitVec 32 := 0#32
  let c32_i32_80 : BitVec 32 := 32#32
  let v205 : BitVec 32 := Scalar.addi c0_i32_79 c32_i32_80
  let c1_i32_81 : BitVec 32 := 1#32
  ⟨c0_i32_79, v205, c1_i32_81⟩
def k0_mult2 (k0_t2 : Fin k0_t2_loop.trips) : BitVec 32 :=
  let c0_i32_79 : BitVec 32 := 0#32
  let c1_i32_81 : BitVec 32 := 1#32
  let arg20 : BitVec 32 := Scf.iv c0_i32_79 c1_i32_81 k0_t2
  let c512_i32 : BitVec 32 := 512#32
  let v253 : BitVec 32 := Scalar.muli arg20 c512_i32
  v253
def k0_off2 (k0_t2 : Fin k0_t2_loop.trips) : Fin 3 → Nat :=
  let c0_106 : Index := 0#32
  let c0_i32_79 : BitVec 32 := 0#32
  let c1_i32_81 : BitVec 32 := 1#32
  let arg20 : BitVec 32 := Scf.iv c0_i32_79 c1_i32_81 k0_t2
  let c512_i32 : BitVec 32 := 512#32
  let v253 : BitVec 32 := Scalar.muli arg20 c512_i32
  let v254 : BitVec 32 := v253
  let v255 : Index := Scalar.indexCast v254
  let c0_107 : Index := 0#32
  ![0, v255.toNat, 0]
def k0_mult3 (i : grid0.Coords) : BitVec 32 :=
  let arg1 : BitVec 32 := BitVec.ofNat 32 (i 1).val
  let c1024_i32 : BitVec 32 := 1024#32
  let v3 : BitVec 32 := Scalar.muli arg1 c1024_i32
  v3
def k0_off3 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== NormReferenceIdeal.lean ====
abbrev S2x16384x512 : Shape := ⟨3, ![2, 16384, 512]⟩
abbrev S512 : Shape := ⟨1, ![512]⟩
abbrev S512x512 : Shape := ⟨2, ![512, 512]⟩
abbrev S2x16384x32x16 : Shape := ⟨4, ![2, 16384, 32, 16]⟩
abbrev S_ : Shape := ⟨0, ![]⟩
abbrev S2x32 : Shape := ⟨2, ![2, 32]⟩
abbrev S2x1x32x1 : Shape := ⟨4, ![2, 1, 32, 1]⟩
abbrev S1x1x512 : Shape := ⟨3, ![1, 1, 512]⟩
abbrev S32768x512 : Shape := ⟨2, ![32768, 512]⟩
abbrev S1x512 : Shape := ⟨2, ![1, 512]⟩
abbrev S32768 : Shape := ⟨1, ![32768]⟩
abbrev S32768x1 : Shape := ⟨2, ![32768, 1]⟩
abbrev S2x1x16384 : Shape := ⟨3, ![2, 1, 16384]⟩

abbrev nBuf : Space → Nat
  | .hbm => 57
  | .vmem => 14
  | .smem => 0
  | _ => 0

abbrev bufTy : (tb : Table) → Fin (tcTables nBuf tb) → BufTy
  | .hbm, ⟨0, _⟩ => ⟨S2x16384x512, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S2x16384x512, .f32⟩
  | .hbm, ⟨12, _⟩ => ⟨S2x16384x32x16, .f32⟩
  | .hbm, ⟨13, _⟩ => ⟨S_, .f32⟩
  | .hbm, ⟨14, _⟩ => ⟨S2x32, .f32⟩
  | .hbm, ⟨15, _⟩ => ⟨S2x1x32x1, .f32⟩
  | .hbm, ⟨16, _⟩ => ⟨S_, .f32⟩
  | .hbm, ⟨17, _⟩ => ⟨S2x1x32x1, .f32⟩
  | .hbm, ⟨18, _⟩ => ⟨S2x1x32x1, .f32⟩
  | .hbm, ⟨19, _⟩ => ⟨S2x16384x32x16, .f32⟩
  | .hbm, ⟨20, _⟩ => ⟨S2x16384x32x16, .f32⟩
  | .hbm, ⟨21, _⟩ => ⟨S2x16384x32x16, .f32⟩
  | .hbm, ⟨22, _⟩ => ⟨S_, .f32⟩
  | .hbm, ⟨23, _⟩ => ⟨S2x32, .f32⟩
  | .hbm, ⟨24, _⟩ => ⟨S2x1x32x1, .f32⟩
  | .hbm, ⟨25, _⟩ => ⟨S_, .f32⟩
  | .hbm, ⟨26, _⟩ => ⟨S2x1x32x1, .f32⟩
  | .hbm, ⟨27, _⟩ => ⟨S2x1x32x1, .f32⟩
  | .hbm, ⟨28, _⟩ => ⟨S_, .f32⟩
  | .hbm, ⟨29, _⟩ => ⟨S2x1x32x1, .f32⟩
  | .hbm, ⟨30, _⟩ => ⟨S2x1x32x1, .f32⟩
  | .hbm, ⟨31, _⟩ => ⟨S2x1x32x1, .f32⟩
  | .hbm, ⟨32, _⟩ => ⟨S2x16384x32x16, .f32⟩
  | .hbm, ⟨33, _⟩ => ⟨S2x16384x32x16, .f32⟩
  | .hbm, ⟨34, _⟩ => ⟨S2x16384x512, .f32⟩
  | .hbm, ⟨35, _⟩ => ⟨S1x1x512, .f32⟩
  | .hbm, ⟨36, _⟩ => ⟨S2x16384x512, .f32⟩
  | .hbm, ⟨37, _⟩ => ⟨S2x16384x512, .f32⟩
  | .hbm, ⟨38, _⟩ => ⟨S1x1x512, .f32⟩
  | .hbm, ⟨39, _⟩ => ⟨S2x16384x512, .f32⟩
  | .hbm, ⟨40, _⟩ => ⟨S2x16384x512, .f32⟩
  | .hbm, ⟨41, _⟩ => ⟨S32768x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S32768x512, .bf16⟩
  | .hbm, ⟨48, _⟩ => ⟨S32768x512, .bf16⟩
  | .hbm, ⟨49, _⟩ => ⟨S32768x512, .bf16⟩
  | .hbm, ⟨50, _⟩ => ⟨S32768x512, .fp8e4m3⟩
  | .hbm, ⟨51, _⟩ => ⟨S32768, .f32⟩
  | .hbm, ⟨52, _⟩ => ⟨S2x16384x512, .bf16⟩
  | .hbm, ⟨53, _⟩ => ⟨S2x16384x512, .bf16⟩
  | .hbm, ⟨54, _⟩ => ⟨S2x16384x512, .bf16⟩
  | .hbm, ⟨55, _⟩ => ⟨S2x16384x512, .fp8e4m3⟩
  | .hbm, ⟨56, _⟩ => ⟨S2x1x16384, .f32⟩
  | .local _ .vmem, ⟨0, _⟩ => ⟨S32768x512, .f32⟩
  | .local _ .vmem, ⟨1, _⟩ => ⟨S512x512, .fp8e4m3⟩
  | .local _ .vmem, ⟨2, _⟩ => ⟨S512x512, .fp8e4m3⟩
  | .local _ .vmem, ⟨3, _⟩ => ⟨S512x512, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S32768x512, .bf16⟩
  | .local _ .vmem, ⟨10, _⟩ => ⟨S32768x512, .bf16⟩
  | .local _ .vmem, ⟨11, _⟩ => ⟨S32768x512, .bf16⟩
  | .local _ .vmem, ⟨12, _⟩ => ⟨S32768x512, .fp8e4m3⟩
  | .local _ .vmem, ⟨13, _⟩ => ⟨S32768, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v31_3 : Ref sig .tc := ⟨.hbm, 50, rfl⟩
abbrev main_v31_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32768x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32768x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32768x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32768x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Kernel.Trips.lean ====
/-
  Hand-written, untrusted. The two counted loops of `cc0_attention` (the stable softmax of one block of queries, entered
  where a row's sum of exponentials left the safe range), at the algebra of a body with copies of its own. One trip's
  effect on a buffer is stated on what the buffer READS: `VecWindow.put` over `VecWindow.window`s.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.VecWindow
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (Pipeline.UD sig nD τ) ℕ

/-- Trip `k` of the scores loop on (running maximum, scores buffer): the keys' rows `k` against the queries, the scaled
    scores put into the buffer, the maximum taken along. -/
def scoreStep (q : Vec F S1x256x512 .bf16) (dK : Vec F S16384x512 .bf16) (k : Fin k0_t1_loop.trips)
    (s : FVec F S256x1 .f32 × Vec F S256x16384 .f32) : FVec F S256x1 .f32 × Vec F S256x16384 .f32 :=
  (k0_pay106 s.1 q (window dK (k0_off3 k) S256x512.size (k0_off3_inb k)),
    put s.2 (k0_off4 k) S256x256.size (k0_pay105 q (window dK (k0_off3 k) S256x512.size (k0_off3_inb k))))

/-- Trip `k` of the exponentials loop on (running sum, scores buffer). -/
def expStep (top : FVec F S256x1 .f32) (k : Fin k0_t2_loop.trips)
    (s : FVec F S256x1 .f32 × Vec F S256x16384 .f32) : FVec F S256x1 .f32 × Vec F S256x16384 .f32 :=
  (k0_pay110 top s.1 (window s.2 (k0_off5 k) S256x256.size (k0_off5_inb k)),
    put s.2 (k0_off5 k) S256x256.size (k0_pay109 top (window s.2 (k0_off5 k) S256x256.size (k0_off5_inb k))))

/-- The state before trip `k`, by recursion on `k`. -/
def scoreSt (q : Vec F S1x256x512 .bf16) (dK : Vec F S16384x512 .bf16) (d : Vec F S256x16384 .f32) : ℕ → FVec F S256x1 .f32 × Vec F S256x16384 .f32
  | 0 => (k0_pay103, d)
  | k + 1 => if h : k < k0_t1_loop.trips then scoreStep q dK ⟨k, h⟩ (scoreSt q dK d k) else scoreSt q dK d k

def expSt (top : FVec F S256x1 .f32) (d : Vec F S256x16384 .f32) : ℕ → FVec F S256x1 .f32 × Vec F S256x16384 .f32
  | 0 => (k0_pay107, d)
  | k + 1 => if h : k < k0_t2_loop.trips then expStep top ⟨k, h⟩ (expSt top d k) else expSt top d k

theorem scoreSt_succ (q : Vec F S1x256x512 .bf16) (dK : Vec F S16384x512 .bf16) (d : Vec F S256x16384 .f32) (k : Fin k0_t1_loop.trips) :
    scoreSt q dK d (k.val + 1) = scoreStep q dK k (scoreSt q dK d k.val) := by rw [scoreSt.eq_2]; exact dif_pos k.isLt

theorem expSt_succ (top : FVec F S256x1 .f32) (d : Vec F S256x16384 .f32) (k : Fin k0_t2_loop.trips) :
    expSt top d (k.val + 1) = expStep top k (expSt top d k.val) := by rw [expSt.eq_2]; exact dif_pos k.isLt

theorem hz3 : (![0, 0, 0] : Fin 3 → ℕ) = fun _ => 0 := by funext a; fin_cases a <;> rfl
theorem hz2 : (![0, 0] : Fin 2 → ℕ) = fun _ => 0 := by funext a; fin_cases a <;> rfl

theorem score_trip (c : Dev nD) (E : Set ℕ) (i : grid0.Coords) (arg1 : Memref sig .tc .vmem S1x256x512 .bf16) (harg1 : arg1.IsWhole) (arg2 : Memref sig .tc .hbm S2x16384x512 .bf16) (harg2 : arg2.IsWhole) (arg3 : Memref sig .tc .hbm S2x16384x512 .bf16) (harg3 : arg3.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole) (arg17 : DmaSems sig S2)
    (v765 : FVec F S256x128 .f32) (v795 : FVec F S256x1024 .f32) (v798 : FVec F S256x1024 .f32)
    (q : Vec F S1x256x512 .bf16) (dK : Vec F S16384x512 .bf16) (d : Vec F S256x16384 .f32)
    (k : Fin k0_t1_loop.trips) (acc : FVec F S256x1 .f32) :
    iprop(owns (c : Thread nD τ) arg1 fullShare q ∗ owns (c : Thread nD τ) arg12 fullShare dK ∗ owns (c : Thread nD τ) arg14 fullShare d)
      ⊢ (wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v765 v795 v798 k acc)
          (fun yld => iprop(⌜yld = (scoreStep q dK k (acc, d)).1⌝ ∗ owns (c : Thread nD τ) arg1 fullShare q ∗ owns (c : Thread nD τ) arg12 fullShare dK
            ∗ owns (c : Thread nD τ) arg14 fullShare (scoreStep q dK k (acc, d)).2)) : sProp 𝕄) := by
  have hk : k.val < 64 := Nat.lt_of_lt_of_le k.isLt k0_t1_abs.2.1
  unfold k0_t1_body owns
  iintro ⟨⟨%f1, %h1, H1⟩, ⟨%f12, %h12, H12⟩, ⟨%f14, %h14, H14⟩⟩
  subst h1 h12 h14
  sl_exec
  sl_step
  isplitr
  · ipureintro
    show k0_pay106 acc _ _ = k0_pay106 acc _ _
    rw [View.readAt_full]; rfl
  isplitl [H1]; · iexists f1; isplitr; · ipureintro; rfl
                  iexact H1
  isplitl [H12]; · iexists f12; isplitr; · ipureintro; rfl
                   iexact H12
  iexists _; isplitr; swap; · iexact H14
  ipureintro
  rw [View.read_writes_cons_put _ _ _ _ _ rfl]
  show put _ _ _ _ = put _ _ _ _
  rw [View.readAt_full]; rfl

theorem exp_trip (c : Dev nD) (E : Set ℕ) (i : grid0.Coords) (arg1 : Memref sig .tc .vmem S1x256x512 .bf16) (harg1 : arg1.IsWhole) (arg2 : Memref sig .tc .hbm S2x16384x512 .bf16) (harg2 : arg2.IsWhole) (arg3 : Memref sig .tc .hbm S2x16384x512 .bf16) (harg3 : arg3.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole) (arg17 : DmaSems sig S2)
    (v765 : FVec F S256x128 .f32) (v795 : FVec F S256x1024 .f32) (v798 : FVec F S256x1024 .f32) (top : FVec F S256x1 .f32)
    (d : Vec F S256x16384 .f32)
    (k : Fin k0_t2_loop.trips) (acc : FVec F S256x1 .f32) :
    iprop(owns (c : Thread nD τ) arg14 fullShare d)
      ⊢ (wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v765 v795 v798 top k acc)
          (fun yld => iprop(⌜yld = (expStep top k (acc, d)).1⌝ ∗ owns (c : Thread nD τ) arg14 fullShare (expStep top k (acc, d)).2)) : sProp 𝕄) := by
  have hk : k.val < 64 := Nat.lt_of_lt_of_le k.isLt k0_t2_abs.2.1
  unfold k0_t2_body owns
  iintro ⟨%f14, %h14, H14⟩
  subst h14
  sl_exec
  sl_step
  isplitr
  · ipureintro; rfl
  iexists _; isplitr; swap; · iexact H14
  ipureintro
  rw [View.read_writes_cons_put _ _ _ _ _ rfl]
  rfl

end Cert.Kernel.Hand

end
-- ==== Proof.Kernel.Prefix.lean ====
/-
  Hand-written, untrusted. The head of `cc0_attention`'s body (`k0_part1`): the copy of the batch's keys on the first
  block of a batch, the copy of its values on the second, and the zeroing of the carried buffers at point 0.
-/
module

public import proofs.«01_k».proof.Proof.Kernel.Trips

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (Pipeline.UD sig nD τ) ℕ

/-- The keys, and the values, of the batch the copy at point `i` reads. -/
abbrev kSrc (i : grid0.Coords) (h : k0_cond1 i = 1#1) : Memref sig .tc .hbm S16384x512 .bf16 :=
  ((Memref.whole main_arg1 : Memref sig .tc .hbm S2x16384x512 .bf16).slice
    (Rect.unit (s := S2x16384x512) (k0_off1 i) S1x16384x512.size (k0_off1_inb i h)) (fun _ => rfl)).squeeze S16384x512 squeezes_S1x16384x512_S16384x512
abbrev vSrc (i : grid0.Coords) (h : k0_cond2 i = 1#1) : Memref sig .tc .hbm S16384x512 .bf16 :=
  ((Memref.whole main_arg2 : Memref sig .tc .hbm S2x16384x512 .bf16).slice
    (Rect.unit (s := S2x16384x512) (k0_off2 i) S1x16384x512.size (k0_off2_inb i h)) (fun _ => rfl)).squeeze S16384x512 squeezes_S1x16384x512_S16384x512

/-- The body's test for point 0. -/
abbrev cond0 (i : grid0.Coords) : BitVec 1 :=
  Scalar.cmpi .ne (Scalar.extui (Scalar.cmpi .eq (BitVec.ofNat 32 (i 0).val) 0#32) : BitVec 32) 0#32

/-- What the head leaves in the keys, values, scores and reciprocal buffers. -/
def headK (i : grid0.Coords) (fk : Vec F S2x16384x512 .bf16) (d : Vec F S16384x512 .bf16) : Vec F S16384x512 .bf16 :=
  if h : k0_cond1 i = 1#1 then (kSrc i h).view.read (Elt F) fk else d
def headV (i : grid0.Coords) (fv : Vec F S2x16384x512 .bf16) (d : Vec F S16384x512 .bf16) : Vec F S16384x512 .bf16 :=
  if cond0 i = 1#1 then k0_pay5 else if h : k0_cond2 i = 1#1 then (vSrc i h).view.read (Elt F) fv else d
def headE (i : grid0.Coords) (d : Vec F S256x16384 .f32) : Vec F S256x16384 .f32 := if cond0 i = 1#1 then k0_pay4 else d
def headI (i : grid0.Coords) (d : Vec F S256x128 .f32) : Vec F S256x128 .f32 := if cond0 i = 1#1 then k0_pay3 else d

/-- The keys' and the values' arrays, left in HBM, and such an array whole at contents `f`. -/
abbrev hbmK : Memref sig .tc .hbm S2x16384x512 .bf16 := Memref.whole main_arg1
abbrev hbmV : Memref sig .tc .hbm S2x16384x512 .bf16 := Memref.whole main_arg2
abbrev hbmPt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 1600000 in
theorem head_run (c : Dev nD) (i : grid0.Coords) (arg1 : Memref sig .tc .vmem S1x256x512 .bf16) (harg1 : arg1.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole)
    (fk : Buf (Elt F) ((c : Thread nD τ).loc main_arg1)) (fv : Buf (Elt F) ((c : Thread nD τ).loc main_arg2))
    (dK dV : Vec F S16384x512 .bf16) (dE : Vec F S256x16384 .f32) (dI : Vec F S256x128 .f32) (W : Waits sig Unit) :
    iprop(hbmPt c hbmK fk ∗ hbmPt c hbmV fv
        ∗ owns (c : Thread nD τ) arg12 fullShare dK ∗ owns (c : Thread nD τ) arg13 fullShare dV
        ∗ owns (c : Thread nD τ) arg14 fullShare dE ∗ owns (c : Thread nD τ) arg16 fullShare dI
        ∗ semVal ((c : Thread nD τ), SemLoc.dma 15) 0 ∗ semVal ((c : Thread nD τ), SemLoc.dma 16) 0
        ∗ owes (c : Thread nD τ) 0 W)
      ⊢ (wp frame (wpE (defs₀ (F := F)) Variants.none (c : Thread nD τ) none) Set.univ (k0_part1 (F := F) i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5)
          (fun v31 => iprop(⌜v31 = headI i dI⌝ ∗ hbmPt c hbmK fk ∗ hbmPt c hbmV fv
            ∗ owns (c : Thread nD τ) arg12 fullShare (headK i fk dK) ∗ owns (c : Thread nD τ) arg13 fullShare (headV i fv dV)
            ∗ owns (c : Thread nD τ) arg14 fullShare (headE i dE) ∗ owns (c : Thread nD τ) arg16 fullShare (headI i dI)
            ∗ semVal ((c : Thread nD τ), SemLoc.dma 15) 0 ∗ semVal ((c : Thread nD τ), SemLoc.dma 16) 0
            ∗ (∃ W', owes (c : Thread nD τ) 0 W'))) : sProp 𝕄) := by
  simp only [k0_part1_eq_skeleton]; unfold k0_part1_skel owns
  iintro ⟨Hk, Hv, ⟨%f12, %h12, H12⟩, ⟨%f13, %h13, H13⟩, ⟨%f14, %h14, H14⟩, ⟨%f16, %h16, H16⟩, Hs0, Hs1, HW⟩
  subst h12 h13 h14 h16
  by_cases hc1 : k0_cond1 i = 1#1 <;> by_cases hc2 : k0_cond2 i = 1#1 <;> by_cases hc0 : cond0 i = 1#1
  all_goals
    sl_exec
    sl_step
    isplitr
    · ipureintro
      first
        | rw [headI, if_pos hc0]; exact View.readCov_full _ _ _ _ _
        | rw [headI, if_neg hc0]; exact View.readAt_full _ _ _
    isplitl [Hk]; · iexact Hk
    isplitl [Hv]; · iexact Hv
    isplitl [H12]
    · iexists _; isplitr; swap; · iexact H12
      ipureintro
      first
        | rw [headK, dif_pos hc1]; exact View.read_writes_whole _ _ _
        | rw [headK, dif_neg hc1]
    isplitl [H13]
    · iexists _; isplitr; swap; · iexact H13
      ipureintro
      first
        | rw [headV, if_pos hc0]; exact View.read_writes_full _ _ _ _ _
        | rw [headV, if_neg hc0, dif_pos hc2]; exact View.read_writes_whole _ _ _
        | rw [headV, if_neg hc0, dif_neg hc2]
    isplitl [H14]
    · iexists _; isplitr; swap; · iexact H14
      ipureintro
      first
        | rw [headE, if_pos hc0]; exact View.read_writes_full _ _ _ _ _
        | rw [headE, if_neg hc0]
    isplitl [H16]
    · iexists _; isplitr; swap; · iexact H16
      ipureintro
      first
        | rw [headI, if_pos hc0]; exact View.read_writes_full _ _ _ _ _
        | rw [headI, if_neg hc0]
    isplitl [Hs0]; · iexact Hs0
    isplitl [Hs1]; · iexact Hs1
    iexists _; iexact HW

end Cert.Kernel.Hand

end
-- ==== Proof.Kernel.Canon.lean ====
/-
  Hand-written, untrusted. What one run of `cc0_attention`'s body computes, in closed form: the sixteen chunks of the
  straight-line part by recursion on the chunk, the unsafe branch's two loops, and the outputs.
-/
module

public import proofs.«01_k».proof.Proof.Kernel.Prefix

@[expose] public section

set_option maxRecDepth 16384

noncomputable section

namespace Cert.Kernel.Hand

open Cert.Kernel Cert.Kernel.Gen
open Idealize.ShloMosaic Idealize.ShloMosaic.TcCoe Idealize.ShloMosaic.Tactic
open VecWindow (window put)

variable {F : FTy → Type} [FloatOps F]

theorem rows_inb (n : ℕ) (h : n < 16) : ∀ a, (![1024 * n, 0] : Fin 2 → ℕ) a + S1024x512.size a ≤ S16384x512.size a := by
  intro a; fin_cases a
  · show 1024 * n + 1024 ≤ 16384; omega
  · show 0 + 512 ≤ 512; omega

theorem cols_inb (n : ℕ) (h : n < 16) : ∀ a, (![0, 1024 * n] : Fin 2 → ℕ) a + S256x1024.size a ≤ S256x16384.size a := by
  intro a; fin_cases a
  · show 0 + 256 ≤ 256; omega
  · show 1024 * n + 1024 ≤ 16384; omega

theorem lanes_inb (n : ℕ) (h : n < 128) : ∀ a, (![0, 128 * n] : Fin 2 → ℕ) a + S256x128.size a ≤ S256x16384.size a := by
  intro a; fin_cases a
  · show 0 + 256 ≤ 256; omega
  · show 128 * n + 128 ≤ 16384; omega

/-- Chunk `n` of the keys or of the values, and lane group `n` of the scores buffer. -/
def rowsAt (d : Vec F S16384x512 .bf16) (n : ℕ) (h : n < 16) : Vec F S1024x512 .bf16 :=
  window d ![1024 * n, 0] S1024x512.size (rows_inb n h)
def lanesAt (d : Vec F S256x16384 .f32) (n : ℕ) (h : n < 128) : Vec F S256x128 .f32 :=
  window d ![0, 128 * n] S256x128.size (lanes_inb n h)

/-- The exponentials of the new block of queries against chunk `n` of the keys. -/
def eC (q : Vec F S1x256x512 .bf16) (dK : Vec F S16384x512 .bf16) (n : ℕ) (h : n < 16) : FVec F S256x1024 .f32 :=
  k0_pay98 (k0_pay6 q) (rowsAt dK n h)

/-- Their sums by lane over the chunks up to `n`. -/
def lsum (q : Vec F S1x256x512 .bf16) (dK : Vec F S16384x512 .bf16) : (n : ℕ) → n < 16 → FVec F S256x128 .f32
  | 0, h => k0_pay10 (eC q dK 0 h)
  | n + 1, h => addf (lsum q dK n (by omega)) (k0_pay10 (eC q dK (n + 1) h))

/-- One chunk's weighted values added to the sum so far. -/
def accNext (dI : FVec F S256x128 .f32) (dE : Vec F S256x16384 .f32) (dV : Vec F S16384x512 .bf16) (n : ℕ) (h : n < 16)
    (a : Vec F S256x512 .f32) : FVec F S256x512 .f32 :=
  k0_pay97 dI (lanesAt dE (8 * n) (by omega)) (lanesAt dE (8 * n + 1) (by omega)) (lanesAt dE (8 * n + 2) (by omega))
    (lanesAt dE (8 * n + 3) (by omega)) (lanesAt dE (8 * n + 4) (by omega)) (lanesAt dE (8 * n + 5) (by omega))
    (lanesAt dE (8 * n + 6) (by omega)) (lanesAt dE (8 * n + 7) (by omega)) (rowsAt dV n h) a

/-- The previous block's output, summed over the chunks of values up to `n`. -/
def accC (dI : FVec F S256x128 .f32) (dE : Vec F S256x16384 .f32) (dV : Vec F S16384x512 .bf16) : (n : ℕ) → n < 16 → FVec F S256x512 .f32
  | 0, h => k0_pay7 dI (lanesAt dE 0 (by omega)) (lanesAt dE 1 (by omega)) (lanesAt dE 2 (by omega)) (lanesAt dE 3 (by omega))
      (lanesAt dE 4 (by omega)) (lanesAt dE 5 (by omega)) (lanesAt dE 6 (by omega)) (lanesAt dE 7 (by omega)) (rowsAt dV 0 h)
  | n + 1, h => accNext dI dE dV (n + 1) h (accC dI dE dV n (by omega))

theorem chunk_lt (y : S256x16384.Idx) : (y 1).val / 1024 < 16 := by have h : (y 1).val < 16384 := (y 1).isLt; omega

/-- The scores buffer once all sixteen chunks are stored. -/
def eFull (q : Vec F S1x256x512 .bf16) (dK : Vec F S16384x512 .bf16) : Vec F S256x16384 .f32 :=
  fun y => k0_pay9 (eC q dK ((y 1).val / 1024) (chunk_lt y)) (fun a => match a with
    | ⟨0, _⟩ => (y 0 : Fin 256)
    | ⟨1, _⟩ => (⟨(y 1).val % 1024, Nat.mod_lt _ (by decide)⟩ : Fin 1024))

/-- A store of chunk `n` agrees with `eFull`. -/
theorem eFull_piece (q : Vec F S1x256x512 .bf16) (dK : Vec F S16384x512 .bf16) (n : ℕ) (h : n < 16) (x : S256x1024.Idx) :
    k0_pay9 (eC q dK n h) x = eFull q dK ((Rect.unit (s := S256x16384) ![0, 1024 * n] S256x1024.size (cols_inb n h)).emb x) := by
  have hx : (x 1).val < 1024 := (x 1).isLt
  have e1 : (((Rect.unit (s := S256x16384) ![0, 1024 * n] S256x1024.size (cols_inb n h)).emb x) 1).val = 1024 * n + (x 1).val := by
    show 1024 * n + 1 * (x 1).val = _; omega
  have e0 : (((Rect.unit (s := S256x16384) ![0, 1024 * n] S256x1024.size (cols_inb n h)).emb x) 0).val = (x 0).val := by
    show 0 + 1 * (x 0).val = _; omega
  have key : ∀ (m : ℕ) (hm : m < 16) (z : S256x1024.Idx), m = n → z = x → k0_pay9 (eC q dK m hm) z = k0_pay9 (eC q dK n h) x := by
    rintro _ _ _ rfl rfl; rfl
  refine (key _ _ _ ?_ ?_).symm
  · rw [e1]; omega
  · funext a; fin_cases a
    · exact Fin.ext e0
    · exact Fin.ext ((congrArg (· % 1024) e1).trans (by show (1024 * n + (x 1).val) % 1024 = (x 1).val; omega))

theorem mem_chunk (n : ℕ) (h : n < 16) (y : S256x16384.Idx) (hy : (y 1).val / 1024 = n) :
    y ∈ (Rect.unit (s := S256x16384) ![0, 1024 * n] S256x1024.size (cols_inb n h)).set := by
  have h0 : (y 0).val < 256 := (y 0).isLt
  refine Rect.mem_set_unit.mpr fun a => ?_
  fin_cases a
  · show 0 ≤ (y 0).val ∧ (y 0).val < 0 + 256; omega
  · show 1024 * n ≤ (y 1).val ∧ (y 1).val < 1024 * n + 1024; omega

/-- The stores of the chunks up to `n` into the scores buffer, last first. -/
def ePieces (q : Vec F S1x256x512 .bf16) (dK : Vec F S16384x512 .bf16) : (n : ℕ) → n < 16 → List (View.Piece (Elt F) S256x16384 .f32)
  | 0, h => [⟨Rect.unit (s := S256x16384) ![0, 1024 * 0] S256x1024.size (cols_inb 0 h), k0_pay9 (eC q dK 0 h)⟩]
  | n + 1, h => ⟨Rect.unit (s := S256x16384) ![0, 1024 * (n + 1)] S256x1024.size (cols_inb (n + 1) h), k0_pay9 (eC q dK (n + 1) h)⟩
      :: ePieces q dK n (by omega)

theorem ePieces_agree (q : Vec F S1x256x512 .bf16) (dK : Vec F S16384x512 .bf16) (n : ℕ) (h : n < 16) :
    ∀ p ∈ ePieces q dK n h, ∀ x : p.1.shape.Idx, p.2 x = eFull q dK (p.1.emb x) := by
  induction n with
  | zero => intro p hp x; rcases List.mem_singleton.mp hp with rfl; exact eFull_piece q dK 0 h x
  | succ n ih =>
      intro p hp x
      rcases List.mem_cons.mp hp with rfl | hp
      · exact eFull_piece q dK (n + 1) h x
      · exact ih _ p hp x

theorem ePieces_cover (q : Vec F S1x256x512 .bf16) (dK : Vec F S16384x512 .bf16) (n : ℕ) (h : n < 16) (y : S256x16384.Idx)
    (hy : (y 1).val / 1024 ≤ n) : ∃ p : View.Piece (Elt F) S256x16384 .f32, p ∈ ePieces q dK n h ∧ y ∈ p.1.set := by
  induction n with
  | zero => exact ⟨_, List.mem_singleton.mpr rfl, mem_chunk 0 h y (by omega)⟩
  | succ n ih =>
      by_cases hn : (y 1).val / 1024 = n + 1
      · exact ⟨_, List.mem_cons_self, mem_chunk (n + 1) h y hn⟩
      · obtain ⟨p, hp, hy'⟩ := ih (by omega) (by omega)
        exact ⟨p, List.mem_cons_of_mem _ hp, hy'⟩

/-- The scores buffer after the sixteen stores. -/
theorem read_ePieces (v : View sig .tc .vmem S256x16384 .f32) (f : v.ty.Contents (Elt F)) (q : Vec F S1x256x512 .bf16)
    (dK : Vec F S16384x512 .bf16) : v.read (Elt F) (v.writes (Elt F) f (ePieces q dK 15 (by omega))) = eFull q dK :=
  funext fun y => View.read_writes_apply_of_pieces v f (eFull q dK) _ (ePieces_agree q dK 15 (by omega)) y
    (ePieces_cover q dK 15 (by omega) y (Nat.le_of_lt_succ (chunk_lt y)))

abbrev accRect : Rect S256x512 := Rect.unit (s := S256x512) ![0, 0] S256x512.size inb_S256x512_S256x512_0_0
/-- The store of chunk `n`'s sum over the stores `L` before it, whose result it reads back. -/
def accPush (v : View sig .tc .vmem S256x512 .f32) (dI : FVec F S256x128 .f32) (dE : Vec F S256x16384 .f32)
    (dV : Vec F S16384x512 .bf16) (n : ℕ) (h : n < 16) (L : List (View.Piece (Elt F) S256x512 .f32)) : List (View.Piece (Elt F) S256x512 .f32) :=
  ⟨accRect, accNext dI dE dV n h (v.readCov L accRect.toLoadRect)⟩ :: L

/-- The stores of the running output up to chunk `n`, each reading the one before it. -/
def accPieces (v : View sig .tc .vmem S256x512 .f32) (dI : FVec F S256x128 .f32) (dE : Vec F S256x16384 .f32)
    (dV : Vec F S16384x512 .bf16) : (n : ℕ) → n < 16 → List (View.Piece (Elt F) S256x512 .f32)
  | 0, h => [⟨accRect, accC dI dE dV 0 h⟩]
  | n + 1, h => accPush v dI dE dV (n + 1) h (accPieces v dI dE dV n (by omega))

theorem readCov_accPieces (v : View sig .tc .vmem S256x512 .f32) (dI : FVec F S256x128 .f32) (dE : Vec F S256x16384 .f32)
    (dV : Vec F S16384x512 .bf16) (n : ℕ) (h : n < 16) : v.readCov (accPieces v dI dE dV n h) accRect.toLoadRect = accC dI dE dV n h := by
  induction n with
  | zero => exact View.readCov_full _ _ _ _ _
  | succ n ih => exact (View.readCov_full _ _ _ _ _).trans (congrArg (accNext dI dE dV (n + 1) h) (ih _))

/-- Whether some row's sum of exponentials left the safe range. -/
def unsafeC (q : Vec F S1x256x512 .bf16) (dK : Vec F S16384x512 .bf16) : BitVec 1 :=
  Scalar.cmpi .ne (Scalar.extui (Scalar.xori (Scalar.cmpf .oeq (k0_pay102 (lsum q dK 14 (by omega)) (eC q dK 15 (by omega)))
    (Scalar.ofBits .f32 0x00000000#32)) 1#1) : BitVec 32) 0#32

/-- The scores and the row maxima after the first loop, the exponentials and their row sums after the second. -/
def scoreEnd (q : Vec F S1x256x512 .bf16) (dK : Vec F S16384x512 .bf16) : FVec F S256x1 .f32 × Vec F S256x16384 .f32 :=
  scoreSt q dK (eFull q dK) k0_t1_loop.trips
def expEnd (q : Vec F S1x256x512 .bf16) (dK : Vec F S16384x512 .bf16) : FVec F S256x1 .f32 × Vec F S256x16384 .f32 :=
  expSt (scoreEnd q dK).1 (scoreEnd q dK).2 k0_t2_loop.trips

/-- What a run leaves in the scores and the reciprocal buffers. -/
def nextE (q : Vec F S1x256x512 .bf16) (dK : Vec F S16384x512 .bf16) : Vec F S256x16384 .f32 :=
  if unsafeC q dK = 1#1 then (expEnd q dK).2 else eFull q dK
def nextI (q : Vec F S1x256x512 .bf16) (dK : Vec F S16384x512 .bf16) : Vec F S256x128 .f32 :=
  if unsafeC q dK = 1#1 then k0_pay111 (expEnd q dK).1 else k0_pay101 (lsum q dK 14 (by omega)) (eC q dK 15 (by omega))

/-- The quantised rows of a block's output `a`: their scales, their codes, and what the output windows are stored. -/
def tScale (a : Vec F S256x512 .f32) : FVec F S256x1 .f32 :=
  k0_pay118 (k0_pay113 (k0_pay112 a)) (k0_pay114 (k0_pay112 a)) (k0_pay115 (k0_pay112 a)) (k0_pay116 (k0_pay112 a))
def tCodes (a : Vec F S256x512 .f32) : FVec F S256x512 .fp8e4m3 :=
  k0_pay119 a (k0_pay113 (k0_pay112 a)) (k0_pay114 (k0_pay112 a)) (k0_pay115 (k0_pay112 a)) (k0_pay116 (k0_pay112 a))
def oCodes (a : Vec F S256x512 .f32) := k0_pay120 (tCodes a)
def oScale (a : Vec F S256x512 .f32) := k0_pay121 (tScale a)
def oProj (a : Vec F S256x512 .f32) (wo : Vec F S512x512 .fp8e4m3) (so bo : Vec F S1x512 .f32) :=
  k0_pay1 (k0_pay123 (tScale a) (tCodes a) wo so bo)
def oY (a : Vec F S256x512 .f32) (wo : Vec F S512x512 .fp8e4m3) (so bo : Vec F S1x512 .f32) (x : Vec F S1x256x512 .bf16) :=
  k0_pay2 (k0_pay122 (tScale a) (tCodes a) wo so bo) x

/-- The output of the block finished at a point: from the scratch buffers as the head leaves them. -/
def accAt (i : grid0.Coords) (fv : Vec F S2x16384x512 .bf16) (dV : Vec F S16384x512 .bf16) (dE : Vec F S256x16384 .f32)
    (dI : Vec F S256x128 .f32) : FVec F S256x512 .f32 :=
  accC (headI i dI) (headE i dE) (headV i fv dV) 15 (by omega)

end Cert.Kernel.Hand

end
-- ==== Proof.Kernel.Branch.lean ====
/-
  Hand-written, untrusted. The branch of `cc0_attention`'s body that redoes a block's softmax with the row maxima subtracted.
-/
module

public import proofs.«01_k».proof.Proof.Kernel.Canon

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (Pipeline.UD sig nD τ) ℕ

/-- The branch entered where a row's sum left the safe range: the two loops over the scores buffer and the new reciprocals. -/
theorem branch_run (c : Dev nD) (i : grid0.Coords) (arg1 : Memref sig .tc .vmem S1x256x512 .bf16) (harg1 : arg1.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole)
    (v765 : FVec F S256x128 .f32) (v795 : FVec F S256x1024 .f32) (v798 : FVec F S256x1024 .f32)
    (q : Vec F S1x256x512 .bf16) (dK : Vec F S16384x512 .bf16)
    {β : Type} (kk : PUnit.{1} → Prog (TpuEff nD τ sig (Elt F) Λ₀ .tc) β) (Q : β → sProp 𝕄) :
    iprop((owns (c : Thread nD τ) arg1 fullShare q ∗ owns (c : Thread nD τ) arg12 fullShare dK ∗ owns (c : Thread nD τ) arg14 fullShare (eFull q dK)
        ∗ owns (c : Thread nD τ) arg16 fullShare (k0_pay101 (lsum q dK 14 (by omega)) (eC q dK 15 (by omega))))
        ∗ ((owns (c : Thread nD τ) arg1 fullShare q ∗ owns (c : Thread nD τ) arg12 fullShare dK
            ∗ owns (c : Thread nD τ) arg14 fullShare (nextE q dK) ∗ owns (c : Thread nD τ) arg16 fullShare (nextI q dK))
          -∗ wp frame (wpE (defs₀ (F := F)) Variants.none (c : Thread nD τ) none) Set.univ (kk ⟨⟩) Q))
      ⊢ (wp frame (wpE (defs₀ (F := F)) Variants.none (c : Thread nD τ) none) Set.univ
          (if unsafeC q dK = 1#1 then do
            let v965 : FVec F S256x1 .f32 ← Scf.Loop.for k0_t1_loop k0_t1_ok (k0_pay103 (F := F)) (k0_t1_body i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798)
            let v968 : FVec F S256x1 .f32 ← Scf.Loop.for k0_t2_loop k0_t2_ok (k0_pay107 (F := F)) (k0_t2_body i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798 v965)
            let v973 : Vec F S256x128 .f32 ← Prog.lift (.load arg16 (Rect.unit (s := S256x128) ![0, 0] S256x128.size inb_S256x128_S256x128_0_0).toLoadRect (View.loadsAt_vmem h_S256x128))
            Prog.lift (.store arg16 (Rect.unit (s := S256x128) ![0, 0] S256x128.size inb_S256x128_S256x128_0_0) (k0_pay111 v968) Finset.univ (View.stores_vmem_bits_univ h_S256x128 rfl) (.inl rfl))
            kk ⟨⟩
          else kk ⟨⟩) Q : sProp 𝕄) := by
  iintro ⟨⟨H1, H12, H14, H16⟩, Hk⟩
  by_cases hU : unsafeC q dK = 1#1
  · rw [if_pos hU, nextE, if_pos hU, nextI, if_pos hU]
    sl_for (fun k acc => iprop(⌜acc = (scoreSt q dK (eFull q dK) k).1⌝ ∗ owns (c : Thread nD τ) arg1 fullShare q
        ∗ owns (c : Thread nD τ) arg12 fullShare dK
        ∗ owns (c : Thread nD τ) arg14 fullShare (scoreSt q dK (eFull q dK) k).2)) $$ [H1 H12 H14]
    case region =>
      intro k acc
      iintro ⟨%hacc, H1, H12, H14⟩
      subst hacc
      rw [scoreSt_succ]
      iapply (score_trip c Set.univ i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798 q dK (scoreSt q dK (eFull q dK) k.val).2 k (scoreSt q dK (eFull q dK) k.val).1)
      isplitl [H1]; · iexact H1
      isplitl [H12]; · iexact H12
      iexact H14
    · isplitr; · ipureintro; rfl
      isplitl [H1]; · iexact H1
      isplitl [H12]; · iexact H12
      iexact H14
    iintro %top ⟨%htop, H1, H12, H14⟩
    sl_for (fun k acc => iprop(⌜acc = (expSt top (scoreEnd q dK).2 k).1⌝
        ∗ owns (c : Thread nD τ) arg14 fullShare (expSt top (scoreEnd q dK).2 k).2)) $$ [H14]
    case region =>
      intro k acc
      iintro ⟨%hacc, H14⟩
      subst hacc
      rw [expSt_succ]
      iapply (exp_trip c Set.univ i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798 top (expSt top (scoreEnd q dK).2 k.val).2 k (expSt top (scoreEnd q dK).2 k.val).1)
      iexact H14
    · isplitr; · ipureintro; rfl
      iexact H14
    iintro %sum ⟨%hsum, H14⟩
    have htop' : top = (scoreEnd q dK).1 := htop
    subst htop'
    have hsum' : sum = (expEnd q dK).1 := hsum
    subst hsum'
    unfold owns
    icases H16 with ⟨%f16, %h16, H16⟩
    sl_exec
    iapply Hk
    isplitl [H1]; · iexact H1
    isplitl [H12]; · iexact H12
    isplitl [H14]; · iexact H14
    iexists _; isplitr; swap; · iexact H16
    ipureintro
    exact View.read_writes_full _ _ _ _ _
  · rw [if_neg hU, nextE, if_neg hU, nextI, if_neg hU]
    iapply Hk
    isplitl [H1]; · iexact H1
    isplitl [H12]; · iexact H12
    isplitl [H14]; · iexact H14
    iexact H16

end Cert.Kernel.Hand

end
-- ==== Proof.Kernel.Body.lean ====
/-
  Hand-written, untrusted. One run of `cc0_attention`'s body at any grid point: what it leaves in the scratch buffers and
  in its output windows, as the closed forms of `Canon`.
-/
module

public import proofs.«01_k».proof.Proof.Kernel.Branch

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (Pipeline.UD sig nD τ) ℕ

/-- One run: the input windows, the arrays left in HBM, the scratch buffers and the copies'
    semaphores. -/
theorem body_run (c : Dev nD) (i : grid0.Coords) (arg1 : Memref sig .tc .vmem S1x256x512 .bf16) (harg1 : arg1.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole)
    (fk : Buf (Elt F) ((c : Thread nD τ).loc main_arg1)) (fv : Buf (Elt F) ((c : Thread nD τ).loc main_arg2))
    (q x : Vec F S1x256x512 .bf16) (wo : Vec F S512x512 .fp8e4m3) (so bo : Vec F S1x512 .f32)
    (dK dV : Vec F S16384x512 .bf16) (dE : Vec F S256x16384 .f32) (dI : Vec F S256x128 .f32) (W : Waits sig Unit) :
    iprop(owns (c : Thread nD τ) arg1 fullShare q ∗ owns (c : Thread nD τ) arg4 fullShare x ∗ owns (c : Thread nD τ) arg5 fullShare wo
        ∗ owns (c : Thread nD τ) arg6 fullShare so ∗ owns (c : Thread nD τ) arg7 fullShare bo
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ hbmPt c hbmK fk ∗ hbmPt c hbmV fv
        ∗ owns (c : Thread nD τ) arg12 fullShare dK ∗ owns (c : Thread nD τ) arg13 fullShare dV
        ∗ owns (c : Thread nD τ) arg14 fullShare dE ∗ (∃ d, owns (c : Thread nD τ) arg15 fullShare d) ∗ owns (c : Thread nD τ) arg16 fullShare dI
        ∗ semVal ((c : Thread nD τ), SemLoc.dma 15) 0 ∗ semVal ((c : Thread nD τ), SemLoc.dma 16) 0
        ∗ owes (c : Thread nD τ) 0 W)
      ⊢ (wp frame (wpE (defs₀ (F := F)) Variants.none (c : Thread nD τ) none) Set.univ (cc0_attention (F := F) i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5)
        (fun _ => iprop(owns (c : Thread nD τ) arg1 fullShare q ∗ owns (c : Thread nD τ) arg4 fullShare x ∗ owns (c : Thread nD τ) arg5 fullShare wo
        ∗ owns (c : Thread nD τ) arg6 fullShare so ∗ owns (c : Thread nD τ) arg7 fullShare bo
        ∗ owns (c : Thread nD τ) arg8 fullShare (oY (accAt i fv dV dE dI) wo so bo x)
        ∗ owns (c : Thread nD τ) arg9 fullShare (oProj (accAt i fv dV dE dI) wo so bo)
        ∗ owns (c : Thread nD τ) arg10 fullShare (oCodes (accAt i fv dV dE dI))
        ∗ owns (c : Thread nD τ) arg11 fullShare (oScale (accAt i fv dV dE dI))
        ∗ hbmPt c hbmK fk ∗ hbmPt c hbmV fv
        ∗ owns (c : Thread nD τ) arg12 fullShare (headK i fk dK) ∗ owns (c : Thread nD τ) arg13 fullShare (headV i fv dV)
        ∗ owns (c : Thread nD τ) arg14 fullShare (nextE q (headK i fk dK)) ∗ (∃ d, owns (c : Thread nD τ) arg15 fullShare d)
        ∗ owns (c : Thread nD τ) arg16 fullShare (nextI q (headK i fk dK))
        ∗ semVal ((c : Thread nD τ), SemLoc.dma 15) 0 ∗ semVal ((c : Thread nD τ), SemLoc.dma 16) 0
        ∗ (∃ W', owes (c : Thread nD τ) 0 W'))) : sProp 𝕄) := by
  simp only [cc0_attention_eq_skeleton]; unfold cc0_attention_skel
  simp only [k0_part26_eq_skeleton]; unfold k0_part26_skel
  iintro ⟨H1, H4, H5, H6, H7, ⟨%d8, H8⟩, ⟨%d9, H9⟩, ⟨%d10, H10⟩, ⟨%d11, H11⟩, Hk, Hv, H12, H13, H14, ⟨%d15, H15⟩, H16, Hs0, Hs1, HW⟩
  rw [wp_bind, wp_bind]
  iapply (wp_wand_r Idealize.ShloMosaic.frame (wpE (defs₀ (F := F)) Variants.none (c : Thread nD τ) none) Set.univ)
  isplitl [Hk Hv H12 H13 H14 H16 Hs0 Hs1 HW]
  · iapply (head_run c i arg1 harg1 arg4 harg4 arg5 harg5 arg6 harg6 arg7 harg7 arg8 harg8 arg9 harg9 arg10 harg10 arg11 harg11 arg12 harg12 arg13 harg13 arg14 harg14 arg15 harg15 arg16 harg16 fk fv dK dV dE dI W)
    isplitl [Hk]; · iexact Hk
    isplitl [Hv]; · iexact Hv
    isplitl [H12]; · iexact H12
    isplitl [H13]; · iexact H13
    isplitl [H14]; · iexact H14
    isplitl [H16]; · iexact H16
    isplitl [Hs0]; · iexact Hs0
    isplitl [Hs1]; · iexact Hs1
    iexact HW
  iintro %v31 ⟨%hv31, Hk, Hv, H12, H13, H14, H16, Hs0, Hs1, ⟨%W', HW⟩⟩
  rw [← wp_bind]
  unfold owns
  icases H1 with ⟨%f1, %h1, H1⟩
  icases H4 with ⟨%f4, %h4, H4⟩
  icases H5 with ⟨%f5, %h5, H5⟩
  icases H6 with ⟨%f6, %h6, H6⟩
  icases H7 with ⟨%f7, %h7, H7⟩
  icases H8 with ⟨%f8, -, H8⟩
  icases H9 with ⟨%f9, -, H9⟩
  icases H10 with ⟨%f10, -, H10⟩
  icases H11 with ⟨%f11, -, H11⟩
  icases H12 with ⟨%f12, %h12, H12⟩
  icases H13 with ⟨%f13, %h13, H13⟩
  icases H14 with ⟨%f14, %h14, H14⟩
  icases H15 with ⟨%f15, -, H15⟩
  icases H16 with ⟨%f16, %h16, H16⟩
  sl_exec_parts!
  have hq : View.readAt (Elt F) arg1.view (Rect.unit (s := S1x256x512) ![0, 0, 0] S1x256x512.size inb_S1x256x512_S1x256x512_0_0_0).toLoadRect f1 = q := by
    rw [View.readAt_full]; exact h1
  have e14 : arg14.view.read (Elt F) (arg14.view.writes (Elt F) arg14.view.junk (body_run.sl.H14_16_1 c arg1 arg12 f1 f12)) = eFull q (headK i fk dK) := by
    rw [← hq, ← h12]
    exact read_ePieces arg14.view _ (View.readAt (Elt F) arg1.view (Rect.unit (s := S1x256x512) ![0, 0, 0] S1x256x512.size inb_S1x256x512_S1x256x512_0_0_0).toLoadRect f1) (arg12.view.read (Elt F) f12)
  have p1 : body_run.sl.H15_1 c arg13 arg14 v31 f13 f14 = accPieces arg15.view v31 (arg14.view.read (Elt F) f14) (arg13.view.read (Elt F) f13) 0 (by omega) := rfl
  have p2 : body_run.sl.H15_2 c arg13 arg14 arg15 v31 f13 f14 = accPieces arg15.view v31 (arg14.view.read (Elt F) f14) (arg13.view.read (Elt F) f13) 1 (by omega) := congrArg (accPush arg15.view v31 (arg14.view.read (Elt F) f14) (arg13.view.read (Elt F) f13) 1 (by omega)) p1
  have p3 : body_run.sl.H15_3 c arg13 arg14 arg15 v31 f13 f14 = accPieces arg15.view v31 (arg14.view.read (Elt F) f14) (arg13.view.read (Elt F) f13) 2 (by omega) := congrArg (accPush arg15.view v31 (arg14.view.read (Elt F) f14) (arg13.view.read (Elt F) f13) 2 (by omega)) p2
  have p4 : body_run.sl.H15_4 c arg13 arg14 arg15 v31 f13 f14 = accPieces arg15.view v31 (arg14.view.read (Elt F) f14) (arg13.view.read (Elt F) f13) 3 (by omega) := congrArg (accPush arg15.view v31 (arg14.view.read (Elt F) f14) (arg13.view.read (Elt F) f13) 3 (by omega)) p3
  have p5 : body_run.sl.H15_5 c arg13 arg14 arg15 v31 f13 f14 = accPieces arg15.view v31 (arg14.view.read (Elt F) f14) (arg13.view.read (Elt F) f13) 4 (by omega) := congrArg (accPush arg15.view v31 (arg14.view.read (Elt F) f14) (arg13.view.read (Elt F) f13) 4 (by omega)) p4
  have p6 : body_run.sl.H15_6 c arg13 arg14 arg15 v31 f13 f14 = accPieces arg15.view v31 (arg14.view.read (Elt F) f14) (arg13.view.read (Elt F) f13) 5 (by omega) := congrArg (accPush arg15.view v31 (arg14.view.read (Elt F) f14) (arg13.view.read (Elt F) f13) 5 (by omega)) p5
  have p7 : body_run.sl.H15_7 c arg13 arg14 arg15 v31 f13 f14 = accPieces arg15.view v31 (arg14.view.read (Elt F) f14) (arg13.view.read (Elt F) f13) 6 (by omega) := congrArg (accPush arg15.view v31 (arg14.view.read (Elt F) f14) (arg13.view.read (Elt F) f13) 6 (by omega)) p6
  have p8 : body_run.sl.H15_8 c arg13 arg14 arg15 v31 f13 f14 = accPieces arg15.view v31 (arg14.view.read (Elt F) f14) (arg13.view.read (Elt F) f13) 7 (by omega) := congrArg (accPush arg15.view v31 (arg14.view.read (Elt F) f14) (arg13.view.read (Elt F) f13) 7 (by omega)) p7
  have p9 : body_run.sl.H15_9 c arg13 arg14 arg15 v31 f13 f14 = accPieces arg15.view v31 (arg14.view.read (Elt F) f14) (arg13.view.read (Elt F) f13) 8 (by omega) := congrArg (accPush arg15.view v31 (arg14.view.read (Elt F) f14) (arg13.view.read (Elt F) f13) 8 (by omega)) p8
  have p10 : body_run.sl.H15_10 c arg13 arg14 arg15 v31 f13 f14 = accPieces arg15.view v31 (arg14.view.read (Elt F) f14) (arg13.view.read (Elt F) f13) 9 (by omega) := congrArg (accPush arg15.view v31 (arg14.view.read (Elt F) f14) (arg13.view.read (Elt F) f13) 9 (by omega)) p9
  have p11 : body_run.sl.H15_11 c arg13 arg14 arg15 v31 f13 f14 = accPieces arg15.view v31 (arg14.view.read (Elt F) f14) (arg13.view.read (Elt F) f13) 10 (by omega) := congrArg (accPush arg15.view v31 (arg14.view.read (Elt F) f14) (arg13.view.read (Elt F) f13) 10 (by omega)) p10
  have p12 : body_run.sl.H15_12 c arg13 arg14 arg15 v31 f13 f14 = accPieces arg15.view v31 (arg14.view.read (Elt F) f14) (arg13.view.read (Elt F) f13) 11 (by omega) := congrArg (accPush arg15.view v31 (arg14.view.read (Elt F) f14) (arg13.view.read (Elt F) f13) 11 (by omega)) p11
  have p13 : body_run.sl.H15_13 c arg13 arg14 arg15 v31 f13 f14 = accPieces arg15.view v31 (arg14.view.read (Elt F) f14) (arg13.view.read (Elt F) f13) 12 (by omega) := congrArg (accPush arg15.view v31 (arg14.view.read (Elt F) f14) (arg13.view.read (Elt F) f13) 12 (by omega)) p12
  have p14 : body_run.sl.H15_14 c arg13 arg14 arg15 v31 f13 f14 = accPieces arg15.view v31 (arg14.view.read (Elt F) f14) (arg13.view.read (Elt F) f13) 13 (by omega) := congrArg (accPush arg15.view v31 (arg14.view.read (Elt F) f14) (arg13.view.read (Elt F) f13) 13 (by omega)) p13
  have p15 : body_run.sl.H15_15 c arg13 arg14 arg15 v31 f13 f14 = accPieces arg15.view v31 (arg14.view.read (Elt F) f14) (arg13.view.read (Elt F) f13) 14 (by omega) := congrArg (accPush arg15.view v31 (arg14.view.read (Elt F) f14) (arg13.view.read (Elt F) f13) 14 (by omega)) p14
  have p16 : body_run.sl.H15_16 c arg13 arg14 arg15 v31 f13 f14 = accPieces arg15.view v31 (arg14.view.read (Elt F) f14) (arg13.view.read (Elt F) f13) 15 (by omega) := congrArg (accPush arg15.view v31 (arg14.view.read (Elt F) f14) (arg13.view.read (Elt F) f13) 15 (by omega)) p15
  have e15 : arg15.view.readCov (body_run.sl.H15_16 c arg13 arg14 arg15 v31 f13 f14) accRect.toLoadRect = accAt i fv dV dE dI := by
    rw [accAt, ← h13, ← h14, ← hv31]
    rw [p16]
    exact readCov_accPieces arg15.view v31 (arg14.view.read (Elt F) f14) (arg13.view.read (Elt F) f13) 15 (by omega)
  have eU : body_run.sl.v839 c arg1 arg12 f1 f12 = unsafeC q (headK i fk dK) := by
    rw [← hq, ← h12]; rfl
  have e16 : arg16.view.read (Elt F) (arg16.view.writes (Elt F) arg16.view.junk (body_run.sl.H16_1_1 c arg1 arg12 f1 f12))
      = k0_pay101 (lsum q (headK i fk dK) 14 (by omega)) (eC q (headK i fk dK) 15 (by omega)) := by
    rw [← hq, ← h12]; exact View.read_writes_full _ _ _ _ _
  rw [eU]
  generalize arg14.view.writes (Elt F) arg14.view.junk (body_run.sl.H14_16_1 c arg1 arg12 f1 f12) = g14 at e14 ⊢
  generalize arg16.view.writes (Elt F) arg16.view.junk (body_run.sl.H16_1_1 c arg1 arg12 f1 f12) = g16 at e16 ⊢
  iapply (branch_run (β := Σ' (v840 : Vec F S256x512 .f32), FVec F S256x512 .f32) c i arg1 harg1 arg4 harg4 arg5 harg5 arg6 harg6 arg7 harg7 arg8 harg8 arg9 harg9 arg10 harg10 arg11 harg11 arg12 harg12 arg13 harg13 arg14 harg14 arg15 harg15 arg16 harg16 _ _ _ q (headK i fk dK)
    (fun (_ : PUnit.{1}) => do
      let v840 : Vec F S256x512 .f32 ← Prog.lift (.load arg15 (Rect.unit (s := S256x512) ![0, 0] S256x512.size inb_S256x512_S256x512_0_0).toLoadRect (View.loadsAt_vmem h_S256x512))
      pure ⟨v840, k0_pay112 v840⟩) _)
  isplitl [H1 H12 H14 H16]
  · isplitl [H1]; · unfold owns; iexists f1; isplitr; · ipureintro; exact h1
                    iexact H1
    isplitl [H12]; · unfold owns; iexists f12; isplitr; · ipureintro; exact h12
                     iexact H12
    isplitl [H14]; · unfold owns; iexists g14; isplitr; · ipureintro; exact e14
                     iexact H14
    unfold owns; iexists g16; isplitr; · ipureintro; exact e16
    iexact H16
  iintro ⟨H1, H12, H14, H16⟩
  sl_exec
  sl_step
  unfold owns
  isplitl [H1]; · iexact H1
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  have hx : View.readAt (Elt F) arg4.view (Rect.unit (s := S1x256x512) ![0, 0, 0] S1x256x512.size inb_S1x256x512_S1x256x512_0_0_0).toLoadRect f4 = x := by
    rw [View.readAt_full]; exact h4
  have hwo : View.readAt (Elt F) arg5.view (Rect.unit (s := S512x512) ![0, 0] S512x512.size inb_S512x512_S512x512_0_0).toLoadRect f5 = wo := by
    rw [View.readAt_full]; exact h5
  have hso : View.readAt (Elt F) arg6.view (Rect.unit (s := S1x512) ![0, 0] S1x512.size inb_S1x512_S1x512_0_0).toLoadRect f6 = so := by
    rw [View.readAt_full]; exact h6
  have hbo : View.readAt (Elt F) arg7.view (Rect.unit (s := S1x512) ![0, 0] S1x512.size inb_S1x512_S1x512_0_0).toLoadRect f7 = bo := by
    rw [View.readAt_full]; exact h7
  isplitl [H8]
  · iexists _; isplitr; swap; · iexact H8
    ipureintro
    rw [← hx, ← hwo, ← hso, ← hbo]
    exact View.read_writes_full _ _ _ _ _
  isplitl [H9]
  · iexists _; isplitr; swap; · iexact H9
    ipureintro
    rw [← hwo, ← hso, ← hbo]
    exact View.read_writes_full _ _ _ _ _
  isplitl [H10]
  · iexists _; isplitr; swap; · iexact H10
    ipureintro
    exact View.read_writes_full _ _ _ _ _
  isplitl [H11]
  · iexists _; isplitr; swap; · iexact H11
    ipureintro
    exact View.read_writes_full _ _ _ _ _
  isplitl [Hk]; · iexact Hk
  isplitl [Hv]; · iexact Hv
  isplitl [H12]; · iexact H12
  isplitl [H13]; · iexists f13; isplitr; · ipureintro; exact h13
                   iexact H13
  isplitl [H14]; · iexact H14
  isplitl [H15]; · iexists _; iexists _; isplitr; swap; · iexact H15
                   ipureintro; rfl
  isplitl [H16]; · iexact H16
  isplitl [Hs0]; · iexact Hs0
  isplitl [Hs1]; · iexact Hs1
  iexists _; iexact HW

end Cert.Kernel.Hand

end
-- ==== Proof.Kernel.Frame.lean ====
/-
  Hand-written, untrusted. The run of the whole program: every grid point's scratch contents and outputs as a function
  of the launch arrays (point 0 resets whatever the scratch held), the pipeline's proof data over them, the run, and the
  frame: termination without a fault, the arguments unchanged, every semaphore counter back at zero.
-/
module

public import proofs.«01_k».proof.Proof.Kernel.Body
public import proofs.«01_k».proof.Proof.Gen.Kernel.Frame
public import proofs.«01_k».proof.Proof.Gen.Kernel.Points
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The carried state -/

/-- What the scratch buffers carry from one grid point to the next: keys, values, exponentials, reciprocals. -/
structure St (F : FTy → Type) [FloatOps F] where
  K : Vec F S16384x512 .bf16
  V : Vec F S16384x512 .bf16
  E : Vec F S256x16384 .f32
  I : Vec F S256x128 .f32

/-- One grid point on the carried state. -/
def stepSt (c : Dev nD) (t : Fin cfg0.N) (s : St F) : St F where
  K := headK (grid0.coords t) (V m c main_arg1) s.K
  V := headV (grid0.coords t) (V m c main_arg2) s.V
  E := nextE (iblk m c 0 t) (headK (grid0.coords t) (V m c main_arg1) s.K)
  I := nextI (iblk m c 0 t) (headK (grid0.coords t) (V m c main_arg1) s.K)

/-- The state before grid point `n` (`n > 0`; at 0 any value serves). -/
def stAt (c : Dev nD) : ℕ → St F
  | 0 => ⟨k0_pay5, k0_pay5, k0_pay4, k0_pay3⟩
  | n + 1 => if h : n < cfg0.N then stepSt m c ⟨n, h⟩ (stAt c n) else stAt c n

theorem stAt_succ (c : Dev nD) (t : Fin cfg0.N) : stAt m c (t.val + 1) = stepSt m c t (stAt m c t.val) := by
  rw [stAt, dif_pos t.isLt]

/-- The unnormalised rows grid point `t` quantises and projects. -/
def accOf (c : Dev nD) (t : Fin cfg0.N) : FVec F S256x512 .f32 :=
  accAt (grid0.coords t) (V m c main_arg2) (stAt m c t.val).V (stAt m c t.val).E (stAt m c t.val).I

/-- The body's three tests, at the grid's points. -/
theorem cond1_iff : ∀ t : Fin cfg0.N, k0_cond1 (grid0.coords t) = 1#1 ↔ t.val % 64 = 0 ∧ t.val < 128 :=
  (by decide +kernel : ∀ t : Fin grid0.N, k0_cond1 (grid0.coords t) = 1#1 ↔ t.val % 64 = 0 ∧ t.val < 128)
theorem cond2_iff : ∀ t : Fin cfg0.N, k0_cond2 (grid0.coords t) = 1#1 ↔ t.val % 64 = 1 :=
  (by decide +kernel : ∀ t : Fin grid0.N, k0_cond2 (grid0.coords t) = 1#1 ↔ t.val % 64 = 1)
theorem cond0_iff : ∀ t : Fin cfg0.N, cond0 (grid0.coords t) = 1#1 ↔ t.val = 0 :=
  (by decide +kernel : ∀ t : Fin grid0.N, cond0 (grid0.coords t) = 1#1 ↔ t.val = 0)

/-- Grid point 0 does not depend on what the scratch held. -/
theorem stepSt_zero (c : Dev nD) (t : Fin cfg0.N) (s s' : St F) (h : t.val ≠ 0 → s = s') : stepSt m c t s = stepSt m c t s' := by
  by_cases h0 : t.val = 0
  · have h1 := (cond1_iff t).mpr ⟨by omega, by omega⟩
    have h2 := (cond0_iff t).mpr h0
    unfold stepSt headK headV
    simp only [dif_pos h1, if_pos h2]
  · rw [h h0]
theorem accAt_zero (c : Dev nD) (t : Fin cfg0.N) (s s' : St F) (h : t.val ≠ 0 → s = s') :
    accAt (grid0.coords t) (V m c main_arg2) s.V s.E s.I = accAt (grid0.coords t) (V m c main_arg2) s'.V s'.E s'.I := by
  by_cases h0 : t.val = 0
  · have h2 := (cond0_iff t).mpr h0
    unfold accAt headV headE headI
    simp only [if_pos h2]
  · rw [h h0]

/-! ## The launch's resources -/

abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The HBM operands the body's transfers read: the keys and the values. -/
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbmPt c hbmK (V m c main_arg1) ∗ hbmPt c hbmV (V m c main_arg2)) := by
  rw [BI.bigSep_eq_bigSepL_of_eq [main_arg1, main_arg2] (by decide) (by decide)]; rfl

abbrev scr0 : Memref sig .tc .vmem S16384x512 .bf16 := Memref.whole cc0_scratch0
abbrev scr1 : Memref sig .tc .vmem S16384x512 .bf16 := Memref.whole cc0_scratch1
abbrev scr2 : Memref sig .tc .vmem S256x16384 .f32 := Memref.whole cc0_scratch2
abbrev scr3 : Memref sig .tc .vmem S256x512 .f32 := Memref.whole cc0_scratch3
abbrev scr4 : Memref sig .tc .vmem S256x128 .f32 := Memref.whole cc0_scratch4

theorem PhiD_eq (c : Dev nD) :
    (Pipeline.ΦD osem0 spec0 H0 (V m) c : sProp 𝕄)
      = iprop(iprop((∃ d, owns (c : Thread nD τ) scr0 fullShare d) ∗ (∃ d, owns (c : Thread nD τ) scr1 fullShare d)
                ∗ (∃ d, owns (c : Thread nD τ) scr2 fullShare d) ∗ (∃ d, owns (c : Thread nD τ) scr3 fullShare d)
                ∗ (∃ d, owns (c : Thread nD τ) scr4 fullShare d))
          ∗ (∃ r, prngReg c r)
          ∗ iprop(semVal ((c : Thread nD τ), SemLoc.dma 15) 0 ∗ semVal ((c : Thread nD τ), SemLoc.dma 16) 0)
          ∗ iprop(hbmPt c hbmK (V m c main_arg1) ∗ hbmPt c hbmV (V m c main_arg2))) := by
  rw [Pipeline.ΦD_eq, scopedRest0_eq, ownSems00_eq, hbmPts0_eq]
  simp only [scr0, scr1, scr2, scr3, scr4, owns_whole]; try rfl

/-- The invariant before point `n`: the scratch at `stAt` (at anything before point 0), the copies' cells at zero. -/
def Phi (c : Dev nD) (n : ℕ) : sProp 𝕄 :=
  iprop(∃ s : St F, ⌜n ≠ 0 → s = stAt m c n⌝ ∗ owns (c : Thread nD τ) scr0 fullShare s.K ∗ owns (c : Thread nD τ) scr1 fullShare s.V
    ∗ owns (c : Thread nD τ) scr2 fullShare s.E ∗ (∃ d, owns (c : Thread nD τ) scr3 fullShare d) ∗ owns (c : Thread nD τ) scr4 fullShare s.I
    ∗ (∃ r, prngReg c r)
    ∗ semVal ((c : Thread nD τ), SemLoc.dma 15) 0 ∗ semVal ((c : Thread nD τ), SemLoc.dma 16) 0
    ∗ hbmPt c hbmK (V m c main_arg1) ∗ hbmPt c hbmV (V m c main_arg2))

theorem Phi_in (c : Dev nD) : (Pipeline.ΦD osem0 spec0 H0 (V m) c : sProp 𝕄) ⊢ Phi m c 0 := by
  rw [PhiD_eq]; unfold Phi
  iintro ⟨⟨⟨%d0, H0⟩, ⟨%d1, H1⟩, ⟨%d2, H2⟩, H3, ⟨%d4, H4⟩⟩, Hg, ⟨Hs0, Hs1⟩, Hk, Hv⟩
  iexists (⟨d0, d1, d2, d4⟩ : St F)
  isplitr; · ipureintro; exact fun h => absurd rfl h
  isplitl [H0]; · iexact H0
  isplitl [H1]; · iexact H1
  isplitl [H2]; · iexact H2
  isplitl [H3]; · iexact H3
  isplitl [H4]; · iexact H4
  isplitl [Hg]; · iexact Hg
  isplitl [Hs0]; · iexact Hs0
  isplitl [Hs1]; · iexact Hs1
  isplitl [Hk]; · iexact Hk
  iexact Hv

theorem Phi_out (c : Dev nD) (n : ℕ) : Phi m c n ⊢ (Pipeline.ΦD osem0 spec0 H0 (V m) c : sProp 𝕄) := by
  rw [PhiD_eq]; unfold Phi
  iintro ⟨%s, -, H0, H1, H2, H3, H4, Hg, Hs0, Hs1, Hk, Hv⟩
  isplitl [H0 H1 H2 H3 H4]
  · isplitl [H0]; · iexists _; iexact H0
    isplitl [H1]; · iexists _; iexact H1
    isplitl [H2]; · iexists _; iexact H2
    isplitl [H3]; · iexact H3
    iexists _; iexact H4
  isplitl [Hg]; · iexact Hg
  isplitl [Hs0 Hs1]
  · isplitl [Hs0]; · iexact Hs0
    iexact Hs1
  isplitl [Hk]; · iexact Hk
  iexact Hv

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The pipeline's data -/

def outY (c : Dev nD) (t : Fin cfg0.N) : Vec F S1x256x512 .bf16 := oY (accOf m c t) (iblk m c 2 t) (iblk m c 3 t) (iblk m c 4 t) (iblk m c 1 t)
def outProj (c : Dev nD) (t : Fin cfg0.N) : Vec F S1x256x512 .bf16 := oProj (accOf m c t) (iblk m c 2 t) (iblk m c 3 t) (iblk m c 4 t)
def outCodes (c : Dev nD) (t : Fin cfg0.N) : Vec F S1x256x512 .fp8e4m3 := oCodes (accOf m c t)
def outScale (c : Dev nD) (t : Fin cfg0.N) : Vec F S1x1x256 .f32 := oScale (accOf m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY m c t
    | ⟨6, _⟩ => outProj m c t
    | ⟨7, _⟩ => outCodes m c t
    | ⟨8, _⟩ => outScale m c t
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outY m c t := by dsimp only [dats]
theorem after0_6 (c : Dev nD) (t : Fin cfg0.N) : (dats m 0 c).after 6 t = outProj m c t := by dsimp only [dats]
theorem after0_7 (c : Dev nD) (t : Fin cfg0.N) : (dats m 0 c).after 7 t = outCodes m c t := by dsimp only [dats]
theorem after0_8 (c : Dev nD) (t : Fin cfg0.N) : (dats m 0 c).after 8 t = outScale m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Dat.owesAt Pipeline.owesWithin
  rw [show (dats m 0 c).owed t.castSucc = 0 from rfl, show (dats m 0 c).owed t.succ = 0 from rfl]
  simp only [before0_0, before0_1, before0_2, before0_3, before0_4]
  rw [after0_0, after0_1, after0_2, after0_3, after0_4, after0_5, after0_6, after0_7, after0_8]
  unfold Phi
  iintro ⟨⟨%s, %hs, HK, HV, HE, HA, HI, Hg, Hs0, Hs1, Hk, Hv⟩, ⟨%W, -, HW⟩, ⟨%d0, H0⟩, ⟨%d1, H1⟩, ⟨%d2, H2⟩, ⟨%d3, H3⟩, ⟨%d4, H4⟩,
    ⟨%d5, H5⟩, ⟨%d6, H6⟩, ⟨%d7, H7⟩, ⟨%d8, H8⟩⟩
  iapply (wp_wand_r Idealize.ShloMosaic.frame (wpE (defs₀ (F := F)) Variants.none (c : Thread nD τ) none) Set.univ)
  isplitr [Hg]
  · iapply (body_run c (grid0.coords t) (st0_0 t) (hstage0_0 _) (st0_1 t) (hstage0_1 _) (st0_2 t) (hstage0_2 _) (st0_3 t) (hstage0_3 _) (st0_4 t) (hstage0_4 _)
      (st0_5 t) (hstage0_5 _) (st0_6 t) (hstage0_6 _) (st0_7 t) (hstage0_7 _) (st0_8 t) (hstage0_8 _)
      scr0 (Memref.isWhole_whole _) scr1 (Memref.isWhole_whole _) scr2 (Memref.isWhole_whole _) scr3 (Memref.isWhole_whole _) scr4 (Memref.isWhole_whole _)
      (V m c main_arg1) (V m c main_arg2) (iblk m c 0 t) (iblk m c 1 t) (iblk m c 2 t) (iblk m c 3 t) (iblk m c 4 t) s.K s.V s.E s.I W)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [Hk]; · iexact Hk
    isplitl [Hv]; · iexact Hv
    isplitl [HK]; · iexact HK
    isplitl [HV]; · iexact HV
    isplitl [HE]; · iexact HE
    isplitl [HA]; · iexact HA
    isplitl [HI]; · iexact HI
    isplitl [Hs0]; · iexact Hs0
    isplitl [Hs1]; · iexact Hs1
    iexact HW
  rw [accAt_zero m c t s (stAt m c t.val) hs]
  iintro %u ⟨H0, H1, H2, H3, H4, H5, H6, H7, H8, Hk, Hv, HK, HV, HE, HA, HI, Hs0, Hs1, ⟨%W', HW'⟩⟩
  isplitl [HK HV HE HA HI Hg Hs0 Hs1 Hk Hv]
  · iexists (stepSt m c t s)
    isplitr; · ipureintro; exact fun _ => (stepSt_zero m c t s _ hs).trans (stAt_succ m c t).symm
    isplitl [HK]; · iexact HK
    isplitl [HV]; · iexact HV
    isplitl [HE]; · iexact HE
    isplitl [HA]; · iexact HA
    isplitl [HI]; · iexact HI
    isplitl [Hg]; · iexact Hg
    isplitl [Hs0]; · iexact Hs0
    isplitl [Hs1]; · iexact Hs1
    isplitl [Hk]; · iexact Hk
    iexact Hv
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

/-- A run's post at the argument arrays. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 1).trans (((dats m 0 c).arrAt_in 1 rfl _).trans ((A_eq m c 1).trans (V_main_arg3 m c))),
    ((h c).1 2).trans (((dats m 0 c).arrAt_in 2 rfl _).trans ((A_eq m c 2).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- THE FRAME, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_kept m h.1 c, h.2⟩) (run_main m ρ)

end Cert.Kernel.Hand

end
-- ==== Proof.KernelIdeal.Trips.lean ====
/-
  Hand-written, untrusted. The two counted loops of `cc0_attention` (the stable softmax of one block of queries, entered
  where a row's sum of exponentials left the safe range), at the algebra of a body with copies of its own. One trip's
  effect on a buffer is stated on what the buffer READS: `VecWindow.put` over `VecWindow.window`s.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (Pipeline.UD sig nD τ) ℕ

/-- Trip `k` of the scores loop on (running maximum, scores buffer): the keys' rows `k` against the queries, the scaled
    scores put into the buffer, the maximum taken along. -/
def scoreStep (q : Vec F S1x256x512 .bf16) (dK : Vec F S16384x512 .bf16) (k : Fin k0_t1_loop.trips)
    (s : FVec F S256x1 .f32 × Vec F S256x16384 .f32) : FVec F S256x1 .f32 × Vec F S256x16384 .f32 :=
  (k0_pay106 s.1 q (window dK (k0_off3 k) S256x512.size (k0_off3_inb k)),
    put s.2 (k0_off4 k) S256x256.size (k0_pay105 q (window dK (k0_off3 k) S256x512.size (k0_off3_inb k))))

/-- Trip `k` of the exponentials loop on (running sum, scores buffer). -/
def expStep (top : FVec F S256x1 .f32) (k : Fin k0_t2_loop.trips)
    (s : FVec F S256x1 .f32 × Vec F S256x16384 .f32) : FVec F S256x1 .f32 × Vec F S256x16384 .f32 :=
  (k0_pay110 top s.1 (window s.2 (k0_off5 k) S256x256.size (k0_off5_inb k)),
    put s.2 (k0_off5 k) S256x256.size (k0_pay109 top (window s.2 (k0_off5 k) S256x256.size (k0_off5_inb k))))

/-- The state before trip `k`, by recursion on `k`. -/
def scoreSt (q : Vec F S1x256x512 .bf16) (dK : Vec F S16384x512 .bf16) (d : Vec F S256x16384 .f32) : ℕ → FVec F S256x1 .f32 × Vec F S256x16384 .f32
  | 0 => (k0_pay103, d)
  | k + 1 => if h : k < k0_t1_loop.trips then scoreStep q dK ⟨k, h⟩ (scoreSt q dK d k) else scoreSt q dK d k

def expSt (top : FVec F S256x1 .f32) (d : Vec F S256x16384 .f32) : ℕ → FVec F S256x1 .f32 × Vec F S256x16384 .f32
  | 0 => (k0_pay107, d)
  | k + 1 => if h : k < k0_t2_loop.trips then expStep top ⟨k, h⟩ (expSt top d k) else expSt top d k

theorem scoreSt_succ (q : Vec F S1x256x512 .bf16) (dK : Vec F S16384x512 .bf16) (d : Vec F S256x16384 .f32) (k : Fin k0_t1_loop.trips) :
    scoreSt q dK d (k.val + 1) = scoreStep q dK k (scoreSt q dK d k.val) := by rw [scoreSt.eq_2]; exact dif_pos k.isLt

theorem expSt_succ (top : FVec F S256x1 .f32) (d : Vec F S256x16384 .f32) (k : Fin k0_t2_loop.trips) :
    expSt top d (k.val + 1) = expStep top k (expSt top d k.val) := by rw [expSt.eq_2]; exact dif_pos k.isLt

theorem hz3 : (![0, 0, 0] : Fin 3 → ℕ) = fun _ => 0 := by funext a; fin_cases a <;> rfl
theorem hz2 : (![0, 0] : Fin 2 → ℕ) = fun _ => 0 := by funext a; fin_cases a <;> rfl

theorem score_trip (c : Dev nD) (E : Set ℕ) (i : grid0.Coords) (arg1 : Memref sig .tc .vmem S1x256x512 .bf16) (harg1 : arg1.IsWhole) (arg2 : Memref sig .tc .hbm S2x16384x512 .bf16) (harg2 : arg2.IsWhole) (arg3 : Memref sig .tc .hbm S2x16384x512 .bf16) (harg3 : arg3.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole) (arg17 : DmaSems sig S2)
    (v765 : FVec F S256x128 .f32) (v795 : FVec F S256x1024 .f32) (v798 : FVec F S256x1024 .f32)
    (q : Vec F S1x256x512 .bf16) (dK : Vec F S16384x512 .bf16) (d : Vec F S256x16384 .f32)
    (k : Fin k0_t1_loop.trips) (acc : FVec F S256x1 .f32) :
    iprop(owns (c : Thread nD τ) arg1 fullShare q ∗ owns (c : Thread nD τ) arg12 fullShare dK ∗ owns (c : Thread nD τ) arg14 fullShare d)
      ⊢ (wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v765 v795 v798 k acc)
          (fun yld => iprop(⌜yld = (scoreStep q dK k (acc, d)).1⌝ ∗ owns (c : Thread nD τ) arg1 fullShare q ∗ owns (c : Thread nD τ) arg12 fullShare dK
            ∗ owns (c : Thread nD τ) arg14 fullShare (scoreStep q dK k (acc, d)).2)) : sProp 𝕄) := by
  have hk : k.val < 64 := Nat.lt_of_lt_of_le k.isLt k0_t1_abs.2.1
  unfold k0_t1_body owns
  iintro ⟨⟨%f1, %h1, H1⟩, ⟨%f12, %h12, H12⟩, ⟨%f14, %h14, H14⟩⟩
  subst h1 h12 h14
  sl_exec
  sl_step
  isplitr
  · ipureintro
    show k0_pay106 acc _ _ = k0_pay106 acc _ _
    rw [View.readAt_full]; rfl
  isplitl [H1]; · iexists f1; isplitr; · ipureintro; rfl
                  iexact H1
  isplitl [H12]; · iexists f12; isplitr; · ipureintro; rfl
                   iexact H12
  iexists _; isplitr; swap; · iexact H14
  ipureintro
  rw [View.read_writes_cons_put _ _ _ _ _ rfl]
  show put _ _ _ _ = put _ _ _ _
  rw [View.readAt_full]; rfl

theorem exp_trip (c : Dev nD) (E : Set ℕ) (i : grid0.Coords) (arg1 : Memref sig .tc .vmem S1x256x512 .bf16) (harg1 : arg1.IsWhole) (arg2 : Memref sig .tc .hbm S2x16384x512 .bf16) (harg2 : arg2.IsWhole) (arg3 : Memref sig .tc .hbm S2x16384x512 .bf16) (harg3 : arg3.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole) (arg17 : DmaSems sig S2)
    (v765 : FVec F S256x128 .f32) (v795 : FVec F S256x1024 .f32) (v798 : FVec F S256x1024 .f32) (top : FVec F S256x1 .f32)
    (d : Vec F S256x16384 .f32)
    (k : Fin k0_t2_loop.trips) (acc : FVec F S256x1 .f32) :
    iprop(owns (c : Thread nD τ) arg14 fullShare d)
      ⊢ (wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v765 v795 v798 top k acc)
          (fun yld => iprop(⌜yld = (expStep top k (acc, d)).1⌝ ∗ owns (c : Thread nD τ) arg14 fullShare (expStep top k (acc, d)).2)) : sProp 𝕄) := by
  have hk : k.val < 64 := Nat.lt_of_lt_of_le k.isLt k0_t2_abs.2.1
  unfold k0_t2_body owns
  iintro ⟨%f14, %h14, H14⟩
  subst h14
  sl_exec
  sl_step
  isplitr
  · ipureintro; rfl
  iexists _; isplitr; swap; · iexact H14
  ipureintro
  rw [View.read_writes_cons_put _ _ _ _ _ rfl]
  rfl

end Cert.KernelIdeal.Hand

end
-- ==== Proof.KernelIdeal.Prefix.lean ====
/-
  Hand-written, untrusted. The head of `cc0_attention`'s body (`k0_part1`): the copy of the batch's keys on the first
  block of a batch, the copy of its values on the second, and the zeroing of the carried buffers at point 0.
-/
module

public import proofs.«01_k».proof.Proof.KernelIdeal.Trips

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (Pipeline.UD sig nD τ) ℕ

/-- The keys, and the values, of the batch the copy at point `i` reads. -/
abbrev kSrc (i : grid0.Coords) (h : k0_cond1 i = 1#1) : Memref sig .tc .hbm S16384x512 .bf16 :=
  ((Memref.whole main_arg1 : Memref sig .tc .hbm S2x16384x512 .bf16).slice
    (Rect.unit (s := S2x16384x512) (k0_off1 i) S1x16384x512.size (k0_off1_inb i h)) (fun _ => rfl)).squeeze S16384x512 squeezes_S1x16384x512_S16384x512
abbrev vSrc (i : grid0.Coords) (h : k0_cond2 i = 1#1) : Memref sig .tc .hbm S16384x512 .bf16 :=
  ((Memref.whole main_arg2 : Memref sig .tc .hbm S2x16384x512 .bf16).slice
    (Rect.unit (s := S2x16384x512) (k0_off2 i) S1x16384x512.size (k0_off2_inb i h)) (fun _ => rfl)).squeeze S16384x512 squeezes_S1x16384x512_S16384x512

/-- The body's test for point 0. -/
abbrev cond0 (i : grid0.Coords) : BitVec 1 :=
  Scalar.cmpi .ne (Scalar.extui (Scalar.cmpi .eq (BitVec.ofNat 32 (i 0).val) 0#32) : BitVec 32) 0#32

/-- What the head leaves in the keys, values, scores and reciprocal buffers. -/
def headK (i : grid0.Coords) (fk : Vec F S2x16384x512 .bf16) (d : Vec F S16384x512 .bf16) : Vec F S16384x512 .bf16 :=
  if h : k0_cond1 i = 1#1 then (kSrc i h).view.read (Elt F) fk else d
def headV (i : grid0.Coords) (fv : Vec F S2x16384x512 .bf16) (d : Vec F S16384x512 .bf16) : Vec F S16384x512 .bf16 :=
  if cond0 i = 1#1 then k0_pay5 else if h : k0_cond2 i = 1#1 then (vSrc i h).view.read (Elt F) fv else d
def headE (i : grid0.Coords) (d : Vec F S256x16384 .f32) : Vec F S256x16384 .f32 := if cond0 i = 1#1 then k0_pay4 else d
def headI (i : grid0.Coords) (d : Vec F S256x128 .f32) : Vec F S256x128 .f32 := if cond0 i = 1#1 then k0_pay3 else d

/-- The keys' and the values' arrays, left in HBM, and such an array whole at contents `f`. -/
abbrev hbmK : Memref sig .tc .hbm S2x16384x512 .bf16 := Memref.whole main_arg1
abbrev hbmV : Memref sig .tc .hbm S2x16384x512 .bf16 := Memref.whole main_arg2
abbrev hbmPt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 1600000 in
theorem head_run (c : Dev nD) (i : grid0.Coords) (arg1 : Memref sig .tc .vmem S1x256x512 .bf16) (harg1 : arg1.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole)
    (fk : Buf (Elt F) ((c : Thread nD τ).loc main_arg1)) (fv : Buf (Elt F) ((c : Thread nD τ).loc main_arg2))
    (dK dV : Vec F S16384x512 .bf16) (dE : Vec F S256x16384 .f32) (dI : Vec F S256x128 .f32) (W : Waits sig Unit) :
    iprop(hbmPt c hbmK fk ∗ hbmPt c hbmV fv
        ∗ owns (c : Thread nD τ) arg12 fullShare dK ∗ owns (c : Thread nD τ) arg13 fullShare dV
        ∗ owns (c : Thread nD τ) arg14 fullShare dE ∗ owns (c : Thread nD τ) arg16 fullShare dI
        ∗ semVal ((c : Thread nD τ), SemLoc.dma 15) 0 ∗ semVal ((c : Thread nD τ), SemLoc.dma 16) 0
        ∗ owes (c : Thread nD τ) 0 W)
      ⊢ (wp frame (wpE (defs₀ (F := F)) Variants.none (c : Thread nD τ) none) Set.univ (k0_part1 (F := F) i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5)
          (fun v31 => iprop(⌜v31 = headI i dI⌝ ∗ hbmPt c hbmK fk ∗ hbmPt c hbmV fv
            ∗ owns (c : Thread nD τ) arg12 fullShare (headK i fk dK) ∗ owns (c : Thread nD τ) arg13 fullShare (headV i fv dV)
            ∗ owns (c : Thread nD τ) arg14 fullShare (headE i dE) ∗ owns (c : Thread nD τ) arg16 fullShare (headI i dI)
            ∗ semVal ((c : Thread nD τ), SemLoc.dma 15) 0 ∗ semVal ((c : Thread nD τ), SemLoc.dma 16) 0
            ∗ (∃ W', owes (c : Thread nD τ) 0 W'))) : sProp 𝕄) := by
  simp only [k0_part1_eq_skeleton]; unfold k0_part1_skel owns
  iintro ⟨Hk, Hv, ⟨%f12, %h12, H12⟩, ⟨%f13, %h13, H13⟩, ⟨%f14, %h14, H14⟩, ⟨%f16, %h16, H16⟩, Hs0, Hs1, HW⟩
  subst h12 h13 h14 h16
  by_cases hc1 : k0_cond1 i = 1#1 <;> by_cases hc2 : k0_cond2 i = 1#1 <;> by_cases hc0 : cond0 i = 1#1
  all_goals
    sl_exec
    sl_step
    isplitr
    · ipureintro
      first
        | rw [headI, if_pos hc0]; exact View.readCov_full _ _ _ _ _
        | rw [headI, if_neg hc0]; exact View.readAt_full _ _ _
    isplitl [Hk]; · iexact Hk
    isplitl [Hv]; · iexact Hv
    isplitl [H12]
    · iexists _; isplitr; swap; · iexact H12
      ipureintro
      first
        | rw [headK, dif_pos hc1]; exact View.read_writes_whole _ _ _
        | rw [headK, dif_neg hc1]
    isplitl [H13]
    · iexists _; isplitr; swap; · iexact H13
      ipureintro
      first
        | rw [headV, if_pos hc0]; exact View.read_writes_full _ _ _ _ _
        | rw [headV, if_neg hc0, dif_pos hc2]; exact View.read_writes_whole _ _ _
        | rw [headV, if_neg hc0, dif_neg hc2]
    isplitl [H14]
    · iexists _; isplitr; swap; · iexact H14
      ipureintro
      first
        | rw [headE, if_pos hc0]; exact View.read_writes_full _ _ _ _ _
        | rw [headE, if_neg hc0]
    isplitl [H16]
    · iexists _; isplitr; swap; · iexact H16
      ipureintro
      first
        | rw [headI, if_pos hc0]; exact View.read_writes_full _ _ _ _ _
        | rw [headI, if_neg hc0]
    isplitl [Hs0]; · iexact Hs0
    isplitl [Hs1]; · iexact Hs1
    iexists _; iexact HW

end Cert.KernelIdeal.Hand

end
-- ==== Proof.KernelIdeal.Canon.lean ====
/-
  Hand-written, untrusted. What one run of `cc0_attention`'s body computes, in closed form: the sixteen chunks of the
  straight-line part by recursion on the chunk, the unsafe branch's two loops, and the outputs.
-/
module

public import proofs.«01_k».proof.Proof.KernelIdeal.Prefix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open VecWindow (window put)

variable {F : FTy → Type} [FloatOps F] [Named F]

theorem rows_inb (n : ℕ) (h : n < 16) : ∀ a, (![1024 * n, 0] : Fin 2 → ℕ) a + S1024x512.size a ≤ S16384x512.size a := by
  intro a; fin_cases a
  · show 1024 * n + 1024 ≤ 16384; omega
  · show 0 + 512 ≤ 512; omega

theorem cols_inb (n : ℕ) (h : n < 16) : ∀ a, (![0, 1024 * n] : Fin 2 → ℕ) a + S256x1024.size a ≤ S256x16384.size a := by
  intro a; fin_cases a
  · show 0 + 256 ≤ 256; omega
  · show 1024 * n + 1024 ≤ 16384; omega

theorem lanes_inb (n : ℕ) (h : n < 128) : ∀ a, (![0, 128 * n] : Fin 2 → ℕ) a + S256x128.size a ≤ S256x16384.size a := by
  intro a; fin_cases a
  · show 0 + 256 ≤ 256; omega
  · show 128 * n + 128 ≤ 16384; omega

/-- Chunk `n` of the keys or of the values, and lane group `n` of the scores buffer. -/
def rowsAt (d : Vec F S16384x512 .bf16) (n : ℕ) (h : n < 16) : Vec F S1024x512 .bf16 :=
  window d ![1024 * n, 0] S1024x512.size (rows_inb n h)
def lanesAt (d : Vec F S256x16384 .f32) (n : ℕ) (h : n < 128) : Vec F S256x128 .f32 :=
  window d ![0, 128 * n] S256x128.size (lanes_inb n h)

/-- The exponentials of the new block of queries against chunk `n` of the keys. -/
def eC (q : Vec F S1x256x512 .bf16) (dK : Vec F S16384x512 .bf16) (n : ℕ) (h : n < 16) : FVec F S256x1024 .f32 :=
  k0_pay98 (k0_pay6 q) (rowsAt dK n h)

/-- Their sums by lane over the chunks up to `n`. -/
def lsum (q : Vec F S1x256x512 .bf16) (dK : Vec F S16384x512 .bf16) : (n : ℕ) → n < 16 → FVec F S256x128 .f32
  | 0, h => k0_pay10 (eC q dK 0 h)
  | n + 1, h => addf (lsum q dK n (by omega)) (k0_pay10 (eC q dK (n + 1) h))

/-- One chunk's weighted values added to the sum so far. -/
def accNext (dI : FVec F S256x128 .f32) (dE : Vec F S256x16384 .f32) (dV : Vec F S16384x512 .bf16) (n : ℕ) (h : n < 16)
    (a : Vec F S256x512 .f32) : FVec F S256x512 .f32 :=
  k0_pay97 dI (lanesAt dE (8 * n) (by omega)) (lanesAt dE (8 * n + 1) (by omega)) (lanesAt dE (8 * n + 2) (by omega))
    (lanesAt dE (8 * n + 3) (by omega)) (lanesAt dE (8 * n + 4) (by omega)) (lanesAt dE (8 * n + 5) (by omega))
    (lanesAt dE (8 * n + 6) (by omega)) (lanesAt dE (8 * n + 7) (by omega)) (rowsAt dV n h) a

/-- The previous block's output, summed over the chunks of values up to `n`. -/
def accC (dI : FVec F S256x128 .f32) (dE : Vec F S256x16384 .f32) (dV : Vec F S16384x512 .bf16) : (n : ℕ) → n < 16 → FVec F S256x512 .f32
  | 0, h => k0_pay7 dI (lanesAt dE 0 (by omega)) (lanesAt dE 1 (by omega)) (lanesAt dE 2 (by omega)) (lanesAt dE 3 (by omega))
      (lanesAt dE 4 (by omega)) (lanesAt dE 5 (by omega)) (lanesAt dE 6 (by omega)) (lanesAt dE 7 (by omega)) (rowsAt dV 0 h)
  | n + 1, h => accNext dI dE dV (n + 1) h (accC dI dE dV n (by omega))

theorem chunk_lt (y : S256x16384.Idx) : (y 1).val / 1024 < 16 := by have h : (y 1).val < 16384 := (y 1).isLt; omega

/-- The scores buffer once all sixteen chunks are stored. -/
def eFull (q : Vec F S1x256x512 .bf16) (dK : Vec F S16384x512 .bf16) : Vec F S256x16384 .f32 :=
  fun y => k0_pay9 (eC q dK ((y 1).val / 1024) (chunk_lt y)) (fun a => match a with
    | ⟨0, _⟩ => (y 0 : Fin 256)
    | ⟨1, _⟩ => (⟨(y 1).val % 1024, Nat.mod_lt _ (by decide)⟩ : Fin 1024))

/-- A store of chunk `n` agrees with `eFull`. -/
theorem eFull_piece (q : Vec F S1x256x512 .bf16) (dK : Vec F S16384x512 .bf16) (n : ℕ) (h : n < 16) (x : S256x1024.Idx) :
    k0_pay9 (eC q dK n h) x = eFull q dK ((Rect.unit (s := S256x16384) ![0, 1024 * n] S256x1024.size (cols_inb n h)).emb x) := by
  have hx : (x 1).val < 1024 := (x 1).isLt
  have e1 : (((Rect.unit (s := S256x16384) ![0, 1024 * n] S256x1024.size (cols_inb n h)).emb x) 1).val = 1024 * n + (x 1).val := by
    show 1024 * n + 1 * (x 1).val = _; omega
  have e0 : (((Rect.unit (s := S256x16384) ![0, 1024 * n] S256x1024.size (cols_inb n h)).emb x) 0).val = (x 0).val := by
    show 0 + 1 * (x 0).val = _; omega
  have key : ∀ (m : ℕ) (hm : m < 16) (z : S256x1024.Idx), m = n → z = x → k0_pay9 (eC q dK m hm) z = k0_pay9 (eC q dK n h) x := by
    rintro _ _ _ rfl rfl; rfl
  refine (key _ _ _ ?_ ?_).symm
  · rw [e1]; omega
  · funext a; fin_cases a
    · exact Fin.ext e0
    · exact Fin.ext ((congrArg (· % 1024) e1).trans (by show (1024 * n + (x 1).val) % 1024 = (x 1).val; omega))

theorem mem_chunk (n : ℕ) (h : n < 16) (y : S256x16384.Idx) (hy : (y 1).val / 1024 = n) :
    y ∈ (Rect.unit (s := S256x16384) ![0, 1024 * n] S256x1024.size (cols_inb n h)).set := by
  have h0 : (y 0).val < 256 := (y 0).isLt
  refine Rect.mem_set_unit.mpr fun a => ?_
  fin_cases a
  · show 0 ≤ (y 0).val ∧ (y 0).val < 0 + 256; omega
  · show 1024 * n ≤ (y 1).val ∧ (y 1).val < 1024 * n + 1024; omega

/-- The stores of the chunks up to `n` into the scores buffer, last first. -/
def ePieces (q : Vec F S1x256x512 .bf16) (dK : Vec F S16384x512 .bf16) : (n : ℕ) → n < 16 → List (View.Piece (Elt F) S256x16384 .f32)
  | 0, h => [⟨Rect.unit (s := S256x16384) ![0, 1024 * 0] S256x1024.size (cols_inb 0 h), k0_pay9 (eC q dK 0 h)⟩]
  | n + 1, h => ⟨Rect.unit (s := S256x16384) ![0, 1024 * (n + 1)] S256x1024.size (cols_inb (n + 1) h), k0_pay9 (eC q dK (n + 1) h)⟩
      :: ePieces q dK n (by omega)

theorem ePieces_agree (q : Vec F S1x256x512 .bf16) (dK : Vec F S16384x512 .bf16) (n : ℕ) (h : n < 16) :
    ∀ p ∈ ePieces q dK n h, ∀ x : p.1.shape.Idx, p.2 x = eFull q dK (p.1.emb x) := by
  induction n with
  | zero => intro p hp x; rcases List.mem_singleton.mp hp with rfl; exact eFull_piece q dK 0 h x
  | succ n ih =>
      intro p hp x
      rcases List.mem_cons.mp hp with rfl | hp
      · exact eFull_piece q dK (n + 1) h x
      · exact ih _ p hp x

theorem ePieces_cover (q : Vec F S1x256x512 .bf16) (dK : Vec F S16384x512 .bf16) (n : ℕ) (h : n < 16) (y : S256x16384.Idx)
    (hy : (y 1).val / 1024 ≤ n) : ∃ p : View.Piece (Elt F) S256x16384 .f32, p ∈ ePieces q dK n h ∧ y ∈ p.1.set := by
  induction n with
  | zero => exact ⟨_, List.mem_singleton.mpr rfl, mem_chunk 0 h y (by omega)⟩
  | succ n ih =>
      by_cases hn : (y 1).val / 1024 = n + 1
      · exact ⟨_, List.mem_cons_self, mem_chunk (n + 1) h y hn⟩
      · obtain ⟨p, hp, hy'⟩ := ih (by omega) (by omega)
        exact ⟨p, List.mem_cons_of_mem _ hp, hy'⟩

/-- The scores buffer after the sixteen stores. -/
theorem read_ePieces (v : View sig .tc .vmem S256x16384 .f32) (f : v.ty.Contents (Elt F)) (q : Vec F S1x256x512 .bf16)
    (dK : Vec F S16384x512 .bf16) : v.read (Elt F) (v.writes (Elt F) f (ePieces q dK 15 (by omega))) = eFull q dK :=
  funext fun y => View.read_writes_apply_of_pieces v f (eFull q dK) _ (ePieces_agree q dK 15 (by omega)) y
    (ePieces_cover q dK 15 (by omega) y (Nat.le_of_lt_succ (chunk_lt y)))

abbrev accRect : Rect S256x512 := Rect.unit (s := S256x512) ![0, 0] S256x512.size inb_S256x512_S256x512_0_0
/-- The store of chunk `n`'s sum over the stores `L` before it, whose result it reads back. -/
def accPush (v : View sig .tc .vmem S256x512 .f32) (dI : FVec F S256x128 .f32) (dE : Vec F S256x16384 .f32)
    (dV : Vec F S16384x512 .bf16) (n : ℕ) (h : n < 16) (L : List (View.Piece (Elt F) S256x512 .f32)) : List (View.Piece (Elt F) S256x512 .f32) :=
  ⟨accRect, accNext dI dE dV n h (v.readCov L accRect.toLoadRect)⟩ :: L

/-- The stores of the running output up to chunk `n`, each reading the one before it. -/
def accPieces (v : View sig .tc .vmem S256x512 .f32) (dI : FVec F S256x128 .f32) (dE : Vec F S256x16384 .f32)
    (dV : Vec F S16384x512 .bf16) : (n : ℕ) → n < 16 → List (View.Piece (Elt F) S256x512 .f32)
  | 0, h => [⟨accRect, accC dI dE dV 0 h⟩]
  | n + 1, h => accPush v dI dE dV (n + 1) h (accPieces v dI dE dV n (by omega))

theorem readCov_accPieces (v : View sig .tc .vmem S256x512 .f32) (dI : FVec F S256x128 .f32) (dE : Vec F S256x16384 .f32)
    (dV : Vec F S16384x512 .bf16) (n : ℕ) (h : n < 16) : v.readCov (accPieces v dI dE dV n h) accRect.toLoadRect = accC dI dE dV n h := by
  induction n with
  | zero => exact View.readCov_full _ _ _ _ _
  | succ n ih => exact (View.readCov_full _ _ _ _ _).trans (congrArg (accNext dI dE dV (n + 1) h) (ih _))

/-- Whether some row's sum of exponentials left the safe range. -/
def unsafeC (q : Vec F S1x256x512 .bf16) (dK : Vec F S16384x512 .bf16) : BitVec 1 :=
  Scalar.cmpi .ne (Scalar.extui (Scalar.xori (Scalar.cmpf .oeq (k0_pay102 (lsum q dK 14 (by omega)) (eC q dK 15 (by omega)))
    (Scalar.ofBits .f32 0x00000000#32)) 1#1) : BitVec 32) 0#32

/-- The scores and the row maxima after the first loop, the exponentials and their row sums after the second. -/
def scoreEnd (q : Vec F S1x256x512 .bf16) (dK : Vec F S16384x512 .bf16) : FVec F S256x1 .f32 × Vec F S256x16384 .f32 :=
  scoreSt q dK (eFull q dK) k0_t1_loop.trips
def expEnd (q : Vec F S1x256x512 .bf16) (dK : Vec F S16384x512 .bf16) : FVec F S256x1 .f32 × Vec F S256x16384 .f32 :=
  expSt (scoreEnd q dK).1 (scoreEnd q dK).2 k0_t2_loop.trips

/-- What a run leaves in the scores and the reciprocal buffers. -/
def nextE (q : Vec F S1x256x512 .bf16) (dK : Vec F S16384x512 .bf16) : Vec F S256x16384 .f32 :=
  if unsafeC q dK = 1#1 then (expEnd q dK).2 else eFull q dK
def nextI (q : Vec F S1x256x512 .bf16) (dK : Vec F S16384x512 .bf16) : Vec F S256x128 .f32 :=
  if unsafeC q dK = 1#1 then k0_pay111 (expEnd q dK).1 else k0_pay101 (lsum q dK 14 (by omega)) (eC q dK 15 (by omega))

/-- The quantised rows of a block's output `a`: their scales, their codes, and what the output windows are stored. -/
def tScale (a : Vec F S256x512 .f32) : FVec F S256x1 .f32 :=
  k0_pay118 (k0_pay113 (k0_pay112 a)) (k0_pay114 (k0_pay112 a)) (k0_pay115 (k0_pay112 a)) (k0_pay116 (k0_pay112 a))
def tCodes (a : Vec F S256x512 .f32) : FVec F S256x512 .fp8e4m3 :=
  k0_pay119 a (k0_pay113 (k0_pay112 a)) (k0_pay114 (k0_pay112 a)) (k0_pay115 (k0_pay112 a)) (k0_pay116 (k0_pay112 a))
def oCodes (a : Vec F S256x512 .f32) := k0_pay120 (tCodes a)
def oScale (a : Vec F S256x512 .f32) := k0_pay121 (tScale a)
def oProj (a : Vec F S256x512 .f32) (wo : Vec F S512x512 .fp8e4m3) (so bo : Vec F S1x512 .f32) :=
  k0_pay1 (k0_pay123 (tScale a) (tCodes a) wo so bo)
def oY (a : Vec F S256x512 .f32) (wo : Vec F S512x512 .fp8e4m3) (so bo : Vec F S1x512 .f32) (x : Vec F S1x256x512 .bf16) :=
  k0_pay2 (k0_pay122 (tScale a) (tCodes a) wo so bo) x

/-- The output of the block finished at a point: from the scratch buffers as the head leaves them. -/
def accAt (i : grid0.Coords) (fv : Vec F S2x16384x512 .bf16) (dV : Vec F S16384x512 .bf16) (dE : Vec F S256x16384 .f32)
    (dI : Vec F S256x128 .f32) : FVec F S256x512 .f32 :=
  accC (headI i dI) (headE i dE) (headV i fv dV) 15 (by omega)

end Cert.KernelIdeal.Hand

end
-- ==== Proof.KernelIdeal.Branch.lean ====
/-
  Hand-written, untrusted. The branch of `cc0_attention`'s body that redoes a block's softmax with the row maxima subtracted.
-/
module

public import proofs.«01_k».proof.Proof.KernelIdeal.Canon

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (Pipeline.UD sig nD τ) ℕ

/-- The branch entered where a row's sum left the safe range: the two loops over the scores buffer and the new reciprocals. -/
theorem branch_run (c : Dev nD) (i : grid0.Coords) (arg1 : Memref sig .tc .vmem S1x256x512 .bf16) (harg1 : arg1.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole)
    (v765 : FVec F S256x128 .f32) (v795 : FVec F S256x1024 .f32) (v798 : FVec F S256x1024 .f32)
    (q : Vec F S1x256x512 .bf16) (dK : Vec F S16384x512 .bf16)
    {β : Type} (kk : PUnit.{1} → Prog (TpuEff nD τ sig (Elt F) Λ₀ .tc) β) (Q : β → sProp 𝕄) :
    iprop((owns (c : Thread nD τ) arg1 fullShare q ∗ owns (c : Thread nD τ) arg12 fullShare dK ∗ owns (c : Thread nD τ) arg14 fullShare (eFull q dK)
        ∗ owns (c : Thread nD τ) arg16 fullShare (k0_pay101 (lsum q dK 14 (by omega)) (eC q dK 15 (by omega))))
        ∗ ((owns (c : Thread nD τ) arg1 fullShare q ∗ owns (c : Thread nD τ) arg12 fullShare dK
            ∗ owns (c : Thread nD τ) arg14 fullShare (nextE q dK) ∗ owns (c : Thread nD τ) arg16 fullShare (nextI q dK))
          -∗ wp frame (wpE (defs₀ (F := F)) Variants.none (c : Thread nD τ) none) Set.univ (kk ⟨⟩) Q))
      ⊢ (wp frame (wpE (defs₀ (F := F)) Variants.none (c : Thread nD τ) none) Set.univ
          (if unsafeC q dK = 1#1 then do
            let v965 : FVec F S256x1 .f32 ← Scf.Loop.for k0_t1_loop k0_t1_ok (k0_pay103 (F := F)) (k0_t1_body i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798)
            let v968 : FVec F S256x1 .f32 ← Scf.Loop.for k0_t2_loop k0_t2_ok (k0_pay107 (F := F)) (k0_t2_body i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798 v965)
            let v973 : Vec F S256x128 .f32 ← Prog.lift (.load arg16 (Rect.unit (s := S256x128) ![0, 0] S256x128.size inb_S256x128_S256x128_0_0).toLoadRect (View.loadsAt_vmem h_S256x128))
            Prog.lift (.store arg16 (Rect.unit (s := S256x128) ![0, 0] S256x128.size inb_S256x128_S256x128_0_0) (k0_pay111 v968) Finset.univ (View.stores_vmem_bits_univ h_S256x128 rfl) (.inl rfl))
            kk ⟨⟩
          else kk ⟨⟩) Q : sProp 𝕄) := by
  iintro ⟨⟨H1, H12, H14, H16⟩, Hk⟩
  by_cases hU : unsafeC q dK = 1#1
  · rw [if_pos hU, nextE, if_pos hU, nextI, if_pos hU]
    sl_for (fun k acc => iprop(⌜acc = (scoreSt q dK (eFull q dK) k).1⌝ ∗ owns (c : Thread nD τ) arg1 fullShare q
        ∗ owns (c : Thread nD τ) arg12 fullShare dK
        ∗ owns (c : Thread nD τ) arg14 fullShare (scoreSt q dK (eFull q dK) k).2)) $$ [H1 H12 H14]
    case region =>
      intro k acc
      iintro ⟨%hacc, H1, H12, H14⟩
      subst hacc
      rw [scoreSt_succ]
      iapply (score_trip c Set.univ i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798 q dK (scoreSt q dK (eFull q dK) k.val).2 k (scoreSt q dK (eFull q dK) k.val).1)
      isplitl [H1]; · iexact H1
      isplitl [H12]; · iexact H12
      iexact H14
    · isplitr; · ipureintro; rfl
      isplitl [H1]; · iexact H1
      isplitl [H12]; · iexact H12
      iexact H14
    iintro %top ⟨%htop, H1, H12, H14⟩
    sl_for (fun k acc => iprop(⌜acc = (expSt top (scoreEnd q dK).2 k).1⌝
        ∗ owns (c : Thread nD τ) arg14 fullShare (expSt top (scoreEnd q dK).2 k).2)) $$ [H14]
    case region =>
      intro k acc
      iintro ⟨%hacc, H14⟩
      subst hacc
      rw [expSt_succ]
      iapply (exp_trip c Set.univ i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5 v765 v795 v798 top (expSt top (scoreEnd q dK).2 k.val).2 k (expSt top (scoreEnd q dK).2 k.val).1)
      iexact H14
    · isplitr; · ipureintro; rfl
      iexact H14
    iintro %sum ⟨%hsum, H14⟩
    have htop' : top = (scoreEnd q dK).1 := htop
    subst htop'
    have hsum' : sum = (expEnd q dK).1 := hsum
    subst hsum'
    unfold owns
    icases H16 with ⟨%f16, %h16, H16⟩
    sl_exec
    iapply Hk
    isplitl [H1]; · iexact H1
    isplitl [H12]; · iexact H12
    isplitl [H14]; · iexact H14
    iexists _; isplitr; swap; · iexact H16
    ipureintro
    exact View.read_writes_full _ _ _ _ _
  · rw [if_neg hU, nextE, if_neg hU, nextI, if_neg hU]
    iapply Hk
    isplitl [H1]; · iexact H1
    isplitl [H12]; · iexact H12
    isplitl [H14]; · iexact H14
    iexact H16

end Cert.KernelIdeal.Hand

end
-- ==== Proof.KernelIdeal.Body.lean ====
/-
  Hand-written, untrusted. One run of `cc0_attention`'s body at any grid point: what it leaves in the scratch buffers and
  in its output windows, as the closed forms of `Canon`.
-/
module

public import proofs.«01_k».proof.Proof.KernelIdeal.Branch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (Pipeline.UD sig nD τ) ℕ

/-- One run: the input windows, the arrays left in HBM, the scratch buffers and the copies'
    semaphores. -/
theorem body_run (c : Dev nD) (i : grid0.Coords) (arg1 : Memref sig .tc .vmem S1x256x512 .bf16) (harg1 : arg1.IsWhole) (arg4 : Memref sig .tc .vmem S1x256x512 .bf16) (harg4 : arg4.IsWhole) (arg5 : Memref sig .tc .vmem S512x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x256x512 .bf16) (harg8 : arg8.IsWhole) (arg9 : Memref sig .tc .vmem S1x256x512 .bf16) (harg9 : arg9.IsWhole) (arg10 : Memref sig .tc .vmem S1x256x512 .fp8e4m3) (harg10 : arg10.IsWhole) (arg11 : Memref sig .tc .vmem S1x1x256 .f32) (harg11 : arg11.IsWhole) (arg12 : Memref sig .tc .vmem S16384x512 .bf16) (harg12 : arg12.IsWhole) (arg13 : Memref sig .tc .vmem S16384x512 .bf16) (harg13 : arg13.IsWhole) (arg14 : Memref sig .tc .vmem S256x16384 .f32) (harg14 : arg14.IsWhole) (arg15 : Memref sig .tc .vmem S256x512 .f32) (harg15 : arg15.IsWhole) (arg16 : Memref sig .tc .vmem S256x128 .f32) (harg16 : arg16.IsWhole)
    (fk : Buf (Elt F) ((c : Thread nD τ).loc main_arg1)) (fv : Buf (Elt F) ((c : Thread nD τ).loc main_arg2))
    (q x : Vec F S1x256x512 .bf16) (wo : Vec F S512x512 .fp8e4m3) (so bo : Vec F S1x512 .f32)
    (dK dV : Vec F S16384x512 .bf16) (dE : Vec F S256x16384 .f32) (dI : Vec F S256x128 .f32) (W : Waits sig Unit) :
    iprop(owns (c : Thread nD τ) arg1 fullShare q ∗ owns (c : Thread nD τ) arg4 fullShare x ∗ owns (c : Thread nD τ) arg5 fullShare wo
        ∗ owns (c : Thread nD τ) arg6 fullShare so ∗ owns (c : Thread nD τ) arg7 fullShare bo
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ hbmPt c hbmK fk ∗ hbmPt c hbmV fv
        ∗ owns (c : Thread nD τ) arg12 fullShare dK ∗ owns (c : Thread nD τ) arg13 fullShare dV
        ∗ owns (c : Thread nD τ) arg14 fullShare dE ∗ (∃ d, owns (c : Thread nD τ) arg15 fullShare d) ∗ owns (c : Thread nD τ) arg16 fullShare dI
        ∗ semVal ((c : Thread nD τ), SemLoc.dma 15) 0 ∗ semVal ((c : Thread nD τ), SemLoc.dma 16) 0
        ∗ owes (c : Thread nD τ) 0 W)
      ⊢ (wp frame (wpE (defs₀ (F := F)) Variants.none (c : Thread nD τ) none) Set.univ (cc0_attention (F := F) i arg1 harg1 (Memref.whole main_arg1) (Memref.isWhole_whole _) (Memref.whole main_arg2) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch5)
        (fun _ => iprop(owns (c : Thread nD τ) arg1 fullShare q ∗ owns (c : Thread nD τ) arg4 fullShare x ∗ owns (c : Thread nD τ) arg5 fullShare wo
        ∗ owns (c : Thread nD τ) arg6 fullShare so ∗ owns (c : Thread nD τ) arg7 fullShare bo
        ∗ owns (c : Thread nD τ) arg8 fullShare (oY (accAt i fv dV dE dI) wo so bo x)
        ∗ owns (c : Thread nD τ) arg9 fullShare (oProj (accAt i fv dV dE dI) wo so bo)
        ∗ owns (c : Thread nD τ) arg10 fullShare (oCodes (accAt i fv dV dE dI))
        ∗ owns (c : Thread nD τ) arg11 fullShare (oScale (accAt i fv dV dE dI))
        ∗ hbmPt c hbmK fk ∗ hbmPt c hbmV fv
        ∗ owns (c : Thread nD τ) arg12 fullShare (headK i fk dK) ∗ owns (c : Thread nD τ) arg13 fullShare (headV i fv dV)
        ∗ owns (c : Thread nD τ) arg14 fullShare (nextE q (headK i fk dK)) ∗ (∃ d, owns (c : Thread nD τ) arg15 fullShare d)
        ∗ owns (c : Thread nD τ) arg16 fullShare (nextI q (headK i fk dK))
        ∗ semVal ((c : Thread nD τ), SemLoc.dma 15) 0 ∗ semVal ((c : Thread nD τ), SemLoc.dma 16) 0
        ∗ (∃ W', owes (c : Thread nD τ) 0 W'))) : sProp 𝕄) := by
  simp only [cc0_attention_eq_skeleton]; unfold cc0_attention_skel
  simp only [k0_part26_eq_skeleton]; unfold k0_part26_skel
  iintro ⟨H1, H4, H5, H6, H7, ⟨%d8, H8⟩, ⟨%d9, H9⟩, ⟨%d10, H10⟩, ⟨%d11, H11⟩, Hk, Hv, H12, H13, H14, ⟨%d15, H15⟩, H16, Hs0, Hs1, HW⟩
  rw [wp_bind, wp_bind]
  iapply (wp_wand_r Idealize.ShloMosaic.frame (wpE (defs₀ (F := F)) Variants.none (c : Thread nD τ) none) Set.univ)
  isplitl [Hk Hv H12 H13 H14 H16 Hs0 Hs1 HW]
  · iapply (head_run c i arg1 harg1 arg4 harg4 arg5 harg5 arg6 harg6 arg7 harg7 arg8 harg8 arg9 harg9 arg10 harg10 arg11 harg11 arg12 harg12 arg13 harg13 arg14 harg14 arg15 harg15 arg16 harg16 fk fv dK dV dE dI W)
    isplitl [Hk]; · iexact Hk
    isplitl [Hv]; · iexact Hv
    isplitl [H12]; · iexact H12
    isplitl [H13]; · iexact H13
    isplitl [H14]; · iexact H14
    isplitl [H16]; · iexact H16
    isplitl [Hs0]; · iexact Hs0
    isplitl [Hs1]; · iexact Hs1
    iexact HW
  iintro %v31 ⟨%hv31, Hk, Hv, H12, H13, H14, H16, Hs0, Hs1, ⟨%W', HW⟩⟩
  rw [← wp_bind]
  unfold owns
  icases H1 with ⟨%f1, %h1, H1⟩
  icases H4 with ⟨%f4, %h4, H4⟩
  icases H5 with ⟨%f5, %h5, H5⟩
  icases H6 with ⟨%f6, %h6, H6⟩
  icases H7 with ⟨%f7, %h7, H7⟩
  icases H8 with ⟨%f8, -, H8⟩
  icases H9 with ⟨%f9, -, H9⟩
  icases H10 with ⟨%f10, -, H10⟩
  icases H11 with ⟨%f11, -, H11⟩
  icases H12 with ⟨%f12, %h12, H12⟩
  icases H13 with ⟨%f13, %h13, H13⟩
  icases H14 with ⟨%f14, %h14, H14⟩
  icases H15 with ⟨%f15, -, H15⟩
  icases H16 with ⟨%f16, %h16, H16⟩
  sl_exec_parts!
  have hq : View.readAt (Elt F) arg1.view (Rect.unit (s := S1x256x512) ![0, 0, 0] S1x256x512.size inb_S1x256x512_S1x256x512_0_0_0).toLoadRect f1 = q := by
    rw [View.readAt_full]; exact h1
  have e14 : arg14.view.read (Elt F) (arg14.view.writes (Elt F) arg14.view.junk (body_run.sl.H14_16_1 c arg1 arg12 f1 f12)) = eFull q (headK i fk dK) := by
    rw [← hq, ← h12]
    exact read_ePieces arg14.view _ (View.readAt (Elt F) arg1.view (Rect.unit (s := S1x256x512) ![0, 0, 0] S1x256x512.size inb_S1x256x512_S1x256x512_0_0_0).toLoadRect f1) (arg12.view.read (Elt F) f12)
  have p1 : body_run.sl.H15_1 c arg13 arg14 v31 f13 f14 = accPieces arg15.view v31 (arg14.view.read (Elt F) f14) (arg13.view.read (Elt F) f13) 0 (by omega) := rfl
  have p2 : body_run.sl.H15_2 c arg13 arg14 arg15 v31 f13 f14 = accPieces arg15.view v31 (arg14.view.read (Elt F) f14) (arg13.view.read (Elt F) f13) 1 (by omega) := congrArg (accPush arg15.view v31 (arg14.view.read (Elt F) f14) (arg13.view.read (Elt F) f13) 1 (by omega)) p1
  have p3 : body_run.sl.H15_3 c arg13 arg14 arg15 v31 f13 f14 = accPieces arg15.view v31 (arg14.view.read (Elt F) f14) (arg13.view.read (Elt F) f13) 2 (by omega) := congrArg (accPush arg15.view v31 (arg14.view.read (Elt F) f14) (arg13.view.read (Elt F) f13) 2 (by omega)) p2
  have p4 : body_run.sl.H15_4 c arg13 arg14 arg15 v31 f13 f14 = accPieces arg15.view v31 (arg14.view.read (Elt F) f14) (arg13.view.read (Elt F) f13) 3 (by omega) := congrArg (accPush arg15.view v31 (arg14.view.read (Elt F) f14) (arg13.view.read (Elt F) f13) 3 (by omega)) p3
  have p5 : body_run.sl.H15_5 c arg13 arg14 arg15 v31 f13 f14 = accPieces arg15.view v31 (arg14.view.read (Elt F) f14) (arg13.view.read (Elt F) f13) 4 (by omega) := congrArg (accPush arg15.view v31 (arg14.view.read (Elt F) f14) (arg13.view.read (Elt F) f13) 4 (by omega)) p4
  have p6 : body_run.sl.H15_6 c arg13 arg14 arg15 v31 f13 f14 = accPieces arg15.view v31 (arg14.view.read (Elt F) f14) (arg13.view.read (Elt F) f13) 5 (by omega) := congrArg (accPush arg15.view v31 (arg14.view.read (Elt F) f14) (arg13.view.read (Elt F) f13) 5 (by omega)) p5
  have p7 : body_run.sl.H15_7 c arg13 arg14 arg15 v31 f13 f14 = accPieces arg15.view v31 (arg14.view.read (Elt F) f14) (arg13.view.read (Elt F) f13) 6 (by omega) := congrArg (accPush arg15.view v31 (arg14.view.read (Elt F) f14) (arg13.view.read (Elt F) f13) 6 (by omega)) p6
  have p8 : body_run.sl.H15_8 c arg13 arg14 arg15 v31 f13 f14 = accPieces arg15.view v31 (arg14.view.read (Elt F) f14) (arg13.view.read (Elt F) f13) 7 (by omega) := congrArg (accPush arg15.view v31 (arg14.view.read (Elt F) f14) (arg13.view.read (Elt F) f13) 7 (by omega)) p7
  have p9 : body_run.sl.H15_9 c arg13 arg14 arg15 v31 f13 f14 = accPieces arg15.view v31 (arg14.view.read (Elt F) f14) (arg13.view.read (Elt F) f13) 8 (by omega) := congrArg (accPush arg15.view v31 (arg14.view.read (Elt F) f14) (arg13.view.read (Elt F) f13) 8 (by omega)) p8
  have p10 : body_run.sl.H15_10 c arg13 arg14 arg15 v31 f13 f14 = accPieces arg15.view v31 (arg14.view.read (Elt F) f14) (arg13.view.read (Elt F) f13) 9 (by omega) := congrArg (accPush arg15.view v31 (arg14.view.read (Elt F) f14) (arg13.view.read (Elt F) f13) 9 (by omega)) p9
  have p11 : body_run.sl.H15_11 c arg13 arg14 arg15 v31 f13 f14 = accPieces arg15.view v31 (arg14.view.read (Elt F) f14) (arg13.view.read (Elt F) f13) 10 (by omega) := congrArg (accPush arg15.view v31 (arg14.view.read (Elt F) f14) (arg13.view.read (Elt F) f13) 10 (by omega)) p10
  have p12 : body_run.sl.H15_12 c arg13 arg14 arg15 v31 f13 f14 = accPieces arg15.view v31 (arg14.view.read (Elt F) f14) (arg13.view.read (Elt F) f13) 11 (by omega) := congrArg (accPush arg15.view v31 (arg14.view.read (Elt F) f14) (arg13.view.read (Elt F) f13) 11 (by omega)) p11
  have p13 : body_run.sl.H15_13 c arg13 arg14 arg15 v31 f13 f14 = accPieces arg15.view v31 (arg14.view.read (Elt F) f14) (arg13.view.read (Elt F) f13) 12 (by omega) := congrArg (accPush arg15.view v31 (arg14.view.read (Elt F) f14) (arg13.view.read (Elt F) f13) 12 (by omega)) p12
  have p14 : body_run.sl.H15_14 c arg13 arg14 arg15 v31 f13 f14 = accPieces arg15.view v31 (arg14.view.read (Elt F) f14) (arg13.view.read (Elt F) f13) 13 (by omega) := congrArg (accPush arg15.view v31 (arg14.view.read (Elt F) f14) (arg13.view.read (Elt F) f13) 13 (by omega)) p13
  have p15 : body_run.sl.H15_15 c arg13 arg14 arg15 v31 f13 f14 = accPieces arg15.view v31 (arg14.view.read (Elt F) f14) (arg13.view.read (Elt F) f13) 14 (by omega) := congrArg (accPush arg15.view v31 (arg14.view.read (Elt F) f14) (arg13.view.read (Elt F) f13) 14 (by omega)) p14
  have p16 : body_run.sl.H15_16 c arg13 arg14 arg15 v31 f13 f14 = accPieces arg15.view v31 (arg14.view.read (Elt F) f14) (arg13.view.read (Elt F) f13) 15 (by omega) := congrArg (accPush arg15.view v31 (arg14.view.read (Elt F) f14) (arg13.view.read (Elt F) f13) 15 (by omega)) p15
  have e15 : arg15.view.readCov (body_run.sl.H15_16 c arg13 arg14 arg15 v31 f13 f14) accRect.toLoadRect = accAt i fv dV dE dI := by
    rw [accAt, ← h13, ← h14, ← hv31]
    rw [p16]
    exact readCov_accPieces arg15.view v31 (arg14.view.read (Elt F) f14) (arg13.view.read (Elt F) f13) 15 (by omega)
  have eU : body_run.sl.v839 c arg1 arg12 f1 f12 = unsafeC q (headK i fk dK) := by
    rw [← hq, ← h12]; rfl
  have e16 : arg16.view.read (Elt F) (arg16.view.writes (Elt F) arg16.view.junk (body_run.sl.H16_1_1 c arg1 arg12 f1 f12))
      = k0_pay101 (lsum q (headK i fk dK) 14 (by omega)) (eC q (headK i fk dK) 15 (by omega)) := by
    rw [← hq, ← h12]; exact View.read_writes_full _ _ _ _ _
  rw [eU]
  generalize arg14.view.writes (Elt F) arg14.view.junk (body_run.sl.H14_16_1 c arg1 arg12 f1 f12) = g14 at e14 ⊢
  generalize arg16.view.writes (Elt F) arg16.view.junk (body_run.sl.H16_1_1 c arg1 arg12 f1 f12) = g16 at e16 ⊢
  iapply (branch_run (β := Σ' (v840 : Vec F S256x512 .f32), FVec F S256x512 .f32) c i arg1 harg1 arg4 harg4 arg5 harg5 arg6 harg6 arg7 harg7 arg8 harg8 arg9 harg9 arg10 harg10 arg11 harg11 arg12 harg12 arg13 harg13 arg14 harg14 arg15 harg15 arg16 harg16 _ _ _ q (headK i fk dK)
    (fun (_ : PUnit.{1}) => do
      let v840 : Vec F S256x512 .f32 ← Prog.lift (.load arg15 (Rect.unit (s := S256x512) ![0, 0] S256x512.size inb_S256x512_S256x512_0_0).toLoadRect (View.loadsAt_vmem h_S256x512))
      pure ⟨v840, k0_pay112 v840⟩) _)
  isplitl [H1 H12 H14 H16]
  · isplitl [H1]; · unfold owns; iexists f1; isplitr; · ipureintro; exact h1
                    iexact H1
    isplitl [H12]; · unfold owns; iexists f12; isplitr; · ipureintro; exact h12
                     iexact H12
    isplitl [H14]; · unfold owns; iexists g14; isplitr; · ipureintro; exact e14
                     iexact H14
    unfold owns; iexists g16; isplitr; · ipureintro; exact e16
    iexact H16
  iintro ⟨H1, H12, H14, H16⟩
  sl_exec
  sl_step
  unfold owns
  isplitl [H1]; · iexact H1
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  have hx : View.readAt (Elt F) arg4.view (Rect.unit (s := S1x256x512) ![0, 0, 0] S1x256x512.size inb_S1x256x512_S1x256x512_0_0_0).toLoadRect f4 = x := by
    rw [View.readAt_full]; exact h4
  have hwo : View.readAt (Elt F) arg5.view (Rect.unit (s := S512x512) ![0, 0] S512x512.size inb_S512x512_S512x512_0_0).toLoadRect f5 = wo := by
    rw [View.readAt_full]; exact h5
  have hso : View.readAt (Elt F) arg6.view (Rect.unit (s := S1x512) ![0, 0] S1x512.size inb_S1x512_S1x512_0_0).toLoadRect f6 = so := by
    rw [View.readAt_full]; exact h6
  have hbo : View.readAt (Elt F) arg7.view (Rect.unit (s := S1x512) ![0, 0] S1x512.size inb_S1x512_S1x512_0_0).toLoadRect f7 = bo := by
    rw [View.readAt_full]; exact h7
  isplitl [H8]
  · iexists _; isplitr; swap; · iexact H8
    ipureintro
    rw [← hx, ← hwo, ← hso, ← hbo]
    exact View.read_writes_full _ _ _ _ _
  isplitl [H9]
  · iexists _; isplitr; swap; · iexact H9
    ipureintro
    rw [← hwo, ← hso, ← hbo]
    exact View.read_writes_full _ _ _ _ _
  isplitl [H10]
  · iexists _; isplitr; swap; · iexact H10
    ipureintro
    exact View.read_writes_full _ _ _ _ _
  isplitl [H11]
  · iexists _; isplitr; swap; · iexact H11
    ipureintro
    exact View.read_writes_full _ _ _ _ _
  isplitl [Hk]; · iexact Hk
  isplitl [Hv]; · iexact Hv
  isplitl [H12]; · iexact H12
  isplitl [H13]; · iexists f13; isplitr; · ipureintro; exact h13
                   iexact H13
  isplitl [H14]; · iexact H14
  isplitl [H15]; · iexists _; iexists _; isplitr; swap; · iexact H15
                   ipureintro; rfl
  isplitl [H16]; · iexact H16
  isplitl [Hs0]; · iexact Hs0
  isplitl [Hs1]; · iexact Hs1
  iexists _; iexact HW

end Cert.KernelIdeal.Hand

end
-- ==== Proof.KernelIdeal.Frame.lean ====
/-
  Hand-written, untrusted. The run of the whole program: every grid point's scratch contents and outputs as a function
  of the launch arrays (point 0 resets whatever the scratch held), the pipeline's proof data over them, the run, and the
  frame: termination without a fault, the arguments unchanged, every semaphore counter back at zero.
-/
module

public import proofs.«01_k».proof.Proof.KernelIdeal.Body
public import proofs.«01_k».proof.Proof.Gen.KernelIdeal.Frame
public import proofs.«01_k».proof.Proof.Gen.KernelIdeal.Points
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The carried state -/

/-- What the scratch buffers carry from one grid point to the next: keys, values, exponentials, reciprocals. -/
structure St (F : FTy → Type) [FloatOps F] [Named F] where
  K : Vec F S16384x512 .bf16
  V : Vec F S16384x512 .bf16
  E : Vec F S256x16384 .f32
  I : Vec F S256x128 .f32

/-- One grid point on the carried state. -/
def stepSt (c : Dev nD) (t : Fin cfg0.N) (s : St F) : St F where
  K := headK (grid0.coords t) (V m c main_arg1) s.K
  V := headV (grid0.coords t) (V m c main_arg2) s.V
  E := nextE (iblk m c 0 t) (headK (grid0.coords t) (V m c main_arg1) s.K)
  I := nextI (iblk m c 0 t) (headK (grid0.coords t) (V m c main_arg1) s.K)

/-- The state before grid point `n` (`n > 0`; at 0 any value serves). -/
def stAt (c : Dev nD) : ℕ → St F
  | 0 => ⟨k0_pay5, k0_pay5, k0_pay4, k0_pay3⟩
  | n + 1 => if h : n < cfg0.N then stepSt m c ⟨n, h⟩ (stAt c n) else stAt c n

theorem stAt_succ (c : Dev nD) (t : Fin cfg0.N) : stAt m c (t.val + 1) = stepSt m c t (stAt m c t.val) := by
  rw [stAt, dif_pos t.isLt]

/-- The unnormalised rows grid point `t` quantises and projects. -/
def accOf (c : Dev nD) (t : Fin cfg0.N) : FVec F S256x512 .f32 :=
  accAt (grid0.coords t) (V m c main_arg2) (stAt m c t.val).V (stAt m c t.val).E (stAt m c t.val).I

/-- The body's three tests, at the grid's points. -/
theorem cond1_iff : ∀ t : Fin cfg0.N, k0_cond1 (grid0.coords t) = 1#1 ↔ t.val % 64 = 0 ∧ t.val < 128 :=
  (by decide +kernel : ∀ t : Fin grid0.N, k0_cond1 (grid0.coords t) = 1#1 ↔ t.val % 64 = 0 ∧ t.val < 128)
theorem cond2_iff : ∀ t : Fin cfg0.N, k0_cond2 (grid0.coords t) = 1#1 ↔ t.val % 64 = 1 :=
  (by decide +kernel : ∀ t : Fin grid0.N, k0_cond2 (grid0.coords t) = 1#1 ↔ t.val % 64 = 1)
theorem cond0_iff : ∀ t : Fin cfg0.N, cond0 (grid0.coords t) = 1#1 ↔ t.val = 0 :=
  (by decide +kernel : ∀ t : Fin grid0.N, cond0 (grid0.coords t) = 1#1 ↔ t.val = 0)

/-- Grid point 0 does not depend on what the scratch held. -/
theorem stepSt_zero (c : Dev nD) (t : Fin cfg0.N) (s s' : St F) (h : t.val ≠ 0 → s = s') : stepSt m c t s = stepSt m c t s' := by
  by_cases h0 : t.val = 0
  · have h1 := (cond1_iff t).mpr ⟨by omega, by omega⟩
    have h2 := (cond0_iff t).mpr h0
    unfold stepSt headK headV
    simp only [dif_pos h1, if_pos h2]
  · rw [h h0]
theorem accAt_zero (c : Dev nD) (t : Fin cfg0.N) (s s' : St F) (h : t.val ≠ 0 → s = s') :
    accAt (grid0.coords t) (V m c main_arg2) s.V s.E s.I = accAt (grid0.coords t) (V m c main_arg2) s'.V s'.E s'.I := by
  by_cases h0 : t.val = 0
  · have h2 := (cond0_iff t).mpr h0
    unfold accAt headV headE headI
    simp only [if_pos h2]
  · rw [h h0]

/-! ## The launch's resources -/

abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The HBM operands the body's transfers read: the keys and the values. -/
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbmPt c hbmK (V m c main_arg1) ∗ hbmPt c hbmV (V m c main_arg2)) := by
  rw [BI.bigSep_eq_bigSepL_of_eq [main_arg1, main_arg2] (by decide) (by decide)]; rfl

abbrev scr0 : Memref sig .tc .vmem S16384x512 .bf16 := Memref.whole cc0_scratch0
abbrev scr1 : Memref sig .tc .vmem S16384x512 .bf16 := Memref.whole cc0_scratch1
abbrev scr2 : Memref sig .tc .vmem S256x16384 .f32 := Memref.whole cc0_scratch2
abbrev scr3 : Memref sig .tc .vmem S256x512 .f32 := Memref.whole cc0_scratch3
abbrev scr4 : Memref sig .tc .vmem S256x128 .f32 := Memref.whole cc0_scratch4

theorem PhiD_eq (c : Dev nD) :
    (Pipeline.ΦD osem0 spec0 H0 (V m) c : sProp 𝕄)
      = iprop(iprop((∃ d, owns (c : Thread nD τ) scr0 fullShare d) ∗ (∃ d, owns (c : Thread nD τ) scr1 fullShare d)
                ∗ (∃ d, owns (c : Thread nD τ) scr2 fullShare d) ∗ (∃ d, owns (c : Thread nD τ) scr3 fullShare d)
                ∗ (∃ d, owns (c : Thread nD τ) scr4 fullShare d))
          ∗ (∃ r, prngReg c r)
          ∗ iprop(semVal ((c : Thread nD τ), SemLoc.dma 15) 0 ∗ semVal ((c : Thread nD τ), SemLoc.dma 16) 0)
          ∗ iprop(hbmPt c hbmK (V m c main_arg1) ∗ hbmPt c hbmV (V m c main_arg2))) := by
  rw [Pipeline.ΦD_eq, scopedRest0_eq, ownSems00_eq, hbmPts0_eq]
  simp only [scr0, scr1, scr2, scr3, scr4, owns_whole]; try rfl

/-- The invariant before point `n`: the scratch at `stAt` (at anything before point 0), the copies' cells at zero. -/
def Phi (c : Dev nD) (n : ℕ) : sProp 𝕄 :=
  iprop(∃ s : St F, ⌜n ≠ 0 → s = stAt m c n⌝ ∗ owns (c : Thread nD τ) scr0 fullShare s.K ∗ owns (c : Thread nD τ) scr1 fullShare s.V
    ∗ owns (c : Thread nD τ) scr2 fullShare s.E ∗ (∃ d, owns (c : Thread nD τ) scr3 fullShare d) ∗ owns (c : Thread nD τ) scr4 fullShare s.I
    ∗ (∃ r, prngReg c r)
    ∗ semVal ((c : Thread nD τ), SemLoc.dma 15) 0 ∗ semVal ((c : Thread nD τ), SemLoc.dma 16) 0
    ∗ hbmPt c hbmK (V m c main_arg1) ∗ hbmPt c hbmV (V m c main_arg2))

theorem Phi_in (c : Dev nD) : (Pipeline.ΦD osem0 spec0 H0 (V m) c : sProp 𝕄) ⊢ Phi m c 0 := by
  rw [PhiD_eq]; unfold Phi
  iintro ⟨⟨⟨%d0, H0⟩, ⟨%d1, H1⟩, ⟨%d2, H2⟩, H3, ⟨%d4, H4⟩⟩, Hg, ⟨Hs0, Hs1⟩, Hk, Hv⟩
  iexists (⟨d0, d1, d2, d4⟩ : St F)
  isplitr; · ipureintro; exact fun h => absurd rfl h
  isplitl [H0]; · iexact H0
  isplitl [H1]; · iexact H1
  isplitl [H2]; · iexact H2
  isplitl [H3]; · iexact H3
  isplitl [H4]; · iexact H4
  isplitl [Hg]; · iexact Hg
  isplitl [Hs0]; · iexact Hs0
  isplitl [Hs1]; · iexact Hs1
  isplitl [Hk]; · iexact Hk
  iexact Hv

theorem Phi_out (c : Dev nD) (n : ℕ) : Phi m c n ⊢ (Pipeline.ΦD osem0 spec0 H0 (V m) c : sProp 𝕄) := by
  rw [PhiD_eq]; unfold Phi
  iintro ⟨%s, -, H0, H1, H2, H3, H4, Hg, Hs0, Hs1, Hk, Hv⟩
  isplitl [H0 H1 H2 H3 H4]
  · isplitl [H0]; · iexists _; iexact H0
    isplitl [H1]; · iexists _; iexact H1
    isplitl [H2]; · iexists _; iexact H2
    isplitl [H3]; · iexact H3
    iexists _; iexact H4
  isplitl [Hg]; · iexact Hg
  isplitl [Hs0 Hs1]
  · isplitl [Hs0]; · iexact Hs0
    iexact Hs1
  isplitl [Hk]; · iexact Hk
  iexact Hv

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The pipeline's data -/

def outY (c : Dev nD) (t : Fin cfg0.N) : Vec F S1x256x512 .bf16 := oY (accOf m c t) (iblk m c 2 t) (iblk m c 3 t) (iblk m c 4 t) (iblk m c 1 t)
def outProj (c : Dev nD) (t : Fin cfg0.N) : Vec F S1x256x512 .bf16 := oProj (accOf m c t) (iblk m c 2 t) (iblk m c 3 t) (iblk m c 4 t)
def outCodes (c : Dev nD) (t : Fin cfg0.N) : Vec F S1x256x512 .fp8e4m3 := oCodes (accOf m c t)
def outScale (c : Dev nD) (t : Fin cfg0.N) : Vec F S1x1x256 .f32 := oScale (accOf m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY m c t
    | ⟨6, _⟩ => outProj m c t
    | ⟨7, _⟩ => outCodes m c t
    | ⟨8, _⟩ => outScale m c t
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outY m c t := by dsimp only [dats]
theorem after0_6 (c : Dev nD) (t : Fin cfg0.N) : (dats m 0 c).after 6 t = outProj m c t := by dsimp only [dats]
theorem after0_7 (c : Dev nD) (t : Fin cfg0.N) : (dats m 0 c).after 7 t = outCodes m c t := by dsimp only [dats]
theorem after0_8 (c : Dev nD) (t : Fin cfg0.N) : (dats m 0 c).after 8 t = outScale m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Dat.owesAt Pipeline.owesWithin
  rw [show (dats m 0 c).owed t.castSucc = 0 from rfl, show (dats m 0 c).owed t.succ = 0 from rfl]
  simp only [before0_0, before0_1, before0_2, before0_3, before0_4]
  rw [after0_0, after0_1, after0_2, after0_3, after0_4, after0_5, after0_6, after0_7, after0_8]
  unfold Phi
  iintro ⟨⟨%s, %hs, HK, HV, HE, HA, HI, Hg, Hs0, Hs1, Hk, Hv⟩, ⟨%W, -, HW⟩, ⟨%d0, H0⟩, ⟨%d1, H1⟩, ⟨%d2, H2⟩, ⟨%d3, H3⟩, ⟨%d4, H4⟩,
    ⟨%d5, H5⟩, ⟨%d6, H6⟩, ⟨%d7, H7⟩, ⟨%d8, H8⟩⟩
  iapply (wp_wand_r Idealize.ShloMosaic.frame (wpE (defs₀ (F := F)) Variants.none (c : Thread nD τ) none) Set.univ)
  isplitr [Hg]
  · iapply (body_run c (grid0.coords t) (st0_0 t) (hstage0_0 _) (st0_1 t) (hstage0_1 _) (st0_2 t) (hstage0_2 _) (st0_3 t) (hstage0_3 _) (st0_4 t) (hstage0_4 _)
      (st0_5 t) (hstage0_5 _) (st0_6 t) (hstage0_6 _) (st0_7 t) (hstage0_7 _) (st0_8 t) (hstage0_8 _)
      scr0 (Memref.isWhole_whole _) scr1 (Memref.isWhole_whole _) scr2 (Memref.isWhole_whole _) scr3 (Memref.isWhole_whole _) scr4 (Memref.isWhole_whole _)
      (V m c main_arg1) (V m c main_arg2) (iblk m c 0 t) (iblk m c 1 t) (iblk m c 2 t) (iblk m c 3 t) (iblk m c 4 t) s.K s.V s.E s.I W)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [Hk]; · iexact Hk
    isplitl [Hv]; · iexact Hv
    isplitl [HK]; · iexact HK
    isplitl [HV]; · iexact HV
    isplitl [HE]; · iexact HE
    isplitl [HA]; · iexact HA
    isplitl [HI]; · iexact HI
    isplitl [Hs0]; · iexact Hs0
    isplitl [Hs1]; · iexact Hs1
    iexact HW
  rw [accAt_zero m c t s (stAt m c t.val) hs]
  iintro %u ⟨H0, H1, H2, H3, H4, H5, H6, H7, H8, Hk, Hv, HK, HV, HE, HA, HI, Hs0, Hs1, ⟨%W', HW'⟩⟩
  isplitl [HK HV HE HA HI Hg Hs0 Hs1 Hk Hv]
  · iexists (stepSt m c t s)
    isplitr; · ipureintro; exact fun _ => (stepSt_zero m c t s _ hs).trans (stAt_succ m c t).symm
    isplitl [HK]; · iexact HK
    isplitl [HV]; · iexact HV
    isplitl [HE]; · iexact HE
    isplitl [HA]; · iexact HA
    isplitl [HI]; · iexact HI
    isplitl [Hg]; · iexact Hg
    isplitl [Hs0]; · iexact Hs0
    isplitl [Hs1]; · iexact Hs1
    isplitl [Hk]; · iexact Hk
    iexact Hv
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

/-- A run's post at the argument arrays. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 1).trans (((dats m 0 c).arrAt_in 1 rfl _).trans ((A_eq m c 1).trans (V_main_arg3 m c))),
    ((h c).1 2).trans (((dats m 0 c).arrAt_in 2 rfl _).trans ((A_eq m c 2).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- THE FRAME, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_kept m h.1 c, h.2⟩) (run_main m ρ)

end Cert.KernelIdeal.Hand

end
-- ==== Proof.KernelIdeal.Payloads.lean ====
/-
  Hand-written, untrusted. The payloads of `cc0_attention`'s attention part read at an index, over the extended reals.
-/
module

public import proofs.«01_k».proof.Proof.KernelIdeal.Canon
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open VecWindow (window put)

/-- The named scale: 1/(√512 · log 2). -/
def c2 : ℝ := (Real.sqrt 512)⁻¹ * (Real.log 2)⁻¹

theorem named_c2 : Named.named (F := Ideal) κ "sm_scale_log2e" (φ := .f32) 0x3D8293EE#32 = ((c2 : ℝ) : EReal) :=
  IdealRules.named_const.ideal_named_scalar _ _ _ _ rfl

theorem negInf : Ideal.ofBits .f32 0xFF800000#32 = (⊥ : EReal) := by
  simp [Ideal.ofBits, Ideal.ieee]

theorem pay98_apply (q : FVec Ideal S256x512 .bf16) (w : FVec Ideal S1024x512 .bf16) (r : Fin 256) (c : Fin 1024) :
    k0_pay98 q w (ix2 r c) = Ideal.exp2 ((∑ d : Fin 512, q (ix2 r d) * w (ix2 c d)) * ((c2 : ℝ) : EReal)) := by
  pointwise [k0_pay98, named_c2]
  rfl

theorem pay6_apply (q : Vec Ideal S1x256x512 .bf16) (r : Fin 256) (d : Fin 512) :
    k0_pay6 q (ix2 r d) = q (ix3 0 r d) := by
  pointwise [k0_pay6]

theorem pay9_apply (e : FVec Ideal S256x1024 .f32) (r : Fin 256) (c : Fin 1024) : k0_pay9 e (ix2 r c) = e (ix2 r c) := by
  pointwise [k0_pay9]

theorem pay10_apply (e : FVec Ideal S256x1024 .f32) (r : Fin 256) (l : Fin 128) :
    k0_pay10 e (ix2 r l) = ∑ g : Fin 8, e (ix2 r ⟨128 * g.val + l.val, by omega⟩) := by
  pointwise [k0_pay10]
  simp only [Fin.sum_univ_succ, Fin.sum_univ_zero]
  simp [add_assoc, Fin.succ]

theorem pay100_apply (s : FVec Ideal S256x128 .f32) (e : FVec Ideal S256x1024 .f32) (r : Fin 256) :
    k0_pay100 s e (ix2 r 0) = ∑ l : Fin 128, (s (ix2 r l) + k0_pay10 e (ix2 r l)) := by
  pointwise [k0_pay100, k0_pay10]

theorem pay101_apply (s : FVec Ideal S256x128 .f32) (e : FVec Ideal S256x1024 .f32) (r : Fin 256) (l : Fin 128) :
    k0_pay101 s e (ix2 r l) = Ideal.div 1 (k0_pay100 s e (ix2 r 0)) := by
  pointwise [k0_pay101]

theorem pay104_apply (q : Vec Ideal S1x256x512 .bf16) (w : Vec Ideal S256x512 .bf16) (r c : Fin 256) :
    k0_pay104 q w (ix2 r c) = (∑ d : Fin 512, q (ix3 0 r d) * w (ix2 c d)) * ((c2 : ℝ) : EReal) := by
  pointwise [k0_pay104, named_c2]

theorem pay105_apply (q : Vec Ideal S1x256x512 .bf16) (w : Vec Ideal S256x512 .bf16) (r c : Fin 256) :
    k0_pay105 q w (ix2 r c) = k0_pay104 q w (ix2 r c) := by
  pointwise [k0_pay105]

theorem pay106_apply (a : FVec Ideal S256x1 .f32) (q : Vec Ideal S1x256x512 .bf16) (w : Vec Ideal S256x512 .bf16) (r : Fin 256) :
    k0_pay106 a q w (ix2 r 0) = max (a (ix2 r 0)) (Finset.univ.fold max ⊥ fun c : Fin 256 => k0_pay104 q w (ix2 r c)) := by
  pointwise [k0_pay106]
  rw [negInf]

theorem pay109_apply (t : FVec Ideal S256x1 .f32) (w : Vec Ideal S256x256 .f32) (r c : Fin 256) :
    k0_pay109 t w (ix2 r c) = Ideal.exp2 (w (ix2 r c) - t (ix2 r 0)) := by
  pointwise [k0_pay109, k0_pay108]
  rfl

theorem pay110_apply (t a : FVec Ideal S256x1 .f32) (w : Vec Ideal S256x256 .f32) (r : Fin 256) :
    k0_pay110 t a w (ix2 r 0) = a (ix2 r 0) + ∑ c : Fin 256, Ideal.exp2 (w (ix2 r c) - t (ix2 r 0)) := by
  pointwise [k0_pay110, k0_pay108]
  rfl

theorem pay111_apply (s : FVec Ideal S256x1 .f32) (r : Fin 256) (l : Fin 128) :
    k0_pay111 s (ix2 r l) = Ideal.div 1 (s (ix2 r 0)) := by
  pointwise [k0_pay111]

theorem lanesAt_apply (d : Vec Ideal S256x16384 .f32) (n : ℕ) (h : n < 128) (r : Fin 256) (l : Fin 128) :
    lanesAt d n h (ix2 r l) = d (ix2 r ⟨128 * n + l.val, by omega⟩) :=
  congrArg d (funext fun a => by
    fin_cases a
    · exact Fin.ext (show 0 + 1 * r.val = r.val by omega)
    · exact Fin.ext (show 128 * n + 1 * l.val = 128 * n + l.val by omega))

theorem rowsAt_apply (d : Vec Ideal S16384x512 .bf16) (n : ℕ) (h : n < 16) (r : Fin 1024) (l : Fin 512) :
    rowsAt d n h (ix2 r l) = d (ix2 ⟨1024 * n + r.val, by omega⟩ l) :=
  congrArg d (funext fun a => by
    fin_cases a
    · exact Fin.ext (show 1024 * n + 1 * r.val = 1024 * n + r.val by omega)
    · exact Fin.ext (show 0 + 1 * l.val = l.val by omega))

/-- Chunk `n` of the weighted sum, where every lane of row `r` of the reciprocals holds `inv`. -/
theorem accNext_apply (dI : FVec Ideal S256x128 .f32) (dE : Vec Ideal S256x16384 .f32) (dV : Vec Ideal S16384x512 .bf16)
    (n : ℕ) (h : n < 16) (a : Vec Ideal S256x512 .f32) (r : Fin 256) (d : Fin 512) (inv : EReal)
    (hI : ∀ l, dI (ix2 r l) = inv) :
    accNext dI dE dV n h a (ix2 r d) = a (ix2 r d) + ∑ c : Fin 1024,
      dE (ix2 r ⟨1024 * n + c.val, by omega⟩) * inv * dV (ix2 ⟨1024 * n + c.val, by omega⟩ d) := by
  unfold accNext
  pointwise [k0_pay97, lanesAt_apply, rowsAt_apply, hI]
  refine congrArg _ (Finset.sum_congr rfl fun c _ => congrArg (· * _) ?_)
  have hc := c.isLt
  split_ifs <;> refine congrArg (· * inv) (congrArg dE (congrArg (ix2 r) (Fin.ext ?_))) <;> dsimp only <;> omega

theorem accFirst_apply (dI : FVec Ideal S256x128 .f32) (dE : Vec Ideal S256x16384 .f32) (dV : Vec Ideal S16384x512 .bf16)
    (h : 0 < 16) (r : Fin 256) (d : Fin 512) (inv : EReal) (hI : ∀ l, dI (ix2 r l) = inv) :
    accC dI dE dV 0 h (ix2 r d) = ∑ c : Fin 1024,
      dE (ix2 r ⟨1024 * 0 + c.val, by omega⟩) * inv * dV (ix2 ⟨1024 * 0 + c.val, by omega⟩ d) := by
  unfold accC
  pointwise [k0_pay7, lanesAt_apply, rowsAt_apply, hI]
  refine (Finset.sum_congr rfl fun c _ => congrArg₂ (· * ·) ?_ ?_)
  · have hc := c.isLt
    split_ifs <;> refine congrArg (· * inv) (congrArg dE (congrArg (ix2 r) (Fin.ext ?_))) <;> dsimp only <;> omega
  · rfl

end Cert.KernelIdeal.Hand
-- ==== Proof.SoftmaxMath.lean ====
/-
  Hand-written, untrusted. Real arithmetic of the softmax, and sums cut into blocks.
-/
module

public import Idealize.ShloMosaic.Lib.Pointwise
public import Mathlib.Analysis.SpecialFunctions.Pow.Real

@[expose] public section

noncomputable section

namespace Cert.SoftmaxMath

open Idealize.ShloMosaic

theorem coe_sum {ι : Type*} (s : Finset ι) (f : ι → ℝ) : ((∑ i ∈ s, f i : ℝ) : EReal) = ∑ i ∈ s, (f i : EReal) :=
  map_sum (⟨⟨fun x : ℝ => (x : EReal), rfl⟩, fun _ _ => rfl⟩ : ℝ →+ EReal) f s

/-- A sum over `b * a` terms, by `a` blocks of `b`. -/
theorem sum_blocks {M : Type*} [AddCommMonoid M] (f : ℕ → M) (a b : ℕ) :
    ∑ j ∈ Finset.range (b * a), f j = ∑ i ∈ Finset.range a, ∑ k ∈ Finset.range b, f (b * i + k) := by
  induction a with
  | zero => simp
  | succ a ih => rw [Nat.mul_succ, Finset.sum_range_add, ih, Finset.sum_range_succ]

theorem div_one_coe {y : ℝ} (h : y ≠ 0) : Ideal.div 1 (y : EReal) = ((y⁻¹ : ℝ) : EReal) := by
  rw [Ideal.div_coe h, one_mul, one_div]

theorem div_coe_coe {y : ℝ} (h : y ≠ 0) (x : ℝ) : Ideal.div (x : EReal) (y : EReal) = ((x * y⁻¹ : ℝ) : EReal) := by
  rw [Ideal.div_coe h, one_div, EReal.coe_mul]

theorem exp2_coe' (x : ℝ) : Ideal.exp2 (x : EReal) = ((Real.exp (Real.log 2 * x) : ℝ) : EReal) := by
  rw [Ideal.exp2_coe]
  exact congrArg _ (Real.rpow_def_of_pos (by norm_num) x)

/-- A product of finite rows, summed. -/
theorem dot_coe {K : ℕ} (a b : Fin K → EReal) (x y : Fin K → ℝ) (ha : ∀ d, a d = x d) (hb : ∀ d, b d = y d) :
    ∑ d, a d * b d = ((∑ d, x d * y d : ℝ) : EReal) := by
  rw [coe_sum]
  exact Finset.sum_congr rfl fun d _ => by rw [ha, hb, EReal.coe_mul]

/-- A nonempty fold of maxima of finite numbers is finite. -/
theorem fold_max_real {ι : Type*} (s : Finset ι) (f : ι → EReal) (x : ι → ℝ) (hf : ∀ i, f i = x i) (a : EReal)
    (ha : a = ⊥ ∨ ∃ t : ℝ, a = t) (hs : s.Nonempty ∨ ∃ t : ℝ, a = t) : ∃ t : ℝ, s.fold max a f = t := by
  classical
  have key : ∀ s : Finset ι, s.fold max a f = ⊥ ∧ a = ⊥ ∧ s = ∅ ∨ ∃ t : ℝ, s.fold max a f = t := by
    intro s
    induction s using Finset.induction_on with
    | empty =>
        rcases ha with h | h
        · exact Or.inl ⟨by simpa using h, h, rfl⟩
        · exact Or.inr (by simpa using h)
    | insert i s hi ih =>
        right
        rw [Finset.fold_insert hi, hf i]
        rcases ih with ⟨h, -⟩ | ⟨t, h⟩
        · exact ⟨x i, by rw [h]; simp⟩
        · exact ⟨max (x i) t, by rw [h]; exact (EReal.coe_strictMono.monotone.map_max).symm⟩
  rcases key s with ⟨h, h1, h2⟩ | h
  · rcases hs with hs | ⟨t, ht⟩
    · exact absurd h2 hs.ne_empty
    · rw [h1] at ht; exact absurd ht (EReal.bot_ne_coe t)
  · exact h

/-- A softmax weight does not depend on what is taken off the scores. -/
theorem softmax_shift {ι : Type*} [Fintype ι] [Nonempty ι] (s : ι → ℝ) (t : ℝ) (j : ι) :
    Real.exp (s j - t) * (∑ k, Real.exp (s k - t))⁻¹ = Real.exp (s j) * (∑ k, Real.exp (s k))⁻¹ := by
  have h : ∀ k, Real.exp (s k - t) = Real.exp (s k) * Real.exp (-t) := fun k => by rw [← Real.exp_add, sub_eq_add_neg]
  have hp : 0 < ∑ k, Real.exp (s k) := Finset.sum_pos (fun k _ => Real.exp_pos _) Finset.univ_nonempty
  simp only [h, ← Finset.sum_mul]
  have := (Real.exp_pos (-t)).ne'
  have := hp.ne'
  field_simp

theorem sum_exp_pos {ι : Type*} [Fintype ι] [Nonempty ι] (s : ι → ℝ) : 0 < ∑ k, Real.exp (s k) :=
  Finset.sum_pos (fun _ _ => Real.exp_pos _) Finset.univ_nonempty

/-- A function on the first `n` numbers, continued by zero. -/
def ext {M : Type*} [Zero M] (n : ℕ) (f : Fin n → M) (j : ℕ) : M := if h : j < n then f ⟨j, h⟩ else 0

theorem ext_of_lt {M : Type*} [Zero M] {n : ℕ} (f : Fin n → M) {j : ℕ} (h : j < n) : ext n f j = f ⟨j, h⟩ := dif_pos h

theorem sum_ext {M : Type*} [AddCommMonoid M] (n : ℕ) (f : Fin n → M) : ∑ j : Fin n, f j = ∑ j ∈ Finset.range n, ext n f j := by
  rw [Finset.sum_range]
  exact Finset.sum_congr rfl fun j _ => (ext_of_lt f j.isLt).symm

theorem sum_ext_blocks {M : Type*} [AddCommMonoid M] {n a b : ℕ} (hn : n = b * a) (f : Fin n → M) :
    ∑ j, f j = ∑ i ∈ Finset.range a, ∑ k ∈ Finset.range b, ext n f (b * i + k) := by
  subst hn
  rw [sum_ext, sum_blocks]

end Cert.SoftmaxMath
-- ==== Proof.KernelIdeal.Attend.lean ====
/-
  Hand-written, untrusted. Over the extended reals, on finite queries and keys, a block's exponentials and reciprocal row
  sums as real numbers — whichever of the two ways the body took to them — and the block's output as the softmax's sum.
-/
module

public import proofs.«01_k».proof.Proof.KernelIdeal.Payloads
public import proofs.«01_k».proof.Proof.SoftmaxMath

@[expose] public section

set_option maxRecDepth 16384

noncomputable section

namespace Cert.KernelIdeal.Hand

open Cert.KernelIdeal Cert.KernelIdeal.Gen Cert.SoftmaxMath
open Idealize.ShloMosaic Idealize.ShloMosaic.TcCoe Idealize.ShloMosaic.Tactic
open VecWindow (window put)

/-- The score of query row `a` against key row `b`. -/
def score (a b : Fin 512 → ℝ) : ℝ := (∑ d, a d * b d) / Real.sqrt 512

/-- The softmax weight of key `j` for the query row `a`. -/
def weight (a : Fin 512 → ℝ) (kr : Fin 16384 → Fin 512 → ℝ) (j : Fin 16384) : ℝ :=
  Real.exp (score a (kr j)) * (∑ k, Real.exp (score a (kr k)))⁻¹

theorem log2_c2 (x : ℝ) : Real.log 2 * (x * c2) = x / Real.sqrt 512 := by
  have h : Real.log 2 ≠ 0 := (Real.log_pos (by norm_num)).ne'
  unfold c2
  field_simp

section
variable (q : Vec Ideal S1x256x512 .bf16) (dK : Vec Ideal S16384x512 .bf16) (qr : Fin 256 → Fin 512 → ℝ)
  (kr : Fin 16384 → Fin 512 → ℝ)
  (hq : ∀ r d, q (ix3 0 r d) = ((qr r d : ℝ) : EReal)) (hk : ∀ j d, dK (ix2 j d) = ((kr j d : ℝ) : EReal))
include hq hk

theorem eC_apply (n : ℕ) (h : n < 16) (r : Fin 256) (c : Fin 1024) :
    eC q dK n h (ix2 r c) = ((Real.exp (score (qr r) (kr ⟨1024 * n + c.val, by omega⟩)) : ℝ) : EReal) := by
  unfold eC
  rw [pay98_apply]
  simp only [pay6_apply, rowsAt_apply]
  rw [dot_coe _ _ (qr r) (kr ⟨1024 * n + c.val, by omega⟩) (hq r) (hk _), ← EReal.coe_mul, exp2_coe', log2_c2]
  rfl

theorem eFull_apply (r : Fin 256) (j : Fin 16384) :
    eFull q dK (ix2 r j) = ((Real.exp (score (qr r) (kr j)) : ℝ) : EReal) := by
  unfold eFull
  refine (congrArg _ (?_ : _ = ix2 r ⟨j.val % 1024, Nat.mod_lt _ (by decide)⟩)).trans ?_
  · funext a; fin_cases a <;> rfl
  · rw [pay9_apply, eC_apply q dK qr kr hq hk]
    refine congrArg (fun i => ((Real.exp (score (qr r) (kr i)) : ℝ) : EReal)) (Fin.ext ?_)
    exact Nat.div_add_mod _ _

/-- The exponentials of row `r`, on all the natural numbers. -/
local notation "eN" r => ext 16384 fun j => Real.exp (score (qr r) (kr j))

theorem pay10_eC_apply (n : ℕ) (h : n < 16) (r : Fin 256) (l : Fin 128) :
    k0_pay10 (eC q dK n h) (ix2 r l) = ((∑ g ∈ Finset.range 8, (eN r) (1024 * n + (128 * g + l.val)) : ℝ) : EReal) := by
  rw [pay10_apply, Finset.sum_range, coe_sum]
  refine Finset.sum_congr rfl fun g _ => ?_
  rw [eC_apply q dK qr kr hq hk, ext_of_lt]

theorem lsum_apply (n : ℕ) (h : n < 16) (r : Fin 256) (l : Fin 128) :
    lsum q dK n h (ix2 r l)
      = ((∑ i ∈ Finset.range (n + 1), ∑ g ∈ Finset.range 8, (eN r) (1024 * i + (128 * g + l.val)) : ℝ) : EReal) := by
  induction n with
  | zero => rw [Finset.sum_range_one]; exact pay10_eC_apply q dK qr kr hq hk 0 h r l
  | succ n ih =>
      rw [Finset.sum_range_succ, EReal.coe_add, ← ih (by omega), ← pay10_eC_apply q dK qr kr hq hk (n + 1) h r l]
      rfl

theorem rowsum_apply (r : Fin 256) :
    k0_pay100 (lsum q dK 14 (by omega)) (eC q dK 15 (by omega)) (ix2 r 0)
      = ((∑ j, Real.exp (score (qr r) (kr j)) : ℝ) : EReal) := by
  rw [pay100_apply, sum_ext_blocks (show 16384 = 1024 * 16 from rfl)]
  have h1 : ∀ i, ∑ k ∈ Finset.range 1024, (eN r) (1024 * i + k)
      = ∑ l ∈ Finset.range 128, ∑ g ∈ Finset.range 8, (eN r) (1024 * i + (128 * g + l)) := fun i => by
    rw [show (1024 : ℕ) = 128 * 8 from rfl, sum_blocks (fun k => (eN r) (128 * 8 * i + k)), Finset.sum_comm]
  rw [Finset.sum_congr rfl fun i _ => h1 i, Finset.sum_comm, Finset.sum_range, coe_sum]
  exact Finset.sum_congr rfl fun l _ => lsum_apply q dK qr kr hq hk 15 (by omega) r l

end

/-! ### The two loops -/

theorem trips1 : k0_t1_loop.trips = 64 := by decide +kernel
theorem trips2 : k0_t2_loop.trips = 64 := by decide +kernel
theorem lt1 (k : Fin k0_t1_loop.trips) : k.val < 64 := lt_of_lt_of_eq k.isLt trips1
theorem off3_at : ∀ k : Fin k0_t1_loop.trips, k0_off3 k 0 = 256 * k.val ∧ k0_off3 k 1 = 0 := by decide +kernel
theorem off4_at : ∀ k : Fin k0_t1_loop.trips, k0_off4 k 0 = 0 ∧ k0_off4 k 1 = 256 * k.val := by decide +kernel
theorem off5_at : ∀ k : Fin k0_t2_loop.trips, k0_off5 k 0 = 0 ∧ k0_off5 k 1 = 256 * k.val := by decide +kernel

theorem window_rows (d : Vec Ideal S16384x512 .bf16) (off : Fin 2 → ℕ) (inb : ∀ a, off a + S256x512.size a ≤ S16384x512.size a)
    (k : ℕ) (hk : k < 64) (h : off 0 = 256 * k ∧ off 1 = 0) (r : Fin 256) (l : Fin 512) :
    window (s := S16384x512) d off S256x512.size inb (ix2 r l) = d (ix2 ⟨256 * k + r.val, by omega⟩ l) :=
  congrArg d (funext fun a => by
    fin_cases a
    · exact Fin.ext (show off 0 + 1 * r.val = 256 * k + r.val by omega)
    · exact Fin.ext (show off 1 + 1 * l.val = l.val by omega))

theorem window_cols (x : Vec Ideal S256x16384 .f32) (off : Fin 2 → ℕ) (inb : ∀ a, off a + S256x256.size a ≤ S256x16384.size a)
    (k : ℕ) (hk : k < 64) (h : off 0 = 0 ∧ off 1 = 256 * k) (r c : Fin 256) :
    window (s := S256x16384) x off S256x256.size inb (ix2 r c) = x (ix2 r ⟨256 * k + c.val, by omega⟩) :=
  congrArg x (funext fun a => by
    fin_cases a
    · exact Fin.ext (show off 0 + 1 * r.val = r.val by omega)
    · exact Fin.ext (show off 1 + 1 * c.val = 256 * k + c.val by omega))

theorem put_cols_in (x : Vec Ideal S256x16384 .f32) (off : Fin 2 → ℕ) (k : ℕ) (h : off 0 = 0 ∧ off 1 = 256 * k)
    (w : Vec Ideal S256x256 .f32) (r : Fin 256) (j : Fin 16384) (hj : 256 * k ≤ j.val ∧ j.val < 256 * (k + 1)) :
    put (s := S256x16384) x off S256x256.size w (ix2 r j) = w (ix2 r ⟨j.val - 256 * k, by omega⟩) := by
  unfold put
  rw [dif_pos]
  · refine congrArg w (funext fun a => ?_)
    fin_cases a
    · exact Fin.ext (show r.val - off 0 = r.val by omega)
    · exact Fin.ext (show j.val - off 1 = j.val - 256 * k by omega)
  · intro a
    fin_cases a
    · show off 0 ≤ r.val ∧ r.val < off 0 + 256; omega
    · show off 1 ≤ j.val ∧ j.val < off 1 + 256; omega

theorem put_cols_out (x : Vec Ideal S256x16384 .f32) (off : Fin 2 → ℕ) (k : ℕ) (h : off 0 = 0 ∧ off 1 = 256 * k)
    (w : Vec Ideal S256x256 .f32) (r : Fin 256) (j : Fin 16384) (hj : ¬ (256 * k ≤ j.val ∧ j.val < 256 * (k + 1))) :
    put (s := S256x16384) x off S256x256.size w (ix2 r j) = x (ix2 r j) := by
  unfold put
  rw [dif_neg]
  intro hall
  have h1 : off 1 ≤ j.val ∧ j.val < off 1 + 256 := hall 1
  omega

section
variable (q : Vec Ideal S1x256x512 .bf16) (dK : Vec Ideal S16384x512 .bf16) (qr : Fin 256 → Fin 512 → ℝ)
  (kr : Fin 16384 → Fin 512 → ℝ)
  (hq : ∀ r d, q (ix3 0 r d) = ((qr r d : ℝ) : EReal)) (hk : ∀ j d, dK (ix2 j d) = ((kr j d : ℝ) : EReal))
include hq hk

/-- The score of row `r` against key `j`, in the scale of powers of two. -/
local notation "s2" => fun (r : Fin 256) (j : Fin 16384) => (∑ d, qr r d * kr j d) * c2

theorem scores_block (k : Fin k0_t1_loop.trips) (r c : Fin 256) :
    k0_pay104 q (window dK (k0_off3 k) S256x512.size (k0_off3_inb k)) (ix2 r c)
      = ((s2 r ⟨256 * k.val + c.val, by have := lt1 k; omega⟩ : ℝ) : EReal) := by
  have hk64 : k.val < 64 := lt1 k
  rw [pay104_apply]
  have hw := window_rows dK (k0_off3 k) (k0_off3_inb k) k.val hk64 (off3_at k) c
  simp only [hw]
  rw [dot_coe _ _ (qr r) (kr ⟨256 * k.val + c.val, by omega⟩) (hq r) (hk _), ← EReal.coe_mul]

theorem scoreSt_apply (d : Vec Ideal S256x16384 .f32) (k : ℕ) (hk64 : k ≤ 64) (r : Fin 256) :
    ((k = 0 ∧ (scoreSt q dK d k).1 (ix2 r 0) = ⊥) ∨ ∃ t : ℝ, (scoreSt q dK d k).1 (ix2 r 0) = t) ∧
      ∀ j : Fin 16384, j.val < 256 * k → (scoreSt q dK d k).2 (ix2 r j) = ((s2 r j : ℝ) : EReal) := by
  induction k with
  | zero => exact ⟨Or.inl ⟨rfl, negInf⟩, fun j hj => absurd hj (by omega)⟩
  | succ k ih =>
      obtain ⟨ih1, ih2⟩ := ih (by omega)
      have e := scoreSt_succ q dK d ⟨k, trips1.symm ▸ (by omega : k < 64)⟩
      simp only at e
      rw [e]
      constructor
      · right
        unfold scoreStep
        dsimp only
        rw [pay106_apply]
        obtain ⟨t, ht⟩ := fold_max_real Finset.univ _ _ (scores_block q dK qr kr hq hk ⟨k, trips1.symm ▸ (by omega : k < 64)⟩ r) ⊥
          (Or.inl rfl) (Or.inl Finset.univ_nonempty)
        rw [ht]
        rcases ih1 with ⟨-, h⟩ | ⟨u, h⟩
        · exact ⟨t, by rw [h]; simp⟩
        · exact ⟨max u t, by rw [h]; exact (EReal.coe_strictMono.monotone.map_max).symm⟩
      · intro j hj
        unfold scoreStep
        dsimp only
        by_cases hin : 256 * k ≤ j.val ∧ j.val < 256 * (k + 1)
        · rw [put_cols_in _ _ k (off4_at _) _ r j hin, pay105_apply, scores_block q dK qr kr hq hk]
          refine congrArg (fun i => ((s2 r i : ℝ) : EReal)) (Fin.ext ?_)
          dsimp only; omega
        · rw [put_cols_out _ _ k (off4_at _) _ r j hin]
          exact ih2 j (by omega)

end

/-- The second loop: exponentials up to the trip, scores after it, and the row's sum so far. -/
theorem expSt_apply (top : FVec Ideal S256x1 .f32) (d : Vec Ideal S256x16384 .f32) (r : Fin 256) (t : ℝ) (s : Fin 16384 → ℝ)
    (ht : top (ix2 r 0) = t) (hs : ∀ j, d (ix2 r j) = ((s j : ℝ) : EReal)) (k : ℕ) (hk64 : k ≤ 64) :
    (expSt top d k).1 (ix2 r 0)
        = ((∑ i ∈ Finset.range k, ∑ c ∈ Finset.range 256, ext 16384 (fun j => Real.exp (Real.log 2 * (s j - t))) (256 * i + c) : ℝ) : EReal) ∧
      ∀ j : Fin 16384, (expSt top d k).2 (ix2 r j)
        = if j.val < 256 * k then ((Real.exp (Real.log 2 * (s j - t)) : ℝ) : EReal) else ((s j : ℝ) : EReal) := by
  induction k with
  | zero =>
      refine ⟨?_, fun j => ?_⟩
      · show Ideal.ofBits .f32 0x00000000#32 = _
        simp [Ideal.ofBits, Ideal.ieee]
      · rw [if_neg (by omega)]; exact hs j
  | succ k ih =>
      obtain ⟨ih1, ih2⟩ := ih (by omega)
      have hk : k < 64 := by omega
      have e := expSt_succ top d ⟨k, trips2.symm ▸ hk⟩
      simp only at e
      rw [e]
      have hw : ∀ c : Fin 256, window (expSt top d k).2 (k0_off5 ⟨k, trips2.symm ▸ hk⟩) S256x256.size (k0_off5_inb ⟨k, trips2.symm ▸ hk⟩) (ix2 r c)
          = ((s ⟨256 * k + c.val, by omega⟩ : ℝ) : EReal) := fun c => by
        rw [window_cols _ _ _ k hk (off5_at _) r c, ih2, if_neg (by dsimp only; omega)]
      constructor
      · unfold expStep
        dsimp only
        rw [pay110_apply, ih1, Finset.sum_range_succ, EReal.coe_add]
        refine congrArg _ ?_
        rw [Finset.sum_range, coe_sum]
        refine Finset.sum_congr rfl fun c _ => ?_
        rw [hw, ht, ← EReal.coe_sub, exp2_coe', ext_of_lt]
      · intro j
        unfold expStep
        dsimp only
        by_cases hin : 256 * k ≤ j.val ∧ j.val < 256 * (k + 1)
        · rw [put_cols_in _ _ k (off5_at _) _ r j hin, pay109_apply, hw, ht, ← EReal.coe_sub, exp2_coe', if_pos hin.2]
          refine congrArg (fun i => ((Real.exp (Real.log 2 * (s i - t)) : ℝ) : EReal)) (Fin.ext ?_)
          dsimp only; omega
        · rw [put_cols_out _ _ k (off5_at _) _ r j hin, ih2]
          exact if_congr (by omega) rfl rfl

/-! ### What a run leaves for the next -/

/-- Finite queries against finite keys: row by row the exponentials of the scores less some finite amount, and the reciprocal
    of their sum in every lane. -/
theorem next_apply (q : Vec Ideal S1x256x512 .bf16) (dK : Vec Ideal S16384x512 .bf16) (qr : Fin 256 → Fin 512 → ℝ)
    (kr : Fin 16384 → Fin 512 → ℝ)
    (hq : ∀ r d, q (ix3 0 r d) = ((qr r d : ℝ) : EReal)) (hk : ∀ j d, dK (ix2 j d) = ((kr j d : ℝ) : EReal)) (r : Fin 256) :
    ∃ t : ℝ, (∀ j, nextE q dK (ix2 r j) = ((Real.exp (score (qr r) (kr j) - t) : ℝ) : EReal)) ∧
      ∀ l, nextI q dK (ix2 r l) = (((∑ j, Real.exp (score (qr r) (kr j) - t))⁻¹ : ℝ) : EReal) := by
  unfold nextE nextI
  by_cases hu : unsafeC q dK = 1#1
  · simp only [hu, if_true]
    unfold expEnd scoreEnd
    rw [trips1]
    obtain ⟨h1, h2⟩ := scoreSt_apply q dK qr kr hq hk (eFull q dK) 64 le_rfl r
    obtain ⟨top, ht⟩ : ∃ t : ℝ, (scoreSt q dK (eFull q dK) 64).1 (ix2 r 0) = t := by
      rcases h1 with ⟨h, -⟩ | h
      · exact absurd h (by norm_num)
      · exact h
    obtain ⟨e1, e2⟩ := expSt_apply _ _ r top _ ht (fun j => h2 j (by have := j.isLt; omega)) 64 le_rfl
    have hexp : ∀ j, Real.exp (Real.log 2 * ((∑ d, qr r d * kr j d) * c2 - top))
        = Real.exp (score (qr r) (kr j) - Real.log 2 * top) := fun j => by
      rw [mul_sub, log2_c2]; rfl
    refine ⟨Real.log 2 * top, fun j => ?_, fun l => ?_⟩
    · rw [e2, if_pos (by have := j.isLt; omega), hexp]
    · rw [pay111_apply, e1, ← sum_ext_blocks (show 16384 = 256 * 64 from rfl)]
      simp only [hexp]
      exact div_one_coe (sum_exp_pos _).ne'
  · simp only [hu, if_false]
    refine ⟨0, fun j => ?_, fun l => ?_⟩
    · rw [eFull_apply q dK qr kr hq hk, sub_zero]
    · rw [pay101_apply, rowsum_apply q dK qr kr hq hk]
      simp only [sub_zero]
      exact div_one_coe (sum_exp_pos _).ne'

/-! ### A block's output -/

theorem accC_apply (dI : FVec Ideal S256x128 .f32) (dE : Vec Ideal S256x16384 .f32) (dV : Vec Ideal S16384x512 .bf16)
    (n : ℕ) (h : n < 16) (r : Fin 256) (d : Fin 512) (inv : EReal) (hI : ∀ l, dI (ix2 r l) = inv) :
    accC dI dE dV n h (ix2 r d) = ∑ i ∈ Finset.range (n + 1), ∑ c ∈ Finset.range 1024,
      ext 16384 (fun j => dE (ix2 r j) * inv * dV (ix2 j d)) (1024 * i + c) := by
  have block : ∀ n (h : n < 16), ∑ c : Fin 1024, dE (ix2 r ⟨1024 * n + c.val, by omega⟩) * inv * dV (ix2 ⟨1024 * n + c.val, by omega⟩ d)
      = ∑ c ∈ Finset.range 1024, ext 16384 (fun j => dE (ix2 r j) * inv * dV (ix2 j d)) (1024 * n + c) := fun n h => by
    rw [Finset.sum_range]
    exact Finset.sum_congr rfl fun c _ => by rw [ext_of_lt]
  induction n with
  | zero => rw [Finset.sum_range_one, accFirst_apply dI dE dV h r d inv hI]; exact block 0 h
  | succ n ih =>
      rw [Finset.sum_range_succ, ← ih (by omega) block, ← block (n + 1) h]
      exact accNext_apply dI dE dV (n + 1) h _ r d inv hI

/-- The output row: the values weighted by the softmax. -/
theorem accC_softmax (dI : FVec Ideal S256x128 .f32) (dE : Vec Ideal S256x16384 .f32) (dV : Vec Ideal S16384x512 .bf16)
    (a : Fin 512 → ℝ) (kr : Fin 16384 → Fin 512 → ℝ) (r : Fin 256) (t : ℝ)
    (hE : ∀ j, dE (ix2 r j) = ((Real.exp (score a (kr j) - t) : ℝ) : EReal))
    (hI : ∀ l, dI (ix2 r l) = (((∑ j, Real.exp (score a (kr j) - t))⁻¹ : ℝ) : EReal)) (d : Fin 512) :
    accC dI dE dV 15 (by omega) (ix2 r d) = ∑ j : Fin 16384, ((weight a kr j : ℝ) : EReal) * dV (ix2 j d) := by
  rw [accC_apply dI dE dV 15 _ r d _ hI, ← sum_ext_blocks (show 16384 = 1024 * 16 from rfl)]
  refine Finset.sum_congr rfl fun j _ => ?_
  rw [hE, ← EReal.coe_mul, softmax_shift (fun k => score a (kr k)) t j]
  rfl

end Cert.KernelIdeal.Hand
-- ==== Proof.QuantMath.lean ====
/-
  Hand-written, untrusted. The power of two a row is quantised by: the exponent field found by halving steps on the words
  against the base-two logarithm's floor, and the quantised row and its projection as functions of the row.
-/
module

public import Idealize.ShloMosaic.Lib.Pointwise
public import Mathlib.Analysis.SpecialFunctions.Pow.Real

@[expose] public section

noncomputable section

namespace Cert.QuantMath

open Idealize.ShloMosaic

/-- The number whose exponent field is `g` and whose fraction is zero. -/
def th (g : ℕ) : ℝ := (2 : ℝ) ^ ((g : ℤ) - 127)

theorem th_pos (g : ℕ) : 0 < th g := zpow_pos (by norm_num) _
theorem th_lt {g g' : ℕ} (h : th g < th g') : g < g' := by
  have := (zpow_lt_zpow_iff_right₀ (by norm_num : (1 : ℝ) < 2)).mp h
  omega

abbrev fieldWord (w : BitVec 32) : BitVec 32 := IntOp.shli .vector w 23#32

theorem field_bits : ∀ g : Fin 256, (fieldWord (BitVec.ofNat 32 g.val)).extractLsb' 31 1 = 0#1 ∧
    ((fieldWord (BitVec.ofNat 32 g.val)).extractLsb' 23 8).toNat = g.val ∧
    ((fieldWord (BitVec.ofNat 32 g.val)).extractLsb' 0 23).toNat = 0 := by decide +kernel

theorem ofBits_field (g : ℕ) (h1 : 1 ≤ g) (h2 : g ≤ 254) :
    Ideal.ofBits .f32 (fieldWord (BitVec.ofNat 32 g)) = ((th g : ℝ) : EReal) := by
  obtain ⟨a, b, c⟩ := field_bits ⟨g, by omega⟩
  dsimp only at a b c
  unfold Ideal.ofBits Ideal.ieee
  dsimp only
  rw [show (8 + 23 : ℕ) = 31 from rfl, a, b, c, if_neg (by omega), if_neg (by omega)]
  refine congrArg _ ?_
  have hb : ((0#1 : BitVec 1) == 1#1) = false := rfl
  rw [hb]
  unfold th
  simp only [Bool.false_eq_true, if_false, one_mul, Nat.add_zero]
  have e : ((8388608 : ℕ) : ℝ) = (2 : ℝ) ^ (23 : ℤ) := by norm_num
  have e' : (g : ℤ) - (2 ^ (8 - 1) - 1) - (23 : ℕ) = (g : ℤ) - 150 := by norm_num; ring
  rw [show (2 ^ 23 : ℕ) = 8388608 from by norm_num, e, e', ← zpow_add₀ (by norm_num : (2 : ℝ) ≠ 0)]
  exact congrArg _ (by ring)

theorem ofBits_field_top : Ideal.ofBits .f32 (fieldWord (BitVec.ofNat 32 255)) = (⊤ : EReal) := by
  obtain ⟨a, b, c⟩ := field_bits ⟨255, by omega⟩
  dsimp only at a b c
  unfold Ideal.ofBits Ideal.ieee
  dsimp only
  rw [show (8 + 23 : ℕ) = 31 from rfl, a, b, c, if_pos (by norm_num), if_pos rfl]
  rfl

/-- One halving step, on the words: the bits of `s` are added to the field where the number is not below the result. -/
def stepW (R : EReal) (s f : BitVec 32) : BitVec 32 :=
  if Ideal.cmp .oge R (Ideal.ofBits .f32 (fieldWord (IntOp.addi f s))) = 1#1 then IntOp.addi f s else f

/-- The same step on the numbers. -/
def stepN (ρ : ℝ) (s f : ℕ) : ℕ := if th (f + s) ≤ ρ then f + s else f

theorem stepN_le (ρ : ℝ) (s f : ℕ) : stepN ρ s f ≤ f + s := by unfold stepN; split_ifs <;> omega

theorem stepN_spec (ρ : ℝ) (s f : ℕ) (h1 : f = 0 ∨ th f ≤ ρ) (h2 : ρ < th (f + (s + s))) :
    (stepN ρ s f = 0 ∨ th (stepN ρ s f) ≤ ρ) ∧ ρ < th (stepN ρ s f + s) := by
  unfold stepN
  split_ifs with h
  · exact ⟨Or.inr h, by rwa [Nat.add_assoc]⟩
  · exact ⟨h1, not_le.mp h⟩

theorem cmp_oge (x y : EReal) : Ideal.cmp .oge x y = 1#1 ↔ y ≤ x := by
  unfold Ideal.cmp
  by_cases h : y ≤ x <;> simp [h]

theorem stepW_eq (ρ : ℝ) (hρ : ρ < th 253) (s f : ℕ) (hs : 1 ≤ s) (hf : f + s ≤ 255) :
    stepW (ρ : EReal) (BitVec.ofNat 32 s) (BitVec.ofNat 32 f) = BitVec.ofNat 32 (stepN ρ s f) := by
  have hadd : IntOp.addi (BitVec.ofNat 32 f) (BitVec.ofNat 32 s) = BitVec.ofNat 32 (f + s) := (BitVec.ofNat_add f s).symm
  unfold stepW stepN
  rw [hadd]
  have hiff : Ideal.cmp .oge (ρ : EReal) (Ideal.ofBits .f32 (fieldWord (BitVec.ofNat 32 (f + s)))) = 1#1 ↔ th (f + s) ≤ ρ := by
    rw [cmp_oge]
    by_cases h : f + s = 255
    · rw [h, ofBits_field_top]
      refine ⟨fun h' => absurd h' (not_le.mpr (EReal.coe_lt_top ρ)), fun h' => ?_⟩
      exact absurd (th_lt (lt_of_le_of_lt h' hρ)) (by omega)
    · rw [ofBits_field _ (by omega) (by omega)]
      exact EReal.coe_le_coe_iff
  by_cases h : th (f + s) ≤ ρ
  · rw [if_pos (hiff.mpr h), if_pos h]
  · rw [if_neg (fun h' => h (hiff.mp h')), if_neg h]

/-- The exponent field of a number below the largest binades, by eight steps. -/
def fieldN (ρ : ℝ) : ℕ :=
  stepN ρ 1 (stepN ρ 2 (stepN ρ 4 (stepN ρ 8 (stepN ρ 16 (stepN ρ 32 (stepN ρ 64 (stepN ρ 128 0)))))))

def fieldW (R : EReal) : BitVec 32 :=
  stepW R 1#32 (stepW R 2#32 (stepW R 4#32 (stepW R 8#32 (stepW R 16#32 (stepW R 32#32 (stepW R 64#32 (stepW R 128#32 0#32)))))))

theorem fieldW_eq (ρ : ℝ) (hρ : ρ < th 253) : fieldW (ρ : EReal) = BitVec.ofNat 32 (fieldN ρ) := by
  unfold fieldW fieldN
  have h1 := stepN_le ρ 128 0
  have h2 := stepN_le ρ 64 (stepN ρ 128 0)
  have h3 := stepN_le ρ 32 (stepN ρ 64 (stepN ρ 128 0))
  have h4 := stepN_le ρ 16 (stepN ρ 32 (stepN ρ 64 (stepN ρ 128 0)))
  have h5 := stepN_le ρ 8 (stepN ρ 16 (stepN ρ 32 (stepN ρ 64 (stepN ρ 128 0))))
  have h6 := stepN_le ρ 4 (stepN ρ 8 (stepN ρ 16 (stepN ρ 32 (stepN ρ 64 (stepN ρ 128 0)))))
  have h7 := stepN_le ρ 2 (stepN ρ 4 (stepN ρ 8 (stepN ρ 16 (stepN ρ 32 (stepN ρ 64 (stepN ρ 128 0))))))
  rw [stepW_eq ρ hρ 128 0 (by omega) (by omega), stepW_eq ρ hρ 64 _ (by omega) (by omega), stepW_eq ρ hρ 32 _ (by omega) (by omega),
    stepW_eq ρ hρ 16 _ (by omega) (by omega), stepW_eq ρ hρ 8 _ (by omega) (by omega), stepW_eq ρ hρ 4 _ (by omega) (by omega),
    stepW_eq ρ hρ 2 _ (by omega) (by omega), stepW_eq ρ hρ 1 _ (by omega) (by omega)]

theorem fieldN_spec (ρ : ℝ) (hρ : ρ < th 253) : (fieldN ρ = 0 ∨ th (fieldN ρ) ≤ ρ) ∧ ρ < th (fieldN ρ + 1) ∧ fieldN ρ ≤ 252 := by
  have h0 : ρ < th (0 + (128 + 128)) := hρ.trans (zpow_lt_zpow_right₀ (by norm_num) (by norm_num))
  obtain ⟨a1, b1⟩ := stepN_spec ρ 128 0 (Or.inl rfl) h0
  obtain ⟨a2, b2⟩ := stepN_spec ρ 64 _ a1 b1
  obtain ⟨a3, b3⟩ := stepN_spec ρ 32 _ a2 b2
  obtain ⟨a4, b4⟩ := stepN_spec ρ 16 _ a3 b3
  obtain ⟨a5, b5⟩ := stepN_spec ρ 8 _ a4 b4
  obtain ⟨a6, b6⟩ := stepN_spec ρ 4 _ a5 b5
  obtain ⟨a7, b7⟩ := stepN_spec ρ 2 _ a6 b6
  obtain ⟨a8, b8⟩ := stepN_spec ρ 1 _ a7 b7
  refine ⟨a8, b8, ?_⟩
  rcases a8 with h | h
  · exact (le_of_eq h).trans (by omega)
  · have := th_lt (lt_of_le_of_lt h hρ)
    unfold fieldN
    omega

/-- The exponent the rows are quantised by: zero for a number without a normal one. -/
def expo (ρ : ℝ) : ℤ := if ρ < (2 : ℝ) ^ (-126 : ℤ) then 0 else ⌊Real.log ρ / Real.log 2⌋ + 1

theorem expo_eq (ρ : ℝ) (hρ : ρ < th 253) : expo ρ = if fieldN ρ = 0 then 0 else (fieldN ρ : ℤ) - 126 := by
  obtain ⟨h1, h2, h3⟩ := fieldN_spec ρ hρ
  have hl2 : 0 < Real.log 2 := Real.log_pos (by norm_num)
  unfold expo
  by_cases h0 : fieldN ρ = 0
  · rw [if_pos h0, if_pos]
    rw [h0] at h2
    exact h2
  · have h1 : th (fieldN ρ) ≤ ρ := h1.resolve_left h0
    have hlow : (2 : ℝ) ^ (-126 : ℤ) ≤ ρ := le_trans (zpow_le_zpow_right₀ (by norm_num) (by omega)) h1
    rw [if_neg h0, if_neg (not_lt.mpr hlow)]
    have hpos : 0 < ρ := lt_of_lt_of_le (th_pos _) h1
    have hfl : ⌊Real.log ρ / Real.log 2⌋ = (fieldN ρ : ℤ) - 127 := by
      rw [Int.floor_eq_iff]
      constructor
      · rw [le_div_iff₀ hl2, ← Real.log_zpow]
        exact Real.log_le_log (th_pos _) h1
      · rw [div_lt_iff₀ hl2]
        have : Real.log ρ < Real.log (th (fieldN ρ + 1)) := Real.log_lt_log hpos h2
        unfold th at this
        rw [Real.log_zpow] at this
        push_cast at this ⊢
        linarith
    rw [hfl]; ring

/-- The exponent from the field, on the words. -/
def expoW (f : BitVec 32) : BitVec 32 :=
  if IntOp.ori (IntOp.cmpi .eq f 0#32) (IntOp.cmpi .eq f 255#32) = 1#1 then 0#32 else IntOp.subi f 126#32

theorem expoW_field : ∀ f : Fin 253, IntOp.addi (expoW (BitVec.ofNat 32 f.val)) 127#32 = BitVec.ofNat 32 (if f.val = 0 then 127 else f.val + 1) ∧
    IntOp.subi 127#32 (expoW (BitVec.ofNat 32 f.val)) = BitVec.ofNat 32 (if f.val = 0 then 127 else 253 - f.val) := by decide +kernel

/-- The power of two and its inverse, as the words are read. -/
theorem scale_word (ρ : ℝ) (hρ : ρ < th 253) :
    Ideal.ofBits .f32 (fieldWord (IntOp.addi (expoW (fieldW ρ)) 127#32)) = (((2 : ℝ) ^ expo ρ : ℝ) : EReal) := by
  obtain ⟨-, -, h3⟩ := fieldN_spec ρ hρ
  rw [fieldW_eq ρ hρ, (expoW_field ⟨fieldN ρ, by omega⟩).1, expo_eq ρ hρ]
  dsimp only
  split_ifs with h
  · rw [ofBits_field 127 (by omega) (by omega)]; norm_num [th]
  · rw [ofBits_field _ (by omega) (by omega)]
    unfold th
    refine congrArg _ (congrArg _ ?_)
    omega

theorem inv_word (ρ : ℝ) (hρ : ρ < th 253) :
    Ideal.ofBits .f32 (fieldWord (IntOp.subi 127#32 (expoW (fieldW ρ)))) = (((2 : ℝ) ^ (-expo ρ) : ℝ) : EReal) := by
  obtain ⟨-, -, h3⟩ := fieldN_spec ρ hρ
  rw [fieldW_eq ρ hρ, (expoW_field ⟨fieldN ρ, by omega⟩).2, expo_eq ρ hρ]
  dsimp only
  split_ifs with h
  · rw [ofBits_field 127 (by omega) (by omega)]; norm_num [th]
  · rw [ofBits_field _ (by omega) (by omega)]
    unfold th
    refine congrArg _ (congrArg _ ?_)
    omega

theorem ofBits_min_normal : Ideal.ofBits .f32 0x00800000#32 = (((2 : ℝ) ^ (-126 : ℤ) : ℝ) : EReal) := by
  have := ofBits_field 1 le_rfl (by omega)
  rw [show fieldWord (BitVec.ofNat 32 1) = 0x00800000#32 by decide] at this
  exact this
theorem ofBits_one : Ideal.ofBits .f32 0x3F800000#32 = ((1 : ℝ) : EReal) := by
  have := ofBits_field 127 (by omega) (by omega)
  rw [show fieldWord (BitVec.ofNat 32 127) = 0x3F800000#32 by decide] at this
  rw [this]; norm_num [th]
theorem ofBits_two : Ideal.ofBits .f32 0x40000000#32 = ((2 : ℝ) : EReal) := by
  have := ofBits_field 128 (by omega) (by omega)
  rw [show fieldWord (BitVec.ofNat 32 128) = 0x40000000#32 by decide] at this
  rw [this]; norm_num [th]

/-- The same exponent by logarithms. -/
theorem expo_log (ρ : ℝ) (h0 : 0 ≤ ρ) :
    (if Ideal.cmp .olt (ρ : EReal) (Ideal.ofBits .f32 0x00800000#32) = 1#1 then (0 : EReal)
      else Ideal.liftRound Int.floor (Ideal.div (Ideal.log (ρ : EReal)) (Ideal.log (Ideal.ofBits .f32 0x40000000#32))) + Ideal.ofBits .f32 0x3F800000#32)
    = ((expo ρ : ℝ) : EReal) := by
  have hl2 : 0 < Real.log 2 := Real.log_pos (by norm_num)
  have hc : Ideal.cmp .olt (ρ : EReal) (((2 : ℝ) ^ (-126 : ℤ) : ℝ) : EReal) = 1#1 ↔ ρ < (2 : ℝ) ^ (-126 : ℤ) := by
    unfold Ideal.cmp
    by_cases h : ρ < (2 : ℝ) ^ (-126 : ℤ) <;> simp only [EReal.coe_lt_coe_iff, h, decide_true, decide_false] <;> decide
  rw [ofBits_min_normal, ofBits_one, ofBits_two]
  unfold expo
  by_cases h : ρ < (2 : ℝ) ^ (-126 : ℤ)
  · rw [if_pos (hc.mpr h), if_pos h]; simp
  · have hpos : 0 < ρ := lt_of_lt_of_le (zpow_pos (by norm_num) _) (not_lt.mp h)
    rw [if_neg (fun h' => h (hc.mp h')), if_neg h, Ideal.log_coe, Ideal.log_coe, if_neg (not_le.mpr hpos), if_neg (by norm_num),
      Ideal.div_coe hl2.ne', ← EReal.coe_mul, Ideal.liftRound_coe, ← EReal.coe_add, mul_one_div]
    push_cast
    rfl

theorem exp2_int (n : ℤ) : Ideal.exp2 ((n : ℝ) : EReal) = (((2 : ℝ) ^ n : ℝ) : EReal) := by
  rw [Ideal.exp2_coe]
  exact congrArg _ (Real.rpow_intCast 2 n)

/-! ### A row quantised and projected -/

/-- What the power of two is taken of: the row's largest absolute value, scaled. -/
def amax (a : Fin 512 → EReal) : EReal :=
  (Finset.univ.fold max (Ideal.ofBits .f32 0xFF800000#32) fun d => max (a d) (-(a d))) * Ideal.ofBits .f32 0x3B124925#32

def code (a : Fin 512 → EReal) (ρ : ℝ) (d : Fin 512) : EReal :=
  min (Ideal.ofBits .f32 0x43E00000#32) (max (Ideal.ofBits .f32 0xC3E00000#32) (a d * (((2 : ℝ) ^ (-expo ρ) : ℝ) : EReal)))

def proj (a : Fin 512 → EReal) (ρ : ℝ) (wo : Fin 512 → Fin 512 → EReal) (so bo : Fin 512 → EReal) (n : Fin 512) : EReal :=
  (∑ d, code a ρ d * wo d n) * (((2 : ℝ) ^ expo ρ : ℝ) : EReal) * so n + bo n

end Cert.QuantMath
-- ==== Proof.KernelIdeal.Results.lean ====
/-
  Hand-written, untrusted. The four results as functions of the arguments, index by index: the attention output, which is
  quantised row by row and projected.
-/
module

public import proofs.«01_k».proof.Proof.KernelIdeal.Attend
public import proofs.«01_k».proof.Proof.QuantMath

@[expose] public section

noncomputable section

namespace Cert.KernelIdeal.Hand

open Cert.KernelIdeal Cert.QuantMath
open Idealize.ShloMosaic

/-- The attention output: row `i` of batch `b`. -/
def att (qR kR : Fin 2 → Fin 16384 → Fin 512 → ℝ) (va : Vec Ideal S2x16384x512 .bf16) (b : Fin 2) (i : Fin 16384) (d : Fin 512) : EReal :=
  ∑ j : Fin 16384, ((weight (qR b i) (kR b) j : ℝ) : EReal) * va (ix3 b j d)

/-- The scales' exponent is taken of this real, where the row's largest absolute value is one. -/
def rho (a : Fin 2 → Fin 16384 → Fin 512 → EReal) (b : Fin 2) (i : Fin 16384) : ℝ := (amax (a b i)).toReal

section
variable (a : Fin 2 → Fin 16384 → Fin 512 → EReal) (x : Vec Ideal S2x16384x512 .bf16) (wo : Vec Ideal S512x512 .fp8e4m3) (so bo : Vec Ideal S512 .f32)

def projOf (b : Fin 2) (i : Fin 16384) (n : Fin 512) : EReal :=
  proj (a b i) (rho a b i) (fun d n => wo (ix2 d n)) (fun n => so (ix1 n)) (fun n => bo (ix1 n)) n

def resY : Vec Ideal S2x16384x512 .bf16 := fun j => x j + projOf a wo so bo (j 0) (j 1) (j 2)
def resProj : Vec Ideal S2x16384x512 .bf16 := fun j => projOf a wo so bo (j 0) (j 1) (j 2)
def resCodes : Vec Ideal S2x16384x512 .fp8e4m3 := fun j => code (a (j 0) (j 1)) (rho a (j 0) (j 1)) (j 2)
def resScale : Vec Ideal S2x1x16384 .f32 := fun j => (((2 : ℝ) ^ expo (rho a (j 0) (j 2)) : ℝ) : EReal)
end

end Cert.KernelIdeal.Hand
-- ==== Proof.KernelIdeal.Rows.lean ====
/-
  Hand-written, untrusted. What the scratch buffers hold from point to point, over the extended reals on finite queries and
  keys, and with it the attention output that each point finishes.
-/
module

public import proofs.«01_k».proof.Proof.KernelIdeal.Frame
public import proofs.«01_k».proof.Proof.KernelIdeal.Results

@[expose] public section

set_option maxRecDepth 16384

noncomputable section

namespace Cert.KernelIdeal.Hand

open Cert.KernelIdeal Cert.KernelIdeal.Gen Cert.SoftmaxMath
open Idealize.ShloMosaic Idealize.ShloMosaic.TcCoe Idealize.ShloMosaic.Tactic
open Idealize.SL.Sem

/-- The batch of block `p` of the 128 blocks of queries, and row `r` of the block in its batch. -/
def bOf (p : ℕ) : Fin 2 := ⟨p / 64 % 2, Nat.mod_lt _ (by decide)⟩
def rOf (p : ℕ) (r : Fin 256) : Fin 16384 := ⟨256 * (p % 64) + r.val, by omega⟩

theorem idx_q : ∀ t : Fin cfg0.N, win0_0.index t 0 = min t.val 127 / 64 ∧ win0_0.index t 1 = min t.val 127 % 64 ∧ win0_0.index t 2 = 0 :=
  (by decide +kernel : ∀ t : Fin grid0.N, win0_0.index t 0 = min t.val 127 / 64 ∧ win0_0.index t 1 = min t.val 127 % 64 ∧ win0_0.index t 2 = 0)
theorem off_k : ∀ t : Fin cfg0.N, k0_cond1 (grid0.coords t) = 1#1 →
    k0_off1 (grid0.coords t) 0 = t.val / 64 ∧ k0_off1 (grid0.coords t) 1 = 0 ∧ k0_off1 (grid0.coords t) 2 = 0 :=
  (by decide +kernel : ∀ t : Fin grid0.N, k0_cond1 (grid0.coords t) = 1#1 →
    k0_off1 (grid0.coords t) 0 = t.val / 64 ∧ k0_off1 (grid0.coords t) 1 = 0 ∧ k0_off1 (grid0.coords t) 2 = 0)
theorem off_v : ∀ t : Fin cfg0.N, k0_cond2 (grid0.coords t) = 1#1 →
    k0_off2 (grid0.coords t) 0 = (t.val - 1) / 64 ∧ k0_off2 (grid0.coords t) 1 = 0 ∧ k0_off2 (grid0.coords t) 2 = 0 :=
  (by decide +kernel : ∀ t : Fin grid0.N, k0_cond2 (grid0.coords t) = 1#1 →
    k0_off2 (grid0.coords t) 0 = (t.val - 1) / 64 ∧ k0_off2 (grid0.coords t) 1 = 0 ∧ k0_off2 (grid0.coords t) 2 = 0)

variable (m : (ℓ : Loc nD τ sig) → Buf (Elt Ideal) ℓ) (c : Dev nD)

theorem t_lt (t : Fin cfg0.N) : t.val < 129 := lt_of_lt_of_eq t.isLt N_0

theorem q_read (t : Fin cfg0.N) (r : Fin 256) (d : Fin 512) :
    (iblk m c 0 t : Vec Ideal S1x256x512 .bf16) (ix3 0 r d)
      = (V m c main_arg0 : Vec Ideal S2x16384x512 .bf16) (ix3 (bOf (min t.val 127)) (rOf (min t.val 127) r) d) := by
  obtain ⟨h0, h1, h2⟩ := idx_q t
  refine congrArg (V m c main_arg0) (funext fun a => ?_)
  fin_cases a
  · refine Fin.ext (show win0_0.index t 0 * 1 + 1 * 0 = min t.val 127 / 64 % 2 from ?_); omega
  · refine Fin.ext (show win0_0.index t 1 * 256 + 1 * r.val = 256 * (min t.val 127 % 64) + r.val from ?_); omega
  · refine Fin.ext (show win0_0.index t 2 * 512 + 1 * d.val = d.val from ?_); omega

theorem squeeze_read (x : Vec Ideal S1x16384x512 .bf16) (h : S1x16384x512.ShapeCasts S16384x512) (j : Fin 16384) (d : Fin 512) :
    shapeCast S16384x512 x h (ix2 j d) = x (ix3 0 j d) := by
  pointwise

theorem k_read (t : Fin cfg0.N) (h : k0_cond1 (grid0.coords t) = 1#1) (f : Vec Ideal S2x16384x512 .bf16) (j : Fin 16384) (d : Fin 512) :
    ((kSrc (grid0.coords t) h).view.read (Elt Ideal) f : Vec Ideal S16384x512 .bf16) (ix2 j d) = f (ix3 (bOf t.val) j d) := by
  have ht := t_lt t
  obtain ⟨h0, h1, h2⟩ := off_k t h
  refine (squeeze_read (fun y => f ((Rect.unit (s := S2x16384x512) (k0_off1 (grid0.coords t)) S1x16384x512.size (k0_off1_inb _ h)).emb y))
    (by decide) j d).trans (congrArg f (funext fun a => ?_))
  have h64 : t.val / 64 < 2 := by have := (cond1_iff t).mp h; omega
  fin_cases a
  · refine Fin.ext (show k0_off1 (grid0.coords t) 0 + 1 * 0 = t.val / 64 % 2 from ?_); omega
  · refine Fin.ext (show k0_off1 (grid0.coords t) 1 + 1 * j.val = j.val from ?_); omega
  · refine Fin.ext (show k0_off1 (grid0.coords t) 2 + 1 * d.val = d.val from ?_); omega

theorem v_read (t : Fin cfg0.N) (h : k0_cond2 (grid0.coords t) = 1#1) (f : Vec Ideal S2x16384x512 .bf16) (j : Fin 16384) (d : Fin 512) :
    ((vSrc (grid0.coords t) h).view.read (Elt Ideal) f : Vec Ideal S16384x512 .bf16) (ix2 j d) = f (ix3 (bOf (t.val - 1)) j d) := by
  have ht := t_lt t
  obtain ⟨h0, h1, h2⟩ := off_v t h
  refine (squeeze_read (fun y => f ((Rect.unit (s := S2x16384x512) (k0_off2 (grid0.coords t)) S1x16384x512.size (k0_off2_inb _ h)).emb y))
    (by decide) j d).trans (congrArg f (funext fun a => ?_))
  have h64 : (t.val - 1) / 64 < 2 := by have := (cond2_iff t).mp h; omega
  fin_cases a
  · refine Fin.ext (show k0_off2 (grid0.coords t) 0 + 1 * 0 = (t.val - 1) / 64 % 2 from ?_); omega
  · refine Fin.ext (show k0_off2 (grid0.coords t) 1 + 1 * j.val = j.val from ?_); omega
  · refine Fin.ext (show k0_off2 (grid0.coords t) 2 + 1 * d.val = d.val from ?_); omega

section
variable (qR kR : Fin 2 → Fin 16384 → Fin 512 → ℝ)
  (hq : ∀ b i d, (V m c main_arg0 : Vec Ideal S2x16384x512 .bf16) (ix3 b i d) = ((qR b i d : ℝ) : EReal))
  (hk : ∀ b i d, (V m c main_arg1 : Vec Ideal S2x16384x512 .bf16) (ix3 b i d) = ((kR b i d : ℝ) : EReal))

/-- The keys' copy after point `t`: the batch of the block of queries the point has scored. -/
theorem K_succ (t : Fin cfg0.N) (hK : 0 < t.val → ∀ j d, (stAt m c t.val).K (ix2 j d)
      = (V m c main_arg1 : Vec Ideal S2x16384x512 .bf16) (ix3 (bOf (min (t.val - 1) 127)) j d)) (j : Fin 16384) (d : Fin 512) :
    (stAt m c (t.val + 1)).K (ix2 j d) = (V m c main_arg1 : Vec Ideal S2x16384x512 .bf16) (ix3 (bOf (min t.val 127)) j d) := by
  have ht := t_lt t
  rw [stAt_succ]
  show headK (grid0.coords t) (V m c main_arg1) (stAt m c t.val).K (ix2 j d) = _
  unfold headK
  by_cases h : k0_cond1 (grid0.coords t) = 1#1
  · rw [dif_pos h, k_read t h]
    have := (cond1_iff t).mp h
    rw [show min t.val 127 = t.val by omega]
  · rw [dif_neg h, hK (by by_contra h0; exact h ((cond1_iff t).mpr (by omega)))]
    have : ¬ (t.val % 64 = 0 ∧ t.val < 128) := fun h' => h ((cond1_iff t).mpr h')
    refine congrArg (fun b => (V m c main_arg1 : Vec Ideal S2x16384x512 .bf16) (ix3 b j d)) (Fin.ext ?_)
    show min (t.val - 1) 127 / 64 % 2 = min t.val 127 / 64 % 2
    omega

theorem K_at (n : ℕ) (hn : n < 129) : ∀ j d, (stAt m c (n + 1)).K (ix2 j d)
    = (V m c main_arg1 : Vec Ideal S2x16384x512 .bf16) (ix3 (bOf (min n 127)) j d) := by
  induction n with
  | zero => exact K_succ m c ⟨0, lt_of_lt_of_eq hn N_0.symm⟩ (fun h => absurd h (lt_irrefl _))
  | succ n ih => exact K_succ m c ⟨n + 1, lt_of_lt_of_eq hn N_0.symm⟩ (fun _ => ih (by omega))

theorem headV_pos (t : Fin cfg0.N) (h0 : t.val ≠ 0) (fv : Vec Ideal S2x16384x512 .bf16) (d0 : Vec Ideal S16384x512 .bf16)
    (hd : t.val % 64 ≠ 1 → ∀ j d, d0 (ix2 j d) = fv (ix3 (bOf (t.val - 2)) j d)) (j : Fin 16384) (d : Fin 512) :
    headV (grid0.coords t) fv d0 (ix2 j d) = fv (ix3 (bOf (t.val - 1)) j d) := by
  unfold headV
  rw [if_neg fun h => h0 ((cond0_iff t).mp h)]
  by_cases h : k0_cond2 (grid0.coords t) = 1#1
  · rw [dif_pos h, v_read t h]
  · have h1 : t.val % 64 ≠ 1 := fun h' => h ((cond2_iff t).mpr h')
    rw [dif_neg h, hd h1]
    refine congrArg (fun b => fv (ix3 b j d)) (Fin.ext ?_)
    show (t.val - 2) / 64 % 2 = (t.val - 1) / 64 % 2
    omega

theorem V_at (n : ℕ) (hn : n < 128) : ∀ j d, (stAt m c (n + 2)).V (ix2 j d)
    = (V m c main_arg2 : Vec Ideal S2x16384x512 .bf16) (ix3 (bOf n) j d) := by
  induction n with
  | zero =>
      intro j d
      rw [show 0 + 2 = (⟨1, lt_of_lt_of_eq (by omega : 1 < 129) N_0.symm⟩ : Fin cfg0.N).val + 1 from rfl, stAt_succ]
      exact headV_pos ⟨1, lt_of_lt_of_eq (by omega : 1 < 129) N_0.symm⟩ one_ne_zero _ (stAt m c 1).V (fun h => absurd rfl h) j d
  | succ n ih =>
      intro j d
      rw [show n + 1 + 2 = (⟨n + 2, lt_of_lt_of_eq (by omega : n + 2 < 129) N_0.symm⟩ : Fin cfg0.N).val + 1 from rfl, stAt_succ]
      exact headV_pos ⟨n + 2, lt_of_lt_of_eq (by omega : n + 2 < 129) N_0.symm⟩ (Nat.succ_ne_zero _) _ (stAt m c (n + 2)).V (fun _ => ih (by omega)) j d

include hq hk in
/-- The exponentials and the reciprocals after point `t`. -/
theorem EI_at (t : Fin cfg0.N) (r : Fin 256) : ∃ s : ℝ,
    (∀ j, (stAt m c (t.val + 1)).E (ix2 r j) = ((Real.exp (score (qR (bOf (min t.val 127)) (rOf (min t.val 127) r))
      (kR (bOf (min t.val 127)) j) - s) : ℝ) : EReal)) ∧
    ∀ l, (stAt m c (t.val + 1)).I (ix2 r l) = (((∑ j, Real.exp (score (qR (bOf (min t.val 127)) (rOf (min t.val 127) r))
      (kR (bOf (min t.val 127)) j) - s))⁻¹ : ℝ) : EReal) := by
  have hKt := K_at m c t.val (t_lt t)
  rw [stAt_succ] at hKt ⊢
  exact next_apply (iblk m c 0 t) _ (fun r => qR (bOf (min t.val 127)) (rOf (min t.val 127) r)) (kR (bOf (min t.val 127)))
    (fun r d => (q_read m c t r d).trans (hq _ _ _)) (fun j d => (hKt j d).trans (hk _ _ _)) r

include hq hk in
/-- The output rows a point finishes: those of the block before its own. -/
theorem accOf_apply (t : Fin cfg0.N) (h0 : t.val ≠ 0) (r : Fin 256) (d : Fin 512) :
    accOf m c t (ix2 r d) = att qR kR (V m c main_arg2) (bOf (t.val - 1)) (rOf (t.val - 1) r) d := by
  have ht := t_lt t
  have hc0 : ¬ cond0 (grid0.coords t) = 1#1 := fun h => h0 ((cond0_iff t).mp h)
  obtain ⟨s, hE, hI⟩ := EI_at m c qR kR hq hk ⟨t.val - 1, lt_of_lt_of_eq (by omega : t.val - 1 < 129) N_0.symm⟩ r
  simp only [show min (t.val - 1) 127 = t.val - 1 by omega, show t.val - 1 + 1 = t.val by omega] at hE hI
  unfold accOf accAt headI headE
  rw [if_neg hc0, if_neg hc0, accC_softmax _ _ _ _ _ r s hE hI d]
  refine Finset.sum_congr rfl fun j _ => congrArg _ (headV_pos t h0 _ _ (fun h1 j d => ?_) j d)
  have e := V_at m c (t.val - 2) (by omega) j d
  rwa [show t.val - 2 + 2 = t.val by omega] at e

end

end Cert.KernelIdeal.Hand
-- ==== Proof.KernelIdeal.Quant.lean ====
/-
  Hand-written, untrusted. The payloads of `cc0_attention`'s quantised output projection read at an index, over the
  extended reals.
-/
module

public import proofs.«01_k».proof.Proof.KernelIdeal.Payloads
public import proofs.«01_k».proof.Proof.QuantMath

@[expose] public section

set_option maxRecDepth 16384

noncomputable section

namespace Cert.KernelIdeal.Hand

open Cert.KernelIdeal Cert.KernelIdeal.Gen Cert.QuantMath
open Idealize.ShloMosaic Idealize.ShloMosaic.TcCoe Idealize.ShloMosaic.Tactic

theorem pay113_apply (a : Vec Ideal S256x512 .f32) (r : Fin 256) :
    k0_pay113 (k0_pay112 a) (ix2 r 0) = amax fun d => a (ix2 r d) := by
  pointwise [k0_pay113, k0_pay112]
  rfl

/-- A halving step on the whole column. -/
def stepV (R : FVec Ideal S256x1 .f32) (s : BitVec 32) (f : IVec S256x1 32) : IVec S256x1 32 :=
  select (cmpf .oge R (bitcastToFloat .f32 (shli (addi f (broadcast S256x1 s)) (broadcast S256x1 23#32)))) (addi f (broadcast S256x1 s)) f

theorem stepV_apply (R : FVec Ideal S256x1 .f32) (s : BitVec 32) (f : IVec S256x1 32) (i : S256x1.Idx) :
    stepV R s f i = stepW (R i) s (f i) := rfl

theorem pay114_eq (a : FVec Ideal S256x512 .f32) :
    k0_pay114 a = stepV (k0_pay113 a) 8#32 (stepV (k0_pay113 a) 16#32 (stepV (k0_pay113 a) 32#32 (stepV (k0_pay113 a) 64#32
      (stepV (k0_pay113 a) 128#32 (broadcast S256x1 0#32))))) := by
  unfold k0_pay114
  simp only [stepV]

theorem pay114_apply (a : FVec Ideal S256x512 .f32) (r : Fin 256) :
    k0_pay114 a (ix2 r 0) = stepW (k0_pay113 a (ix2 r 0)) 8#32 (stepW (k0_pay113 a (ix2 r 0)) 16#32
      (stepW (k0_pay113 a (ix2 r 0)) 32#32 (stepW (k0_pay113 a (ix2 r 0)) 64#32 (stepW (k0_pay113 a (ix2 r 0)) 128#32 0#32)))) := by
  rw [pay114_eq, stepV_apply, stepV_apply, stepV_apply, stepV_apply, stepV_apply]
  rfl

theorem pay117_apply (a : FVec Ideal S256x512 .f32) (r : Fin 256) :
    k0_pay117 (k0_pay113 a) (k0_pay114 a) (k0_pay115 a) (k0_pay116 a) (ix2 r 0) = expoW (fieldW (k0_pay113 a (ix2 r 0))) := by
  have e : k0_pay117 (k0_pay113 a) (k0_pay114 a) (k0_pay115 a) (k0_pay116 a) (ix2 r 0)
      = expoW (stepW (k0_pay113 a (ix2 r 0)) 1#32 (stepW (k0_pay113 a (ix2 r 0)) 2#32
          (stepW (k0_pay113 a (ix2 r 0)) 4#32 (k0_pay114 a (ix2 r 0))))) := rfl
  rw [e, pay114_apply]
  rfl

section
variable (a : Vec Ideal S256x512 .f32) (r : Fin 256) (ρ : ℝ) (hρ : ρ < th 253) (ha : amax (fun d => a (ix2 r d)) = (ρ : EReal))
include hρ ha

theorem tScale_apply : tScale a (ix2 r 0) = (((2 : ℝ) ^ expo ρ : ℝ) : EReal) := by
  unfold tScale
  pointwise [k0_pay118, pay117_apply]
  rw [pay113_apply, ha]
  exact scale_word ρ hρ

theorem tCodes_apply (d : Fin 512) : tCodes a (ix2 r d) = code (fun d => a (ix2 r d)) ρ d := by
  unfold tCodes
  pointwise [k0_pay119, pay117_apply]
  rw [pay113_apply, ha]
  unfold code
  rw [← inv_word ρ hρ]

theorem oCodes_apply (d : Fin 512) : oCodes a (ix3 0 r d) = code (fun d => a (ix2 r d)) ρ d := by
  rw [← tCodes_apply a r ρ hρ ha]
  unfold oCodes
  pointwise [k0_pay120]

theorem oScale_apply : oScale a (ix3 0 0 r) = (((2 : ℝ) ^ expo ρ : ℝ) : EReal) := by
  rw [← tScale_apply a r ρ hρ ha]
  unfold oScale
  pointwise [k0_pay121]

theorem pay122_apply (wo : Vec Ideal S512x512 .fp8e4m3) (so bo : Vec Ideal S1x512 .f32) (n : Fin 512) :
    k0_pay122 (tScale a) (tCodes a) wo so bo (ix2 r n)
      = proj (fun d => a (ix2 r d)) ρ (fun d n => wo (ix2 d n)) (fun n => so (ix2 0 n)) (fun n => bo (ix2 0 n)) n := by
  pointwise [k0_pay122]
  rw [tScale_apply a r ρ hρ ha]
  simp only [tCodes_apply a r ρ hρ ha]
  rfl

theorem oProj_apply (wo : Vec Ideal S512x512 .fp8e4m3) (so bo : Vec Ideal S1x512 .f32) (n : Fin 512) :
    oProj a wo so bo (ix3 0 r n)
      = proj (fun d => a (ix2 r d)) ρ (fun d n => wo (ix2 d n)) (fun n => so (ix2 0 n)) (fun n => bo (ix2 0 n)) n := by
  rw [← pay122_apply a r ρ hρ ha]
  unfold oProj
  pointwise [k0_pay1, k0_pay123]

theorem oY_apply (wo : Vec Ideal S512x512 .fp8e4m3) (so bo : Vec Ideal S1x512 .f32) (x : Vec Ideal S1x256x512 .bf16) (n : Fin 512) :
    oY a wo so bo x (ix3 0 r n) = x (ix3 0 r n)
      + proj (fun d => a (ix2 r d)) ρ (fun d n => wo (ix2 d n)) (fun n => so (ix2 0 n)) (fun n => bo (ix2 0 n)) n := by
  rw [← pay122_apply a r ρ hρ ha]
  unfold oY
  pointwise [k0_pay2]

end

end Cert.KernelIdeal.Hand
-- ==== Proof.KernelIdeal.Arrays.lean ====
/-
  Hand-written, untrusted. The four result arrays after the run, over the extended reals: each block is written back by the
  point after the one that scores its queries, with the rows of `Results.lean`.
-/
module

public import proofs.«01_k».proof.Proof.KernelIdeal.Rows
public import proofs.«01_k».proof.Proof.KernelIdeal.Quant
public import Idealize.ShloMosaic.Lib.StableHlo.ReadAt

@[expose] public section

set_option maxRecDepth 16384

noncomputable section

namespace Cert.KernelIdeal.Hand

open Cert.KernelIdeal Cert.KernelIdeal.Gen Cert.QuantMath
open Idealize.ShloMosaic Idealize.ShloMosaic.TcCoe Idealize.ShloMosaic.Tactic
open Idealize.SL.Sem

/-! ### The blocks -/

theorem idx_x : ∀ t : Fin cfg0.N, win0_1.index t 0 = (t.val - 1) / 64 ∧ win0_1.index t 1 = (t.val - 1) % 64 ∧ win0_1.index t 2 = 0 :=
  (by decide +kernel : ∀ t : Fin grid0.N, win0_1.index t 0 = (t.val - 1) / 64 ∧ win0_1.index t 1 = (t.val - 1) % 64 ∧ win0_1.index t 2 = 0)
theorem idx_w : ∀ t : Fin cfg0.N, (∀ a, win0_2.index t a = 0) ∧ (∀ a, win0_3.index t a = 0) ∧ (∀ a, win0_4.index t a = 0) :=
  (by decide +kernel : ∀ t : Fin grid0.N, (∀ a, win0_2.index t a = 0) ∧ (∀ a, win0_3.index t a = 0) ∧ (∀ a, win0_4.index t a = 0))
theorem idx_5 : ∀ t : Fin cfg0.N, win0_5.index t 0 = (t.val - 1) / 64 ∧ win0_5.index t 1 = (t.val - 1) % 64 ∧ win0_5.index t 2 = 0 :=
  (by decide +kernel : ∀ t : Fin grid0.N, win0_5.index t 0 = (t.val - 1) / 64 ∧ win0_5.index t 1 = (t.val - 1) % 64 ∧ win0_5.index t 2 = 0)
theorem idx_6 : ∀ t : Fin cfg0.N, win0_6.index t 0 = (t.val - 1) / 64 ∧ win0_6.index t 1 = (t.val - 1) % 64 ∧ win0_6.index t 2 = 0 :=
  (by decide +kernel : ∀ t : Fin grid0.N, win0_6.index t 0 = (t.val - 1) / 64 ∧ win0_6.index t 1 = (t.val - 1) % 64 ∧ win0_6.index t 2 = 0)
theorem idx_7 : ∀ t : Fin cfg0.N, win0_7.index t 0 = (t.val - 1) / 64 ∧ win0_7.index t 1 = (t.val - 1) % 64 ∧ win0_7.index t 2 = 0 :=
  (by decide +kernel : ∀ t : Fin grid0.N, win0_7.index t 0 = (t.val - 1) / 64 ∧ win0_7.index t 1 = (t.val - 1) % 64 ∧ win0_7.index t 2 = 0)
theorem idx_8 : ∀ t : Fin cfg0.N, win0_8.index t 0 = (t.val - 1) / 64 ∧ win0_8.index t 1 = 0 ∧ win0_8.index t 2 = (t.val - 1) % 64 :=
  (by decide +kernel : ∀ t : Fin grid0.N, win0_8.index t 0 = (t.val - 1) / 64 ∧ win0_8.index t 1 = 0 ∧ win0_8.index t 2 = (t.val - 1) % 64)
theorem flush_iff : ∀ t : Fin cfg0.N, ((cfg0.win 5).flush t = true ↔ t.val ≠ 0) ∧ ((cfg0.win 6).flush t = true ↔ t.val ≠ 0)
    ∧ ((cfg0.win 7).flush t = true ↔ t.val ≠ 0) ∧ ((cfg0.win 8).flush t = true ↔ t.val ≠ 0) :=
  (by decide +kernel : ∀ t : Fin grid0.N, (win0_5.flush t = true ↔ t.val ≠ 0) ∧ (win0_6.flush t = true ↔ t.val ≠ 0)
    ∧ (win0_7.flush t = true ↔ t.val ≠ 0) ∧ (win0_8.flush t = true ↔ t.val ≠ 0))

variable (m : (ℓ : Loc nD τ sig) → Buf (Elt Ideal) ℓ) (c : Dev nD)

theorem x_read (t : Fin cfg0.N) (r : Fin 256) (d : Fin 512) :
    (iblk m c 1 t : Vec Ideal S1x256x512 .bf16) (ix3 0 r d)
      = (V m c main_arg3 : Vec Ideal S2x16384x512 .bf16) (ix3 (bOf (t.val - 1)) (rOf (t.val - 1) r) d) := by
  have ht := t_lt t
  obtain ⟨h0, h1, h2⟩ := idx_x t
  refine congrArg (V m c main_arg3) (funext fun a => ?_)
  fin_cases a
  · refine Fin.ext (show win0_1.index t 0 * 1 + 1 * 0 = (t.val - 1) / 64 % 2 from ?_); omega
  · refine Fin.ext (show win0_1.index t 1 * 256 + 1 * r.val = 256 * ((t.val - 1) % 64) + r.val from ?_); omega
  · refine Fin.ext (show win0_1.index t 2 * 512 + 1 * d.val = d.val from ?_); omega

theorem w_read (t : Fin cfg0.N) (d n : Fin 512) :
    (iblk m c 2 t : Vec Ideal S512x512 .fp8e4m3) (ix2 d n) = (V m c main_arg4 : Vec Ideal S512x512 .fp8e4m3) (ix2 d n) := by
  have h := (idx_w t).1
  refine congrArg (V m c main_arg4) (funext fun a => ?_)
  fin_cases a
  · have := h 0; refine Fin.ext (show win0_2.index t 0 * 512 + 1 * d.val = d.val from ?_); omega
  · have := h 1; refine Fin.ext (show win0_2.index t 1 * 512 + 1 * n.val = n.val from ?_); omega

theorem s_host (n : Fin 512) : (V m c main_v0 : Vec Ideal S1x512 .f32) (ix2 0 n)
    = (m ((c : Thread nD τ).loc main_arg5) : Vec Ideal S512 .f32) (ix1 n) := by
  unfold V
  after_reads_at

theorem b_host (n : Fin 512) : (V m c main_v1 : Vec Ideal S1x512 .f32) (ix2 0 n)
    = (m ((c : Thread nD τ).loc main_arg6) : Vec Ideal S512 .f32) (ix1 n) := by
  unfold V
  after_reads_at

theorem s_read (t : Fin cfg0.N) (n : Fin 512) :
    (iblk m c 3 t : Vec Ideal S1x512 .f32) (ix2 0 n) = (m ((c : Thread nD τ).loc main_arg5) : Vec Ideal S512 .f32) (ix1 n) := by
  have h := (idx_w t).2.1
  refine (congrArg (V m c main_v0) (funext fun a => ?_)).trans (s_host m c n)
  fin_cases a
  · have := h 0; refine Fin.ext (show win0_3.index t 0 * 1 + 1 * 0 = 0 from ?_); omega
  · have := h 1; refine Fin.ext (show win0_3.index t 1 * 512 + 1 * n.val = n.val from ?_); omega

theorem b_read (t : Fin cfg0.N) (n : Fin 512) :
    (iblk m c 4 t : Vec Ideal S1x512 .f32) (ix2 0 n) = (m ((c : Thread nD τ).loc main_arg6) : Vec Ideal S512 .f32) (ix1 n) := by
  have h := (idx_w t).2.2
  refine (congrArg (V m c main_v1) (funext fun a => ?_)).trans (b_host m c n)
  fin_cases a
  · have := h 0; refine Fin.ext (show win0_4.index t 0 * 1 + 1 * 0 = 0 from ?_); omega
  · have := h 1; refine Fin.ext (show win0_4.index t 1 * 512 + 1 * n.val = n.val from ?_); omega

/-! ### What a point writes back -/

/-- A block whose entries are those of an array's rows, read at the block's place in the array. -/
theorem block_eq {β : Type} (G : S2x16384x512.Idx → β) (f : S1x256x512.Idx → β) (t : Fin cfg0.N) (h : t.val ≠ 0) (p : Fin 3 → ℕ)
    (hp : p 0 = (t.val - 1) / 64 ∧ p 1 = (t.val - 1) % 64 ∧ p 2 = 0)
    (hf : ∀ r d, f (ix3 0 r d) = G (ix3 (bOf (t.val - 1)) (rOf (t.val - 1) r) d)) (y : S1x256x512.Idx) (z : S2x16384x512.Idx)
    (hz : ∀ a, (z a).val = p a * S1x256x512.size a + 1 * (y a).val) : f y = G z := by
  have ht := t_lt t
  obtain ⟨p0, p1, p2⟩ := hp
  have y0 : (y 0).val < 1 := (y 0).isLt
  have z0 : (z 0).val = p 0 * 1 + 1 * (y 0).val := hz 0
  have z1 : (z 1).val = p 1 * 256 + 1 * (y 1).val := hz 1
  have z2 : (z 2).val = p 2 * 512 + 1 * (y 2).val := hz 2
  have ey : y = ix3 0 (y 1) (y 2) := funext fun a => by
    fin_cases a
    · exact Fin.ext (show (y 0).val = 0 by omega)
    · rfl
    · rfl
  have ez : z = ix3 (bOf (t.val - 1)) (rOf (t.val - 1) (y 1)) (y 2) := funext fun a => by
    fin_cases a
    · exact Fin.ext (show (z 0).val = (t.val - 1) / 64 % 2 by omega)
    · exact Fin.ext (show (z 1).val = 256 * ((t.val - 1) % 64) + (y 1).val by omega)
    · exact Fin.ext (show (z 2).val = (y 2).val by omega)
  rw [ey, ez]
  exact hf _ _

/-- The same for the row of scales. -/
theorem lane_eq {β : Type} (G : S2x1x16384.Idx → β) (f : S1x1x256.Idx → β) (t : Fin cfg0.N) (h : t.val ≠ 0) (p : Fin 3 → ℕ)
    (hp : p 0 = (t.val - 1) / 64 ∧ p 1 = 0 ∧ p 2 = (t.val - 1) % 64)
    (hf : ∀ r, f (ix3 0 0 r) = G (ix3 (bOf (t.val - 1)) 0 (rOf (t.val - 1) r))) (y : S1x1x256.Idx) (z : S2x1x16384.Idx)
    (hz : ∀ a, (z a).val = p a * S1x1x256.size a + 1 * (y a).val) : f y = G z := by
  have ht := t_lt t
  obtain ⟨p0, p1, p2⟩ := hp
  have y0 : (y 0).val < 1 := (y 0).isLt
  have y1 : (y 1).val < 1 := (y 1).isLt
  have z0 : (z 0).val = p 0 * 1 + 1 * (y 0).val := hz 0
  have z1 : (z 1).val = p 1 * 1 + 1 * (y 1).val := hz 1
  have z2 : (z 2).val = p 2 * 256 + 1 * (y 2).val := hz 2
  have ey : y = ix3 0 0 (y 2) := funext fun a => by
    fin_cases a
    · exact Fin.ext (show (y 0).val = 0 by omega)
    · exact Fin.ext (show (y 1).val = 0 by omega)
    · rfl
  have ez : z = ix3 (bOf (t.val - 1)) 0 (rOf (t.val - 1) (y 2)) := funext fun a => by
    fin_cases a
    · exact Fin.ext (show (z 0).val = (t.val - 1) / 64 % 2 by omega)
    · exact Fin.ext (show (z 1).val = 0 by omega)
    · exact Fin.ext (show (z 2).val = 256 * ((t.val - 1) % 64) + (y 2).val by omega)
  rw [ey, ez]
  exact hf _

section
variable (qR kR : Fin 2 → Fin 16384 → Fin 512 → ℝ)
  (hq : ∀ b i d, (V m c main_arg0 : Vec Ideal S2x16384x512 .bf16) (ix3 b i d) = ((qR b i d : ℝ) : EReal))
  (hk : ∀ b i d, (V m c main_arg1 : Vec Ideal S2x16384x512 .bf16) (ix3 b i d) = ((kR b i d : ℝ) : EReal))
  (hρ : ∀ b i, ∃ ρ : ℝ, ρ < th 253 ∧ amax (att qR kR (V m c main_arg2) b i) = (ρ : EReal))

include hρ in
theorem rho_spec (b : Fin 2) (i : Fin 16384) : rho (att qR kR (V m c main_arg2)) b i < th 253
    ∧ amax (att qR kR (V m c main_arg2) b i) = (rho (att qR kR (V m c main_arg2)) b i : EReal) := by
  obtain ⟨ρ, h1, h2⟩ := hρ b i
  unfold rho
  rw [h2, EReal.toReal_coe]
  exact ⟨h1, rfl⟩

include hq hk in
theorem row_eq (t : Fin cfg0.N) (h0 : t.val ≠ 0) (r : Fin 256) :
    (fun d => accOf m c t (ix2 r d)) = att qR kR (V m c main_arg2) (bOf (t.val - 1)) (rOf (t.val - 1) r) :=
  funext fun d => accOf_apply m c qR kR hq hk t h0 r d

include hq hk hρ in
theorem codes_at (t : Fin cfg0.N) (h0 : t.val ≠ 0) (r : Fin 256) (d : Fin 512) :
    outCodes m c t (ix3 0 r d) = resCodes (att qR kR (V m c main_arg2)) (ix3 (bOf (t.val - 1)) (rOf (t.val - 1) r) d) := by
  have e := row_eq m c qR kR hq hk t h0 r
  obtain ⟨h1, h2⟩ := rho_spec m c qR kR hρ (bOf (t.val - 1)) (rOf (t.val - 1) r)
  refine (oCodes_apply (accOf m c t) r _ h1 (by rw [e]; exact h2) d).trans ?_
  rw [e]; rfl

include hq hk hρ in
theorem scale_at (t : Fin cfg0.N) (h0 : t.val ≠ 0) (r : Fin 256) :
    outScale m c t (ix3 0 0 r) = resScale (att qR kR (V m c main_arg2)) (ix3 (bOf (t.val - 1)) 0 (rOf (t.val - 1) r)) := by
  have e := row_eq m c qR kR hq hk t h0 r
  obtain ⟨h1, h2⟩ := rho_spec m c qR kR hρ (bOf (t.val - 1)) (rOf (t.val - 1) r)
  exact oScale_apply (accOf m c t) r _ h1 (by rw [e]; exact h2)

include hq hk hρ in
theorem proj_at (t : Fin cfg0.N) (h0 : t.val ≠ 0) (r : Fin 256) (n : Fin 512) :
    outProj m c t (ix3 0 r n) = resProj (att qR kR (V m c main_arg2)) (V m c main_arg4) (m ((c : Thread nD τ).loc main_arg5))
      (m ((c : Thread nD τ).loc main_arg6)) (ix3 (bOf (t.val - 1)) (rOf (t.val - 1) r) n) := by
  have e := row_eq m c qR kR hq hk t h0 r
  obtain ⟨h1, h2⟩ := rho_spec m c qR kR hρ (bOf (t.val - 1)) (rOf (t.val - 1) r)
  refine (oProj_apply (accOf m c t) r _ h1 (by rw [e]; exact h2) (iblk m c 2 t) (iblk m c 3 t) (iblk m c 4 t) n).trans ?_
  rw [e]
  simp only [w_read, s_read, b_read]
  rfl

include hq hk hρ in
theorem y_at (t : Fin cfg0.N) (h0 : t.val ≠ 0) (r : Fin 256) (n : Fin 512) :
    outY m c t (ix3 0 r n) = resY (att qR kR (V m c main_arg2)) (V m c main_arg3) (V m c main_arg4) (m ((c : Thread nD τ).loc main_arg5))
      (m ((c : Thread nD τ).loc main_arg6)) (ix3 (bOf (t.val - 1)) (rOf (t.val - 1) r) n) := by
  have e := row_eq m c qR kR hq hk t h0 r
  obtain ⟨h1, h2⟩ := rho_spec m c qR kR hρ (bOf (t.val - 1)) (rOf (t.val - 1) r)
  refine (oY_apply (accOf m c t) r _ h1 (by rw [e]; exact h2) (iblk m c 2 t) (iblk m c 3 t) (iblk m c 4 t) (iblk m c 1 t) n).trans ?_
  rw [e]
  simp only [w_read, s_read, b_read, x_read]
  rfl

include hq hk hρ in
theorem flushed_y (t : Fin cfg0.N) (h0 : t.val ≠ 0) : (dats m 0 c).flushed 5 t = (win0_5.blk t).view.read (Elt Ideal)
    (resY (att qR kR (V m c main_arg2)) (V m c main_arg3) (V m c main_arg4) (m ((c : Thread nD τ).loc main_arg5)) (m ((c : Thread nD τ).loc main_arg6))) := by
  show (cfg0.win 5).cut (grid0.coords t) ((dats m 0 c).after 5 t) = _
  rw [after0_5]
  exact funext fun y => block_eq _ (outY m c t) t h0 (win0_5.index t) (idx_5 t) (y_at m c qR kR hq hk hρ t h0) y _ fun a => rfl

include hq hk hρ in
theorem flushed_proj (t : Fin cfg0.N) (h0 : t.val ≠ 0) : (dats m 0 c).flushed 6 t = (win0_6.blk t).view.read (Elt Ideal)
    (resProj (att qR kR (V m c main_arg2)) (V m c main_arg4) (m ((c : Thread nD τ).loc main_arg5)) (m ((c : Thread nD τ).loc main_arg6))) := by
  show (cfg0.win 6).cut (grid0.coords t) ((dats m 0 c).after 6 t) = _
  rw [after0_6]
  exact funext fun y => block_eq _ (outProj m c t) t h0 (win0_6.index t) (idx_6 t) (proj_at m c qR kR hq hk hρ t h0) y _ fun a => rfl

include hq hk hρ in
theorem flushed_codes (t : Fin cfg0.N) (h0 : t.val ≠ 0) : (dats m 0 c).flushed 7 t = (win0_7.blk t).view.read (Elt Ideal)
    (resCodes (att qR kR (V m c main_arg2))) := by
  show (cfg0.win 7).cut (grid0.coords t) ((dats m 0 c).after 7 t) = _
  rw [after0_7]
  exact funext fun y => block_eq _ (outCodes m c t) t h0 (win0_7.index t) (idx_7 t) (codes_at m c qR kR hq hk hρ t h0) y _ fun a => rfl

include hq hk hρ in
theorem flushed_scale (t : Fin cfg0.N) (h0 : t.val ≠ 0) : (dats m 0 c).flushed 8 t = (win0_8.blk t).view.read (Elt Ideal)
    (resScale (att qR kR (V m c main_arg2))) := by
  show (cfg0.win 8).cut (grid0.coords t) ((dats m 0 c).after 8 t) = _
  rw [after0_8]
  exact funext fun y => lane_eq _ (outScale m c t) t h0 (win0_8.index t) (idx_8 t) (scale_at m c qR kR hq hk hρ t h0) y _ fun a => rfl

end

/-! ### The blocks cover the arrays -/

/-- The point that writes row `i` of batch `b`. -/
theorem point_lt (b i : ℕ) (hb : b < 2) (hi : i < 16384) : 64 * b + i / 256 + 1 < cfg0.N :=
  lt_of_lt_of_eq (by omega : 64 * b + i / 256 + 1 < 129) N_0.symm

/-- An index in range is in the block of the point that writes its row. -/
theorem row_block (b i : ℕ) (hb : b < 2) (hi : i < 16384) : ∃ t : Fin cfg0.N, t.val ≠ 0 ∧ (t.val - 1) / 64 = b ∧ (t.val - 1) % 64 = i / 256 :=
  ⟨⟨64 * b + i / 256 + 1, point_lt _ _ hb hi⟩, Nat.succ_ne_zero _, show (64 * b + i / 256 + 1 - 1) / 64 = b by omega,
    show (64 * b + i / 256 + 1 - 1) % 64 = i / 256 by omega⟩

theorem cover_5 (i : S2x16384x512.Idx) : ∃ t : Fin cfg0.N, (cfg0.win 5).flush t = true ∧ i ∈ ((cfg0.win 5).blk t).view.set := by
  have hd : (i 2).val < 512 := (i 2).isLt
  obtain ⟨t, h0, h1, h2⟩ := row_block (i 0).val (i 1).val (i 0).isLt (i 1).isLt
  obtain ⟨p0, p1, p2⟩ := idx_5 t
  refine ⟨t, (flush_iff t).1.mpr h0, ?_⟩
  show i ∈ ((View.whole main_v2_0).slice (win0_5.rect t)).set
  rw [View.set_slice_whole, Rect.mem_set_unit]
  intro a
  fin_cases a
  · show win0_5.index t 0 * 1 ≤ (i 0).val ∧ (i 0).val < win0_5.index t 0 * 1 + 1
    omega
  · show win0_5.index t 1 * 256 ≤ (i 1).val ∧ (i 1).val < win0_5.index t 1 * 256 + 256
    omega
  · show win0_5.index t 2 * 512 ≤ (i 2).val ∧ (i 2).val < win0_5.index t 2 * 512 + 512
    omega

theorem cover_6 (i : S2x16384x512.Idx) : ∃ t : Fin cfg0.N, (cfg0.win 6).flush t = true ∧ i ∈ ((cfg0.win 6).blk t).view.set := by
  have hd : (i 2).val < 512 := (i 2).isLt
  obtain ⟨t, h0, h1, h2⟩ := row_block (i 0).val (i 1).val (i 0).isLt (i 1).isLt
  obtain ⟨p0, p1, p2⟩ := idx_6 t
  refine ⟨t, (flush_iff t).2.1.mpr h0, ?_⟩
  show i ∈ ((View.whole main_v2_1).slice (win0_6.rect t)).set
  rw [View.set_slice_whole, Rect.mem_set_unit]
  intro a
  fin_cases a
  · show win0_6.index t 0 * 1 ≤ (i 0).val ∧ (i 0).val < win0_6.index t 0 * 1 + 1
    omega
  · show win0_6.index t 1 * 256 ≤ (i 1).val ∧ (i 1).val < win0_6.index t 1 * 256 + 256
    omega
  · show win0_6.index t 2 * 512 ≤ (i 2).val ∧ (i 2).val < win0_6.index t 2 * 512 + 512
    omega

theorem cover_7 (i : S2x16384x512.Idx) : ∃ t : Fin cfg0.N, (cfg0.win 7).flush t = true ∧ i ∈ ((cfg0.win 7).blk t).view.set := by
  have hd : (i 2).val < 512 := (i 2).isLt
  obtain ⟨t, h0, h1, h2⟩ := row_block (i 0).val (i 1).val (i 0).isLt (i 1).isLt
  obtain ⟨p0, p1, p2⟩ := idx_7 t
  refine ⟨t, (flush_iff t).2.2.1.mpr h0, ?_⟩
  show i ∈ ((View.whole main_v2_2).slice (win0_7.rect t)).set
  rw [View.set_slice_whole, Rect.mem_set_unit]
  intro a
  fin_cases a
  · show win0_7.index t 0 * 1 ≤ (i 0).val ∧ (i 0).val < win0_7.index t 0 * 1 + 1
    omega
  · show win0_7.index t 1 * 256 ≤ (i 1).val ∧ (i 1).val < win0_7.index t 1 * 256 + 256
    omega
  · show win0_7.index t 2 * 512 ≤ (i 2).val ∧ (i 2).val < win0_7.index t 2 * 512 + 512
    omega

theorem cover_8 (i : S2x1x16384.Idx) : ∃ t : Fin cfg0.N, (cfg0.win 8).flush t = true ∧ i ∈ ((cfg0.win 8).blk t).view.set := by
  have hd : (i 1).val < 1 := (i 1).isLt
  obtain ⟨t, h0, h1, h2⟩ := row_block (i 0).val (i 2).val (i 0).isLt (i 2).isLt
  obtain ⟨p0, p1, p2⟩ := idx_8 t
  refine ⟨t, (flush_iff t).2.2.2.mpr h0, ?_⟩
  show i ∈ ((View.whole main_v2_3).slice (win0_8.rect t)).set
  rw [View.set_slice_whole, Rect.mem_set_unit]
  intro a
  fin_cases a
  · show win0_8.index t 0 * 1 ≤ (i 0).val ∧ (i 0).val < win0_8.index t 0 * 1 + 1
    omega
  · show win0_8.index t 1 * 1 ≤ (i 1).val ∧ (i 1).val < win0_8.index t 1 * 1 + 1
    omega
  · show win0_8.index t 2 * 256 ≤ (i 2).val ∧ (i 2).val < win0_8.index t 2 * 256 + 256
    omega

/-! ### The run's results -/

section
variable (ρ : Dev nD → PrngReg) (qR kR : Dev nD → Fin 2 → Fin 16384 → Fin 512 → ℝ)
  (hq : ∀ c b i d, (m ((c : Thread nD τ).loc main_arg0) : Vec Ideal S2x16384x512 .bf16) (ix3 b i d) = ((qR c b i d : ℝ) : EReal))
  (hk : ∀ c b i d, (m ((c : Thread nD τ).loc main_arg1) : Vec Ideal S2x16384x512 .bf16) (ix3 b i d) = ((kR c b i d : ℝ) : EReal))
  (hρ : ∀ c b i, ∃ ρ : ℝ, ρ < th 253 ∧ amax (att (qR c) (kR c) (m ((c : Thread nD τ).loc main_arg2)) b i) = (ρ : EReal))

/-- The attention output of device `c`'s arguments. -/
def attOf (c : Dev nD) : Fin 2 → Fin 16384 → Fin 512 → EReal := att (qR c) (kR c) (m ((c : Thread nD τ).loc main_arg2))

include hq hk hρ in
theorem run_values : θ_run defs (onTc (τ := τ) (main (F := Ideal))) ⟨m, fun _ => 0, ρ⟩ (fun r => ∀ c : Dev nD,
    r.2.mem ((c : Thread nD τ).loc main_v2_0) = resY (attOf m qR kR c) (m ((c : Thread nD τ).loc main_arg3)) (m ((c : Thread nD τ).loc main_arg4))
        (m ((c : Thread nD τ).loc main_arg5)) (m ((c : Thread nD τ).loc main_arg6))
      ∧ r.2.mem ((c : Thread nD τ).loc main_v2_1) = resProj (attOf m qR kR c) (m ((c : Thread nD τ).loc main_arg4))
        (m ((c : Thread nD τ).loc main_arg5)) (m ((c : Thread nD τ).loc main_arg6))
      ∧ r.2.mem ((c : Thread nD τ).loc main_v2_2) = resCodes (attOf m qR kR c)
      ∧ r.2.mem ((c : Thread nD τ).loc main_v2_3) = resScale (attOf m qR kR c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  refine (θ_run defs _ _).mono (fun r h c => ?_) (run_main m ρ)
  have hq' : ∀ b i d, (V m c main_arg0 : Vec Ideal S2x16384x512 .bf16) (ix3 b i d) = ((qR c b i d : ℝ) : EReal) := by
    rw [V_main_arg0]; exact hq c
  have hk' : ∀ b i d, (V m c main_arg1 : Vec Ideal S2x16384x512 .bf16) (ix3 b i d) = ((kR c b i d : ℝ) : EReal) := by
    rw [V_main_arg1]; exact hk c
  have hρ' : ∀ b i, ∃ ρ : ℝ, ρ < th 253 ∧ amax (att (qR c) (kR c) (V m c main_arg2) b i) = (ρ : EReal) := by
    rw [V_main_arg2]; exact hρ c
  refine ⟨?_, ?_, ?_, ?_, args_kept m h.1 c⟩
  · refine ((h.1 c).1 5).trans (((dats m 0 c).arrAt_eq_of_cover 5 _
      (fun t hf => flushed_y m c (qR c) (kR c) hq' hk' hρ' t ((flush_iff t).1.mp hf)) cover_5).trans ?_)
    rw [V_main_arg2, V_main_arg3, V_main_arg4]; rfl
  · refine ((h.1 c).1 6).trans (((dats m 0 c).arrAt_eq_of_cover 6 _
      (fun t hf => flushed_proj m c (qR c) (kR c) hq' hk' hρ' t ((flush_iff t).2.1.mp hf)) cover_6).trans ?_)
    rw [V_main_arg2, V_main_arg4]; rfl
  · refine ((h.1 c).1 7).trans (((dats m 0 c).arrAt_eq_of_cover 7 _
      (fun t hf => flushed_codes m c (qR c) (kR c) hq' hk' hρ' t ((flush_iff t).2.2.1.mp hf)) cover_7).trans ?_)
    rw [V_main_arg2]; rfl
  · refine ((h.1 c).1 8).trans (((dats m 0 c).arrAt_eq_of_cover 8 _
      (fun t hf => flushed_scale m c (qR c) (kR c) hq' hk' hρ' t ((flush_iff t).2.2.2.mp hf)) cover_8).trans ?_)
    rw [V_main_arg2]; rfl

end

end Cert.KernelIdeal.Hand
-- ==== Proof.ReferenceIdeal.Host.lean ====
/-
  Hand-written, untrusted. The reference's attention over the extended reals: what its host operations leave for the tail,
  on finite queries and keys the softmax's sums.
-/
module

public import proofs.«01_k».proof.Proof.Gen.ReferenceIdeal.Frame
public import proofs.«01_k».proof.Proof.KernelIdeal.Results
public import Idealize.ShloMosaic.Lib.StableHlo.ReadAt
public import Idealize.ShloMosaic.Lib.Claim

@[expose] public section

set_option maxRecDepth 16384

noncomputable section

namespace Cert.ReferenceIdeal.Hand

open Cert.ReferenceIdeal Cert.ReferenceIdeal.Gen Cert.KernelIdeal.Hand Cert.SoftmaxMath
open Idealize.ShloMosaic Idealize.ShloMosaic.TcCoe Idealize.ShloMosaic.Tactic

/-! ### The host operations, in five steps -/

def hScores (q k : FVec Ideal S2x16384x512 .bf16) : FVec Ideal S2x16384x16384 .f32 :=
  Host.divf (Host.dotGeneral dot_S2x16384x512_S2x16384x512_S2x16384x16384_2_2_1_1_0_0 none q k)
    (broadcastInDim S2x16384x16384 ![] bcast_S_S2x16384x16384 (Host.sqrt (constant S_ .f32 0x44000000#32)))

def hMax (s : FVec Ideal S2x16384x16384 .f32) : FVec Ideal S2x16384 .f32 :=
  maximumf (broadcastInDim S2x16384 ![] bcast_S_S2x16384 (constant S_ .f32 0xFF800000#32))
    (Host.reduce FloatOps.maximumf s (constant S_ .f32 0xFF800000#32) reducesTo_S2x16384x16384_S2x16384_d2 h_S_)

def hSpread (x : FVec Ideal S2x16384 .f32) : FVec Ideal S2x16384x16384 .f32 :=
  broadcastInDim S2x16384x16384 ![0, 1, 2] bcast_S2x16384x1_S2x16384x16384_0_1_2 (broadcastInDim S2x16384x1 ![0, 1] bcast_S2x16384_S2x16384x1_0_1 x)

def hExp (s : FVec Ideal S2x16384x16384 .f32) (x : FVec Ideal S2x16384 .f32) : FVec Ideal S2x16384x16384 .f32 := Host.exp (subf s (hSpread x))

def hSum (e : FVec Ideal S2x16384x16384 .f32) : FVec Ideal S2x16384 .f32 :=
  Host.reduceAdd e (constant S_ .f32 0x00000000#32) reducesTo_S2x16384x16384_S2x16384_d2 h_S_

def hWts (e : FVec Ideal S2x16384x16384 .f32) : FVec Ideal S2x16384x16384 .bf16 :=
  truncf .bf16 (Host.divf e (hSpread (hSum e))) bitsLt_bf16_f32

def hOut (w : FVec Ideal S2x16384x16384 .bf16) (v : FVec Ideal S2x16384x512 .bf16) : FVec Ideal S2x16384x512 .f32 :=
  Host.dotGeneral dot_S2x16384x16384_S2x16384x512_S2x16384x512_2_1_1_2_0_0 none w v

def hAtt (q k v : FVec Ideal S2x16384x512 .bf16) : FVec Ideal S2x16384x512 .f32 :=
  hOut (hWts (hExp (hScores q k) (hMax (hScores q k)))) v

theorem dots_apply (q k : FVec Ideal S2x16384x512 .bf16) (b : Fin 2) (i j : Fin 16384) :
    Host.dotGeneral dot_S2x16384x512_S2x16384x512_S2x16384x16384_2_2_1_1_0_0 none q k (ix3 b i j) = ∑ d : Fin 512, q (ix3 b i d) * k (ix3 b j d) := by
  pointwise

theorem root_apply (y : FVec Ideal S_ .f32) (b : Fin 2) (i j : Fin 16384) :
    broadcastInDim S2x16384x16384 ![] bcast_S_S2x16384x16384 (Host.sqrt y) (ix3 b i j) = Ideal.sqrt (y ix0) := by
  pointwise

theorem spread_apply (x : FVec Ideal S2x16384 .f32) (b : Fin 2) (i j : Fin 16384) : hSpread x (ix3 b i j) = x (ix2 b i) := by
  pointwise [hSpread]

theorem hRowMax_apply (s : FVec Ideal S2x16384x16384 .f32) (b : Fin 2) (i : Fin 16384) :
    Host.reduce FloatOps.maximumf s (constant S_ .f32 0xFF800000#32) reducesTo_S2x16384x16384_S2x16384_d2 h_S_ (ix2 b i)
      = Finset.univ.fold max (Ideal.ofBits .f32 0xFF800000#32) fun j : Fin 16384 => s (ix3 b i j) := by
  pointwise

theorem hSum_apply (e : FVec Ideal S2x16384x16384 .f32) (b : Fin 2) (i : Fin 16384) : hSum e (ix2 b i) = ∑ j : Fin 16384, e (ix3 b i j) := by
  pointwise [hSum]

theorem hOut_apply (w : FVec Ideal S2x16384x16384 .bf16) (v : FVec Ideal S2x16384x512 .bf16) (b : Fin 2) (i : Fin 16384) (d : Fin 512) :
    hOut w v (ix3 b i d) = ∑ j : Fin 16384, w (ix3 b i j) * v (ix3 b j d) := by
  pointwise [hOut]

variable (m : (ℓ : Loc nD τ sig) → Buf (Elt Ideal) ℓ) (c : Dev nD)

theorem V_att : (V m c main_v17 : Vec Ideal S32768x512 .f32) = shapeCast S32768x512 (hAtt (m ((c : Thread nD τ).loc main_arg0))
    (m ((c : Thread nD τ).loc main_arg1)) (m ((c : Thread nD τ).loc main_arg2))) shapeCasts_S2x16384x512_S32768x512 := by
  show StableHlo.after hostOps0 (fun b => m (c, b)) (Proc.tc.devRef main_v17) = _
  after_reads_simp
  rfl

theorem V_x : (V m c main_v18 : Vec Ideal S32768x512 .bf16) = shapeCast S32768x512 (m ((c : Thread nD τ).loc main_arg3) : Vec Ideal S2x16384x512 .bf16)
    shapeCasts_S2x16384x512_S32768x512 := by
  show StableHlo.after hostOps0 (fun b => m (c, b)) (Proc.tc.devRef main_v18) = _
  after_reads_simp
  rfl

theorem V_s : (V m c main_v19 : Vec Ideal S1x512 .f32) = shapeCast S1x512 (m ((c : Thread nD τ).loc main_arg5) : Vec Ideal S512 .f32) shapeCasts_S512_S1x512 := by
  show StableHlo.after hostOps0 (fun b => m (c, b)) (Proc.tc.devRef main_v19) = _
  after_reads_simp
  rfl

theorem V_b : (V m c main_v20 : Vec Ideal S1x512 .f32) = shapeCast S1x512 (m ((c : Thread nD τ).loc main_arg6) : Vec Ideal S512 .f32) shapeCasts_S512_S1x512 := by
  show StableHlo.after hostOps0 (fun b => m (c, b)) (Proc.tc.devRef main_v20) = _
  after_reads_simp
  rfl

/-! ### The softmax -/

theorem hDiv_at {s : Shape} (x y : FVec Ideal s .f32) (i : s.Idx) : Host.divf x y i = Ideal.div (x i) (y i) := rfl
theorem hExp_at {s : Shape} (x : FVec Ideal s .f32) (i : s.Idx) : Host.exp x i = Ideal.exp (x i) := rfl
theorem sub_at {s : Shape} (x y : FVec Ideal s .f32) (i : s.Idx) : subf x y i = x i - y i := rfl
theorem max_at {s : Shape} (x y : FVec Ideal s .f32) (i : s.Idx) : maximumf x y i = max (x i) (y i) := rfl
theorem trunc_at {s : Shape} (x : FVec Ideal s .f32) (i : s.Idx) : truncf .bf16 x bitsLt_bf16_f32 i = x i := rfl

theorem ofBits_512 : Ideal.ofBits .f32 0x44000000#32 = ((512 : ℝ) : EReal) := by
  have := Cert.QuantMath.ofBits_field 136 (by omega) (by omega)
  rw [show Cert.QuantMath.fieldWord (BitVec.ofNat 32 136) = 0x44000000#32 by decide] at this
  rw [this]; norm_num [Cert.QuantMath.th]

section
variable (q k : FVec Ideal S2x16384x512 .bf16) (qR kR : Fin 2 → Fin 16384 → Fin 512 → ℝ)
  (hq : ∀ b i d, q (ix3 b i d) = ((qR b i d : ℝ) : EReal)) (hk : ∀ b i d, k (ix3 b i d) = ((kR b i d : ℝ) : EReal))
include hq hk

theorem hScores_apply (b : Fin 2) (i j : Fin 16384) : hScores q k (ix3 b i j) = ((score (qR b i) (kR b j) : ℝ) : EReal) := by
  have hs : Real.sqrt 512 ≠ 0 := (Real.sqrt_pos.mpr (by norm_num)).ne'
  have e : (constant S_ .f32 0x44000000#32 : FVec Ideal S_ .f32) ix0 = ((512 : ℝ) : EReal) := ofBits_512
  rw [hScores, hDiv_at, dots_apply, root_apply, e, Ideal.sqrt_coe, if_neg (by norm_num),
    dot_coe _ _ _ _ (fun d => hq b i d) (fun d => hk b j d), div_coe_coe hs]
  rfl

theorem hMax_apply (b : Fin 2) (i : Fin 16384) : ∃ t : ℝ, hMax (hScores q k) (ix2 b i) = (t : EReal) := by
  obtain ⟨t, ht⟩ := fold_max_real Finset.univ (fun j : Fin 16384 => hScores q k (ix3 b i j)) _
    (fun j => hScores_apply q k qR kR hq hk b i j) (Ideal.ofBits .f32 0xFF800000#32) (.inl negInf) (.inl Finset.univ_nonempty)
  refine ⟨t, ?_⟩
  have e : (broadcastInDim S2x16384 ![] bcast_S_S2x16384 (constant S_ .f32 0xFF800000#32) : FVec Ideal S2x16384 .f32) (ix2 b i) = ⊥ := negInf
  rw [hMax, max_at, hRowMax_apply, ht, e]
  exact max_eq_right bot_le

theorem hWts_apply (b : Fin 2) (i j : Fin 16384) :
    hWts (hExp (hScores q k) (hMax (hScores q k))) (ix3 b i j) = ((weight (qR b i) (kR b) j : ℝ) : EReal) := by
  obtain ⟨t, ht⟩ := hMax_apply q k qR kR hq hk b i
  have he : ∀ j, hExp (hScores q k) (hMax (hScores q k)) (ix3 b i j) = ((Real.exp (score (qR b i) (kR b j) - t) : ℝ) : EReal) := fun j => by
    rw [hExp, hExp_at, sub_at, spread_apply, ht, hScores_apply q k qR kR hq hk, ← EReal.coe_sub, Ideal.exp_coe]
  have hs : hSum (hExp (hScores q k) (hMax (hScores q k))) (ix2 b i) = ((∑ j, Real.exp (score (qR b i) (kR b j) - t) : ℝ) : EReal) := by
    rw [hSum_apply, coe_sum]
    exact Finset.sum_congr rfl fun j _ => he j
  rw [hWts, trunc_at, hDiv_at, spread_apply, hs, he, div_coe_coe (sum_exp_pos _).ne']
  exact congrArg _ (softmax_shift (fun j => score (qR b i) (kR b j)) t j)

theorem hAtt_apply (v : FVec Ideal S2x16384x512 .bf16) (b : Fin 2) (i : Fin 16384) (d : Fin 512) :
    hAtt q k v (ix3 b i d) = att qR kR v b i d := by
  rw [hAtt, hOut_apply]
  exact Finset.sum_congr rfl fun j _ => by rw [hWts_apply q k qR kR hq hk]

end

end Cert.ReferenceIdeal.Hand
-- ==== Proof.ReferenceIdeal.Payloads.lean ====
/-
  Hand-written, untrusted. The reference's tail over the extended reals: each row of its operand quantised and projected,
  the exponent taken by logarithms.
-/
module

public import proofs.«01_k».proof.Proof.Gen.ReferenceIdeal.Skeleton
public import proofs.«01_k».proof.Proof.QuantMath
public import Idealize.ShloMosaic.Lib.Pointwise

@[expose] public section

set_option maxRecDepth 16384

noncomputable section

namespace Cert.ReferenceIdeal.Hand

open Cert.ReferenceIdeal Cert.ReferenceIdeal.Gen Cert.QuantMath
open Idealize.ShloMosaic Idealize.ShloMosaic.TcCoe Idealize.ShloMosaic.Tactic

/-- The exponents of a column of numbers, as the reference takes them. -/
def tailExp (v : FVec Ideal S32768 .f32) : FVec Ideal S32768 .f32 :=
  select (cmpf .olt v (broadcast S32768 (Scalar.ofBits .f32 0x00800000#32))) (broadcast S32768 (Scalar.ofBits .f32 0x00000000#32))
    (addf (floor (divf (log v) (log (broadcast S32768 (Scalar.ofBits .f32 0x40000000#32))))) (broadcast S32768 (Scalar.ofBits .f32 0x3F800000#32)))

def tailMax (v : FVec Ideal S32768x512 .f32) : FVec Ideal S32768 .f32 :=
  mulf (multiReduction .maximumf [1] S32768 (absf v) 0xFF800000#32 reduces_S32768x512_S32768 (.inl rfl) rfl)
    (broadcast S32768 (Scalar.ofBits .f32 0x3B124925#32))

def tailCodes (v : FVec Ideal S32768x512 .f32) (e : FVec Ideal S32768 .f32) : FVec Ideal S32768x512 .fp8e4m3 :=
  truncf .fp8e4m3 (minimumf (broadcast S32768x512 (Scalar.ofBits .f32 0x43E00000#32)) (maximumf (broadcast S32768x512 (Scalar.ofBits .f32 0xC3E00000#32))
    (mulf v (broadcastTo S32768x512 (shapeCast S32768x1 (exp2 (subf (broadcast S32768 (Scalar.ofBits .f32 0x00000000#32)) e))
      shapeCasts_S32768_S32768x1) broadcasts_S32768x1_S32768x512)))) bitsLt_fp8e4m3_f32

theorem pay3_eq (a : Vec Ideal S32768x512 .f32) : k0_pay3 a = a := by funext j; pointwise [k0_pay3]

theorem pay4_eq (a : Vec Ideal S32768x512 .f32) : k0_pay4 a = tailExp (tailMax a) := by
  unfold k0_pay4
  rw [pay3_eq]
  rfl
theorem pay5_eq (a : Vec Ideal S32768x512 .f32) : k0_pay5 a = exp2 (tailExp (tailMax a)) := by
  unfold k0_pay5
  rw [pay4_eq]
theorem pay6_eq (a : Vec Ideal S32768x512 .f32) : k0_pay6 a = tailCodes a (tailExp (tailMax a)) := by
  unfold k0_pay6
  rw [pay4_eq, pay3_eq]
  rfl

theorem rowMax_apply (v : FVec Ideal S32768x512 .f32) (r : Fin 32768) :
    multiReduction .maximumf [1] S32768 v 0xFF800000#32 reduces_S32768x512_S32768 (.inl rfl) rfl (ix1 r)
      = Finset.univ.fold max (Ideal.ofBits .f32 0xFF800000#32) fun d : Fin 512 => v (ix2 r d) := by
  pointwise

theorem mul_at (x y : FVec Ideal S32768 .f32) (i : S32768.Idx) : mulf x y i = x i * y i := rfl
theorem exp2_at (x : FVec Ideal S32768 .f32) (i : S32768.Idx) : exp2 x i = Ideal.exp2 (x i) := rfl

theorem tailMax_apply (v : FVec Ideal S32768x512 .f32) (r : Fin 32768) : tailMax v (ix1 r) = amax fun d => v (ix2 r d) := by
  rw [tailMax, mul_at, rowMax_apply]; rfl

theorem tailExp_apply (v : FVec Ideal S32768 .f32) (i : S32768.Idx) (ρ : ℝ) (h0 : 0 ≤ ρ) (hv : v i = (ρ : EReal)) :
    tailExp v i = ((expo ρ : ℝ) : EReal) := by
  refine Eq.trans (show tailExp v i = if Ideal.cmp .olt (v i) (Ideal.ofBits .f32 0x00800000#32) = 1#1 then Ideal.ofBits .f32 0x00000000#32
    else Ideal.liftRound Int.floor (Ideal.div (Ideal.log (v i)) (Ideal.log (Ideal.ofBits .f32 0x40000000#32))) + Ideal.ofBits .f32 0x3F800000#32
    from rfl) ?_
  rw [Ideal.ofBits_zero_f32, hv]
  exact expo_log ρ h0

theorem tailCodes_apply (v : FVec Ideal S32768x512 .f32) (e : FVec Ideal S32768 .f32) (r : Fin 32768) (d : Fin 512) (n : ℤ)
    (he : e (ix1 r) = ((n : ℝ) : EReal)) : tailCodes v e (ix2 r d) = min (Ideal.ofBits .f32 0x43E00000#32)
      (max (Ideal.ofBits .f32 0xC3E00000#32) (v (ix2 r d) * (((2 : ℝ) ^ (-n) : ℝ) : EReal))) := by
  have e' : Ideal.exp2 (0 - e (ix1 r)) = (((2 : ℝ) ^ (-n) : ℝ) : EReal) := by
    rw [he, zero_sub, ← EReal.coe_neg, ← Int.cast_neg]
    exact exp2_int (-n)
  rw [← e']
  pointwise [tailCodes]
  rfl

section
variable (a : Vec Ideal S32768x512 .f32) (r : Fin 32768) (ρ : ℝ) (h0 : 0 ≤ ρ) (ha : amax (fun d => a (ix2 r d)) = (ρ : EReal))
include h0 ha

theorem exp_apply : tailExp (tailMax a) (ix1 r) = ((expo ρ : ℝ) : EReal) :=
  tailExp_apply _ _ ρ h0 ((tailMax_apply a r).trans ha)

theorem pay5_apply : k0_pay5 a (ix1 r) = (((2 : ℝ) ^ expo ρ : ℝ) : EReal) := by
  rw [pay5_eq, exp2_at, exp_apply a r ρ h0 ha]
  exact exp2_int _

theorem pay6_apply (d : Fin 512) : k0_pay6 a (ix2 r d) = code (fun d => a (ix2 r d)) ρ d := by
  rw [pay6_eq]
  exact tailCodes_apply a _ r d _ (exp_apply a r ρ h0 ha)

theorem pay7_apply (wo : Vec Ideal S512x512 .fp8e4m3) (so bo : Vec Ideal S1x512 .f32) (n : Fin 512) :
    k0_pay7 a wo so bo (ix2 r n)
      = proj (fun d => a (ix2 r d)) ρ (fun d n => wo (ix2 d n)) (fun n => so (ix2 0 n)) (fun n => bo (ix2 0 n)) n := by
  pointwise [k0_pay7]
  rw [pay5_apply a r ρ h0 ha]
  simp only [pay6_apply a r ρ h0 ha]
  rfl

theorem pay2_apply (wo : Vec Ideal S512x512 .fp8e4m3) (so bo : Vec Ideal S1x512 .f32) (n : Fin 512) :
    k0_pay2 (k0_pay7 a wo so bo) (ix2 r n)
      = proj (fun d => a (ix2 r d)) ρ (fun d n => wo (ix2 d n)) (fun n => so (ix2 0 n)) (fun n => bo (ix2 0 n)) n := by
  rw [← pay7_apply a r ρ h0 ha]
  pointwise [k0_pay2]

theorem pay1_apply (wo : Vec Ideal S512x512 .fp8e4m3) (so bo : Vec Ideal S1x512 .f32) (x : Vec Ideal S32768x512 .bf16) (n : Fin 512) :
    k0_pay1 (k0_pay7 a wo so bo) x (ix2 r n) = x (ix2 r n)
      + proj (fun d => a (ix2 r d)) ρ (fun d n => wo (ix2 d n)) (fun n => so (ix2 0 n)) (fun n => bo (ix2 0 n)) n := by
  rw [← pay7_apply a r ρ h0 ha]
  pointwise [k0_pay1]

end

end Cert.ReferenceIdeal.Hand
-- ==== Proof.ReferenceIdeal.Arrays.lean ====
/-
  Hand-written, untrusted. The reference's run over the extended reals: the tail's four arrays, the reshapes that follow it,
  and the four results as functions of the arguments.
-/
module

public import proofs.«01_k».proof.Proof.ReferenceIdeal.Host
public import proofs.«01_k».proof.Proof.ReferenceIdeal.Payloads

@[expose] public section

set_option maxRecDepth 16384

noncomputable section

namespace Cert.ReferenceIdeal.Hand

open Cert.ReferenceIdeal Cert.ReferenceIdeal.Gen Cert.KernelIdeal.Hand Cert.QuantMath
open Idealize.ShloMosaic Idealize.ShloMosaic.TcCoe Idealize.ShloMosaic.Tactic

variable (m : (ℓ : Loc nD τ sig) → Buf (Elt Ideal) ℓ) (c : Dev nD)

/-! ### Each window's one block is its whole array -/

/-- The region's one point. -/
def t₀ : Fin cfg0.N := ⟨0, by decide⟩

theorem zero2 : (![0, 0] : Fin 2 → Nat) = fun _ => 0 := funext fun a => by fin_cases a <;> rfl
theorem zero1 : (![0] : Fin 1 → Nat) = fun _ => 0 := funext fun a => by fin_cases a; rfl

theorem blk_0 : iblk m c 0 t₀ = (V m c main_v17 : Vec Ideal S32768x512 .f32) :=
  Memref.read_access_unit_zero (Elt Ideal) main_v17 (funext fun a => by fin_cases a <;> decide) (fun a => by fin_cases a <;> decide) _
theorem blk_1 : iblk m c 1 t₀ = (V m c main_v18 : Vec Ideal S32768x512 .bf16) :=
  Memref.read_access_unit_zero (Elt Ideal) main_v18 (funext fun a => by fin_cases a <;> decide) (fun a => by fin_cases a <;> decide) _
theorem blk_2 : iblk m c 2 t₀ = (V m c main_arg4 : Vec Ideal S512x512 .fp8e4m3) :=
  Memref.read_access_unit_zero (Elt Ideal) main_arg4 (funext fun a => by fin_cases a <;> decide) (fun a => by fin_cases a <;> decide) _
theorem blk_3 : iblk m c 3 t₀ = (V m c main_v19 : Vec Ideal S1x512 .f32) :=
  Memref.read_access_unit_zero (Elt Ideal) main_v19 (funext fun a => by fin_cases a <;> decide) (fun a => by fin_cases a <;> decide) _
theorem blk_4 : iblk m c 4 t₀ = (V m c main_v20 : Vec Ideal S1x512 .f32) :=
  Memref.read_access_unit_zero (Elt Ideal) main_v20 (funext fun a => by fin_cases a <;> decide) (fun a => by fin_cases a <;> decide) _

section
variable (x0 : Vec Ideal S32768x512 .f32) (x1 : Vec Ideal S32768x512 .bf16) (x2 : Vec Ideal S512x512 .fp8e4m3) (x3 x4 : Vec Ideal S1x512 .f32)

theorem tail_eq : k0_pay8 x0 x1 x2 x3 x4 = k0_pay7 x0 x2 x3 x4 := by
  rw [k0_pay8, View.ld_unit_zero zero2, View.ld_unit_zero zero2, View.ld_unit_zero zero2, View.ld_unit_zero zero2]

theorem out_5 : out0_5 x0 x1 x2 x3 x4 = k0_pay1 (k0_pay7 x0 x2 x3 x4) x1 := by
  rw [out0_5, View.canon_unit_zero zero2, tail_eq, View.ld_unit_zero zero2]
theorem out_6 : out0_6 x0 x1 x2 x3 x4 = k0_pay2 (k0_pay7 x0 x2 x3 x4) := by
  rw [out0_6, View.canon_unit_zero zero2, tail_eq]
theorem out_7 : out0_7 x0 x1 x2 x3 x4 = k0_pay6 x0 := by
  rw [out0_7, View.canon_unit_zero zero2, View.ld_unit_zero zero2]
theorem out_8 : out0_8 x0 x1 x2 x3 x4 = k0_pay5 x0 := by
  rw [out0_8, View.canon_unit_zero zero1, View.ld_unit_zero zero2]
end

theorem flushed_at (w : Fin cfg0.W) (hw : (cfg0.win w).flush t₀ = true) :
    ((cfg0.win w).blk t₀).view.read (Elt Ideal) ((dats m 0 c).arrAt w cfg0.N) = (dats m 0 c).flushed w t₀ := by
  rw [show cfg0.N = (t₀ : Fin cfg0.N).val + 1 from rfl, (dats m 0 c).arrAt_succ w t₀, if_pos hw]
  exact View.read_write_univ _ _

theorem arr_5 : (dats m 0 c).arrAt 5 cfg0.N = k0_pay1 (k0_pay7 (V m c main_v17) (V m c main_arg4) (V m c main_v19) (V m c main_v20)) (V m c main_v18) := by
  have hr := fun f => Memref.read_access_unit_zero (Elt Ideal) main_v21_0 (off := fun a => (win0_5.index t₀) a * main_v21_0.ty.shape.size a)
    (funext fun a => by fin_cases a <;> decide) (fun a => by fin_cases a <;> decide) f
  refine (hr _).symm.trans ((flushed_at m c 5 (flush0_5 t₀)).trans ?_)
  show (cfg0.win 5).cut _ ((dats m 0 c).after 5 t₀) = _
  rw [after0_5, out_5, blk_0, blk_1, blk_2, blk_3, blk_4]
  rfl

theorem arr_6 : (dats m 0 c).arrAt 6 cfg0.N = k0_pay2 (k0_pay7 (V m c main_v17) (V m c main_arg4) (V m c main_v19) (V m c main_v20)) := by
  have hr := fun f => Memref.read_access_unit_zero (Elt Ideal) main_v21_1 (off := fun a => (win0_6.index t₀) a * main_v21_1.ty.shape.size a)
    (funext fun a => by fin_cases a <;> decide) (fun a => by fin_cases a <;> decide) f
  refine (hr _).symm.trans ((flushed_at m c 6 (flush0_6 t₀)).trans ?_)
  show (cfg0.win 6).cut _ ((dats m 0 c).after 6 t₀) = _
  rw [after0_6, out_6, blk_0, blk_2, blk_3, blk_4]
  rfl

theorem arr_7 : (dats m 0 c).arrAt 7 cfg0.N = k0_pay6 (V m c main_v17) := by
  have hr := fun f => Memref.read_access_unit_zero (Elt Ideal) main_v21_2 (off := fun a => (win0_7.index t₀) a * main_v21_2.ty.shape.size a)
    (funext fun a => by fin_cases a <;> decide) (fun a => by fin_cases a <;> decide) f
  refine (hr _).symm.trans ((flushed_at m c 7 (flush0_7 t₀)).trans ?_)
  show (cfg0.win 7).cut _ ((dats m 0 c).after 7 t₀) = _
  rw [after0_7, out_7, blk_0]
  rfl

/-- The block written back is the whole vector. -/
theorem cut_8 (x : Vec Ideal S32768 .f32) : (cfg0.win 8).cut (cfg0.grid.coords t₀) x = x := rfl

theorem arr_8 : (dats m 0 c).arrAt 8 cfg0.N = k0_pay5 (V m c main_v17) := by
  have hr := fun f => Memref.read_access_unit_zero (Elt Ideal) main_v21_3 (off := fun a => (win0_8.index t₀) a * main_v21_3.ty.shape.size a)
    (funext fun a => by fin_cases a <;> decide) (fun a => by fin_cases a <;> decide) f
  refine (hr _).symm.trans ((flushed_at m c 8 (flush0_8 t₀)).trans ?_)
  show (cfg0.win 8).cut _ ((dats m 0 c).after 8 t₀) = _
  rw [after0_8, out_8, blk_0]
  exact cut_8 _

/-! ### The reshapes after the region -/

section
variable (W : Valuation τ sig (Elt Ideal))

theorem tail_22 : StableHlo.after (List.flatten [hostOps1]) W (Proc.devRef .tc main_v22)
    = shapeCast S2x16384x512 (W (Proc.devRef .tc main_v21_0) : Vec Ideal S32768x512 .bf16) shapeCasts_S32768x512_S2x16384x512 := by
  show StableHlo.after hostOps1 W (Proc.tc.devRef main_v22) = _
  after_reads_simp
  rfl
theorem tail_23 : StableHlo.after (List.flatten [hostOps1]) W (Proc.devRef .tc main_v23)
    = shapeCast S2x16384x512 (W (Proc.devRef .tc main_v21_1) : Vec Ideal S32768x512 .bf16) shapeCasts_S32768x512_S2x16384x512 := by
  show StableHlo.after hostOps1 W (Proc.tc.devRef main_v23) = _
  after_reads_simp
  rfl
theorem tail_24 : StableHlo.after (List.flatten [hostOps1]) W (Proc.devRef .tc main_v24)
    = shapeCast S2x16384x512 (W (Proc.devRef .tc main_v21_2) : Vec Ideal S32768x512 .fp8e4m3) shapeCasts_S32768x512_S2x16384x512 := by
  show StableHlo.after hostOps1 W (Proc.tc.devRef main_v24) = _
  after_reads_simp
  rfl
theorem tail_25 : StableHlo.after (List.flatten [hostOps1]) W (Proc.devRef .tc main_v25)
    = shapeCast S2x1x16384 (W (Proc.devRef .tc main_v21_3) : Vec Ideal S32768 .f32) shapeCasts_S32768_S2x1x16384 := by
  show StableHlo.after hostOps1 W (Proc.tc.devRef main_v25) = _
  after_reads_simp
  rfl
end

/-- The windows' arrays are distinct. -/
theorem arr_inj : Function.Injective (Pipeline.arrRef spec0) := by decide

theorem end_22 : Pipeline.afterTail₀ cfgs (dats m) 0 (V0 m) [hostOps1] c main_v22
    = shapeCast S2x16384x512 (k0_pay1 (k0_pay7 (V m c main_v17) (V m c main_arg4) (V m c main_v19) (V m c main_v20)) (V m c main_v18)) shapeCasts_S32768x512_S2x16384x512 :=
  (tail_22 _).trans (congrArg (fun x : Vec Ideal S32768x512 .bf16 => shapeCast S2x16384x512 x shapeCasts_S32768x512_S2x16384x512)
    ((Pipeline.withArrays_arr spec0 arr_inj c (V0 m c) (fun w => (dats m 0 c).arrAt w cfg0.N) 5).trans (arr_5 m c)))
theorem end_23 : Pipeline.afterTail₀ cfgs (dats m) 0 (V0 m) [hostOps1] c main_v23
    = shapeCast S2x16384x512 (k0_pay2 (k0_pay7 (V m c main_v17) (V m c main_arg4) (V m c main_v19) (V m c main_v20))) shapeCasts_S32768x512_S2x16384x512 :=
  (tail_23 _).trans (congrArg (fun x : Vec Ideal S32768x512 .bf16 => shapeCast S2x16384x512 x shapeCasts_S32768x512_S2x16384x512)
    ((Pipeline.withArrays_arr spec0 arr_inj c (V0 m c) (fun w => (dats m 0 c).arrAt w cfg0.N) 6).trans (arr_6 m c)))
theorem end_24 : Pipeline.afterTail₀ cfgs (dats m) 0 (V0 m) [hostOps1] c main_v24
    = shapeCast S2x16384x512 (k0_pay6 (V m c main_v17)) shapeCasts_S32768x512_S2x16384x512 :=
  (tail_24 _).trans (congrArg (fun x : Vec Ideal S32768x512 .fp8e4m3 => shapeCast S2x16384x512 x shapeCasts_S32768x512_S2x16384x512)
    ((Pipeline.withArrays_arr spec0 arr_inj c (V0 m c) (fun w => (dats m 0 c).arrAt w cfg0.N) 7).trans (arr_7 m c)))
theorem end_25 : Pipeline.afterTail₀ cfgs (dats m) 0 (V0 m) [hostOps1] c main_v25
    = shapeCast S2x1x16384 (k0_pay5 (V m c main_v17)) shapeCasts_S32768_S2x1x16384 :=
  (tail_25 _).trans (congrArg (fun x : Vec Ideal S32768 .f32 => shapeCast S2x1x16384 x shapeCasts_S32768_S2x1x16384)
    ((Pipeline.withArrays_arr spec0 arr_inj c (V0 m c) (fun w => (dats m 0 c).arrAt w cfg0.N) 8).trans (arr_8 m c)))

/-! ### The reshapes at an index -/

/-- Row `i` of batch `b` among all rows. -/
def row (b : Fin 2) (i : Fin 16384) : Fin 32768 := ⟨b.val * 16384 + i.val, by omega⟩

theorem rows_apply {et : EltTy} (x : Vec Ideal S2x16384x512 et) (b : Fin 2) (i : Fin 16384) (d : Fin 512) :
    shapeCast S32768x512 x shapeCasts_S2x16384x512_S32768x512 (ix2 (row b i) d) = x (ix3 b i d) := by
  pointwise [row]

theorem batches_apply {et : EltTy} (x : Vec Ideal S32768x512 et) (b : Fin 2) (i : Fin 16384) (d : Fin 512) :
    shapeCast S2x16384x512 x shapeCasts_S32768x512_S2x16384x512 (ix3 b i d) = x (ix2 (row b i) d) := by
  pointwise [row]

theorem scales_apply (x : Vec Ideal S32768 .f32) (b : Fin 2) (z : Fin 1) (i : Fin 16384) :
    shapeCast S2x1x16384 x shapeCasts_S32768_S2x1x16384 (ix3 b z i) = x (ix1 (row b i)) := by
  pointwise [row]

theorem vec_apply (x : Vec Ideal S512 .f32) (n : Fin 512) : shapeCast S1x512 x shapeCasts_S512_S1x512 (ix2 0 n) = x (ix1 n) := by
  pointwise

end Cert.ReferenceIdeal.Hand
-- ==== Proof.ReferenceIdeal.Values.lean ====
/-
  Hand-written, untrusted. The reference's run over the extended reals leaves the four results as functions of the arguments:
  the functions the kernel's run leaves.
-/
module

public import proofs.«01_k».proof.Proof.ReferenceIdeal.Arrays

@[expose] public section

set_option maxRecDepth 16384

noncomputable section

namespace Cert.ReferenceIdeal.Hand

open Cert.ReferenceIdeal Cert.ReferenceIdeal.Gen Cert.KernelIdeal.Hand Cert.QuantMath
open Idealize.ShloMosaic Idealize.ShloMosaic.TcCoe Idealize.ShloMosaic.Tactic

/-! ### The tail's vectors, row by row -/

section
variable (A : Vec Ideal S2x16384x512 .f32) (x : Vec Ideal S2x16384x512 .bf16) (wo : Vec Ideal S512x512 .fp8e4m3) (so bo : Vec Ideal S512 .f32)
  (a : Fin 2 → Fin 16384 → Fin 512 → EReal) (hA : ∀ b i d, A (ix3 b i d) = a b i d)
  (h0 : ∀ b i, 0 ≤ rho a b i) (ha : ∀ b i, amax (a b i) = (rho a b i : EReal))

/-- All rows of `A`, batch after batch. -/
def flat : Vec Ideal S32768x512 .f32 := shapeCast S32768x512 A shapeCasts_S2x16384x512_S32768x512

include hA in
theorem flat_row (b : Fin 2) (i : Fin 16384) : (fun d => flat A (ix2 (row b i) d)) = a b i :=
  funext fun d => (rows_apply A b i d).trans (hA b i d)

include hA h0 ha in
theorem proj_at (b : Fin 2) (i : Fin 16384) (n : Fin 512) :
    k0_pay2 (k0_pay7 (flat A) wo (shapeCast S1x512 so shapeCasts_S512_S1x512) (shapeCast S1x512 bo shapeCasts_S512_S1x512)) (ix2 (row b i) n)
      = projOf a wo so bo b i n := by
  have hr := flat_row A a hA b i
  refine (pay2_apply _ _ (rho a b i) (h0 b i) (by rw [hr]; exact ha b i) _ _ _ n).trans ?_
  rw [hr]
  exact congrArg₂ (fun s t => proj (a b i) (rho a b i) (fun d n => wo (ix2 d n)) s t n) (funext fun n => vec_apply so n) (funext fun n => vec_apply bo n)

include hA h0 ha in
theorem y_at (b : Fin 2) (i : Fin 16384) (n : Fin 512) :
    k0_pay1 (k0_pay7 (flat A) wo (shapeCast S1x512 so shapeCasts_S512_S1x512) (shapeCast S1x512 bo shapeCasts_S512_S1x512))
      (shapeCast S32768x512 x shapeCasts_S2x16384x512_S32768x512) (ix2 (row b i) n) = x (ix3 b i n) + projOf a wo so bo b i n := by
  have hr := flat_row A a hA b i
  refine (pay1_apply _ _ (rho a b i) (h0 b i) (by rw [hr]; exact ha b i) _ _ _ _ n).trans ?_
  rw [hr]
  exact congrArg₂ (· + ·) (rows_apply x b i n) (congrArg₂ (fun s t => proj (a b i) (rho a b i) (fun d n => wo (ix2 d n)) s t n)
    (funext fun n => vec_apply so n) (funext fun n => vec_apply bo n))

include hA h0 ha in
theorem y_eq : shapeCast S2x16384x512 (k0_pay1 (k0_pay7 (flat A) wo (shapeCast S1x512 so shapeCasts_S512_S1x512)
      (shapeCast S1x512 bo shapeCasts_S512_S1x512)) (shapeCast S32768x512 x shapeCasts_S2x16384x512_S32768x512)) shapeCasts_S32768x512_S2x16384x512
    = resY a x wo so bo := by
  funext j
  obtain ⟨b, i, n, rfl⟩ : ∃ b i n, j = ix3 b i n := ⟨_, _, _, eq_ix3 j⟩
  exact (batches_apply (et := .bf16) _ b i n).trans (y_at A x wo so bo a hA h0 ha b i n)

include hA h0 ha in
theorem proj_eq : shapeCast S2x16384x512 (k0_pay2 (k0_pay7 (flat A) wo (shapeCast S1x512 so shapeCasts_S512_S1x512)
      (shapeCast S1x512 bo shapeCasts_S512_S1x512))) shapeCasts_S32768x512_S2x16384x512 = resProj a wo so bo := by
  funext j
  obtain ⟨b, i, n, rfl⟩ : ∃ b i n, j = ix3 b i n := ⟨_, _, _, eq_ix3 j⟩
  exact (batches_apply (et := .bf16) _ b i n).trans (proj_at A wo so bo a hA h0 ha b i n)

include hA h0 ha in
theorem codes_eq : shapeCast S2x16384x512 (k0_pay6 (flat A)) shapeCasts_S32768x512_S2x16384x512 = resCodes a := by
  funext j
  obtain ⟨b, i, d, rfl⟩ : ∃ b i d, j = ix3 b i d := ⟨_, _, _, eq_ix3 j⟩
  have hr := flat_row A a hA b i
  refine (batches_apply (et := .fp8e4m3) _ b i d).trans ((pay6_apply _ _ (rho a b i) (h0 b i) (by rw [hr]; exact ha b i) d).trans ?_)
  rw [hr]
  rfl

include hA h0 ha in
theorem scale_eq : shapeCast S2x1x16384 (k0_pay5 (flat A)) shapeCasts_S32768_S2x1x16384 = resScale a := by
  funext j
  obtain ⟨b, z, i, rfl⟩ : ∃ b z i, j = ix3 b z i := ⟨_, _, _, eq_ix3 j⟩
  have hr := flat_row A a hA b i
  rw [scales_apply, pay5_apply _ _ (rho a b i) (h0 b i) (by rw [hr]; exact ha b i)]
  rfl
end

/-! ### The run's results -/

section
variable (m : (ℓ : Loc nD τ sig) → Buf (Elt Ideal) ℓ) (g : Dev nD → PrngReg) (qR kR : Dev nD → Fin 2 → Fin 16384 → Fin 512 → ℝ)
  (hq : ∀ c b i d, (m ((c : Thread nD τ).loc main_arg0) : Vec Ideal S2x16384x512 .bf16) (ix3 b i d) = ((qR c b i d : ℝ) : EReal))
  (hk : ∀ c b i d, (m ((c : Thread nD τ).loc main_arg1) : Vec Ideal S2x16384x512 .bf16) (ix3 b i d) = ((kR c b i d : ℝ) : EReal))
  (hρ : ∀ c b i, ∃ ρ : ℝ, 0 ≤ ρ ∧ amax (att (qR c) (kR c) (m ((c : Thread nD τ).loc main_arg2)) b i) = (ρ : EReal))

/-- The attention output of device `c`'s arguments. -/
def attOf (c : Dev nD) : Fin 2 → Fin 16384 → Fin 512 → EReal := att (qR c) (kR c) (m ((c : Thread nD τ).loc main_arg2))

include hρ in
theorem rho_spec (c : Dev nD) (b : Fin 2) (i : Fin 16384) : 0 ≤ rho (attOf m qR kR c) b i ∧ amax (attOf m qR kR c b i) = (rho (attOf m qR kR c) b i : EReal) := by
  obtain ⟨ρ, h1, h2⟩ := hρ c b i
  unfold rho attOf
  rw [h2, EReal.toReal_coe]
  exact ⟨h1, rfl⟩

include hq hk hρ in
theorem run_values : θ_run defs (onTc (τ := τ) (main (F := Ideal))) ⟨m, fun _ => 0, g⟩ (fun r => ∀ c : Dev nD,
    r.2.mem ((c : Thread nD τ).loc main_v22) = resY (attOf m qR kR c) (m ((c : Thread nD τ).loc main_arg3)) (m ((c : Thread nD τ).loc main_arg4))
        (m ((c : Thread nD τ).loc main_arg5)) (m ((c : Thread nD τ).loc main_arg6))
      ∧ r.2.mem ((c : Thread nD τ).loc main_v23) = resProj (attOf m qR kR c) (m ((c : Thread nD τ).loc main_arg4))
        (m ((c : Thread nD τ).loc main_arg5)) (m ((c : Thread nD τ).loc main_arg6))
      ∧ r.2.mem ((c : Thread nD τ).loc main_v24) = resCodes (attOf m qR kR c)
      ∧ r.2.mem ((c : Thread nD τ).loc main_v25) = resScale (attOf m qR kR c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  refine (θ_run defs _ _).mono (fun r h c => ?_) (run_main m g)
  have hA : ∀ b i d, hAtt (m ((c : Thread nD τ).loc main_arg0)) (m ((c : Thread nD τ).loc main_arg1)) (m ((c : Thread nD τ).loc main_arg2)) (ix3 b i d)
      = attOf m qR kR c b i d := fun b i d => hAtt_apply _ _ (qR c) (kR c) (hq c) (hk c) _ b i d
  have h0 := fun b i => (rho_spec m qR kR hρ c b i).1
  have ha := fun b i => (rho_spec m qR kR hρ c b i).2
  refine ⟨?_, ?_, ?_, ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 2).trans (((dats m 0 c).arrAt_in 2 rfl _).trans ((A_eq m c 2).trans (V_main_arg4 m c))),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩
  · refine ((h c).2 main_v22 (Pipeline.mem_restRefs_of main_v22 (by decide) (by decide))).trans ((end_22 m c).trans ?_)
    rw [V_att, V_x, V_s, V_b, V_main_arg4]
    exact y_eq _ _ _ _ _ _ hA h0 ha
  · refine ((h c).2 main_v23 (Pipeline.mem_restRefs_of main_v23 (by decide) (by decide))).trans ((end_23 m c).trans ?_)
    rw [V_att, V_s, V_b, V_main_arg4]
    exact proj_eq _ _ _ _ _ hA h0 ha
  · refine ((h c).2 main_v24 (Pipeline.mem_restRefs_of main_v24 (by decide) (by decide))).trans ((end_24 m c).trans ?_)
    rw [V_att]
    exact codes_eq _ _ hA h0 ha
  · refine ((h c).2 main_v25 (Pipeline.mem_restRefs_of main_v25 (by decide) (by decide))).trans ((end_25 m c).trans ?_)
    rw [V_att]
    exact scale_eq _ _ hA h0 ha

end

end Cert.ReferenceIdeal.Hand
-- ==== Proof.Bounds.lean ====
/-
  Hand-written, untrusted. What the precondition gives over the extended reals: queries, keys and values are real numbers no
  larger than the largest finite bf16, so is every entry of the attention output, and the number that a row's exponent is
  taken of is a real one below 2^126.
-/
module

public import proofs.«01_k».proof.Pre_finite
public import proofs.«01_k».proof.Proof.KernelIdeal.Results

@[expose] public section

noncomputable section

namespace Cert.Bounds

open Cert.KernelIdeal.Hand Cert.QuantMath Cert.SoftmaxMath
open Idealize.ShloMosaic Idealize.ShloMosaic.Tactic

/-- The largest finite bf16. -/
def top : ℝ := 255 * 2 ^ 120

theorem ofBits_top : Ideal.ofBits .bf16 0x7F7F#16 = ((top : ℝ) : EReal) := by
  unfold Ideal.ofBits Ideal.ieee
  dsimp only
  rw [show ((0x7F7F#16).extractLsb' 7 8).toNat = 254 by decide, show ((0x7F7F#16).extractLsb' 0 7).toNat = 127 by decide,
    show (0x7F7F#16).extractLsb' (8 + 7) 1 = 0#1 by decide]
  unfold top
  norm_num

theorem ofBits_448 : ∃ e : ℝ, 0 ≤ e ∧ e ≤ 1 / 400 ∧ Ideal.ofBits .f32 0x3B124925#32 = ((e : ℝ) : EReal) := by
  unfold Ideal.ofBits Ideal.ieee
  dsimp only
  rw [show ((0x3B124925#32).extractLsb' 23 8).toNat = 118 by decide, show ((0x3B124925#32).extractLsb' 0 23).toNat = 1198373 by decide,
    show (0x3B124925#32).extractLsb' (8 + 23) 1 = 0#1 by decide, if_neg (by norm_num), if_neg (by norm_num)]
  refine ⟨_, ?_, ?_, rfl⟩ <;> norm_num

theorem real_of_le {x : EReal} {B : ℝ} (h : max x (-x) ≤ (B : EReal)) : ∃ r : ℝ, x = (r : EReal) ∧ |r| ≤ B := by
  obtain ⟨h1, h2⟩ := max_le_iff.mp h
  induction x with
  | bot => simp at h2
  | top => simp at h1
  | coe r =>
    rw [← EReal.coe_neg, EReal.coe_le_coe_iff] at h2
    exact ⟨r, rfl, abs_le'.mpr ⟨EReal.coe_le_coe_iff.mp h1, h2⟩⟩

theorem cmp_ole (x y : EReal) : Ideal.cmp .ole x y = 1#1 ↔ x ≤ y := by
  unfold Ideal.cmp
  by_cases h : x ≤ y <;> simp only [h, decide_true, decide_false] <;> decide

theorem and_one (a b : BitVec 1) : IntOp.andi a b = 1#1 ↔ a = 1#1 ∧ b = 1#1 := by
  revert a b; decide

section
variable [Cert.Pre_finite.Facts]
  (q k v x : Vec Ideal Cert.Pre_finite.S2x16384x512 .bf16) (w : Vec Ideal Cert.Pre_finite.S512x512 .fp8e4m3) (s b : Vec Ideal Cert.Pre_finite.S512 .f32)
  (h : Cert.Pre_finite.fn (F := Ideal) q k v x w s b = fun _ => 1#1)
include h

theorem entries (j : Cert.Pre_finite.S2x16384x512.Idx) :
    (∃ r : ℝ, q j = (r : EReal) ∧ |r| ≤ top) ∧ (∃ r : ℝ, k j = (r : EReal) ∧ |r| ≤ top) ∧ (∃ r : ℝ, v j = (r : EReal) ∧ |r| ≤ top) := by
  have e : IntOp.andi (IntOp.andi (Ideal.cmp .ole (max (q j) (-(q j))) (Ideal.ofBits .bf16 0x7F7F#16))
      (Ideal.cmp .ole (max (k j) (-(k j))) (Ideal.ofBits .bf16 0x7F7F#16)))
      (Ideal.cmp .ole (max (v j) (-(v j))) (Ideal.ofBits .bf16 0x7F7F#16)) = 1#1 := congrFun h j
  rw [and_one, and_one, cmp_ole, cmp_ole, cmp_ole, ofBits_top] at e
  exact ⟨real_of_le e.1.1, real_of_le e.1.2, real_of_le e.2⟩

/-- The three arrays as arrays of reals. -/
theorem reals : ∃ qR kR vR : Fin 2 → Fin 16384 → Fin 512 → ℝ, (∀ b i d, q (ix3 b i d) = (qR b i d : EReal)) ∧
    (∀ b i d, k (ix3 b i d) = (kR b i d : EReal)) ∧ (∀ b i d, v (ix3 b i d) = (vR b i d : EReal)) ∧ ∀ b i d, |vR b i d| ≤ top := by
  have e := entries q k v x w s b h
  exact ⟨fun b i d => (e (ix3 b i d)).1.choose, fun b i d => (e (ix3 b i d)).2.1.choose, fun b i d => (e (ix3 b i d)).2.2.choose,
    fun b i d => (e (ix3 b i d)).1.choose_spec.1, fun b i d => (e (ix3 b i d)).2.1.choose_spec.1,
    fun b i d => (e (ix3 b i d)).2.2.choose_spec.1, fun b i d => (e (ix3 b i d)).2.2.choose_spec.2⟩
end

theorem weight_nonneg (a : Fin 512 → ℝ) (kr : Fin 16384 → Fin 512 → ℝ) (j : Fin 16384) : 0 ≤ weight a kr j :=
  mul_nonneg (Real.exp_pos _).le (inv_nonneg.mpr (sum_exp_pos _).le)

theorem weight_sum (a : Fin 512 → ℝ) (kr : Fin 16384 → Fin 512 → ℝ) : ∑ j, weight a kr j = 1 := by
  unfold weight
  rw [← Finset.sum_mul]
  exact mul_inv_cancel₀ (sum_exp_pos fun j => score a (kr j)).ne'

/-- An average of numbers no larger than `B` is none either. -/
theorem att_real (qR kR vR : Fin 2 → Fin 16384 → Fin 512 → ℝ) (v : Vec Ideal Cert.KernelIdeal.S2x16384x512 .bf16)
    (hv : ∀ b i d, v (ix3 b i d) = (vR b i d : EReal)) (B : ℝ) (hB : ∀ b i d, |vR b i d| ≤ B) (b : Fin 2) (i : Fin 16384) (d : Fin 512) :
    ∃ r : ℝ, att qR kR v b i d = (r : EReal) ∧ |r| ≤ B := by
  refine ⟨∑ j, weight (qR b i) (kR b) j * vR b j d, ?_, ?_⟩
  · unfold att
    exact dot_coe _ _ _ _ (fun _ => rfl) fun j => hv b j d
  · calc |∑ j, weight (qR b i) (kR b) j * vR b j d| ≤ ∑ j, |weight (qR b i) (kR b) j * vR b j d| := Finset.abs_sum_le_sum_abs _ _
      _ ≤ ∑ j, weight (qR b i) (kR b) j * B := Finset.sum_le_sum fun j _ => by
          rw [abs_mul, abs_of_nonneg (weight_nonneg _ _ _)]
          exact mul_le_mul_of_nonneg_left (hB _ _ _) (weight_nonneg _ _ _)
      _ = B := by rw [← Finset.sum_mul, weight_sum, one_mul]

theorem amax_real_of (B : ℝ) (hB : B * (1 / 400) < th 253) (a : Fin 512 → EReal) (ha : ∀ d, ∃ r : ℝ, a d = (r : EReal) ∧ |r| ≤ B) :
    ∃ ρ : ℝ, 0 ≤ ρ ∧ ρ < th 253 ∧ amax a = (ρ : EReal) := by
  choose x hx hb using ha
  have hf : ∀ d, max (a d) (-(a d)) = ((|x d| : ℝ) : EReal) := fun d => by
    rw [hx, ← EReal.coe_neg]; exact (EReal.coe_strictMono.monotone.map_max).symm
  obtain ⟨t, ht⟩ := fold_max_real Finset.univ (fun d => max (a d) (-(a d))) (fun d => |x d|) hf
    (Ideal.ofBits .f32 0xFF800000#32) (.inl negInf) (.inl Finset.univ_nonempty)
  have h0 : (0 : EReal) ≤ t := by
    rw [← ht]
    refine (Finset.le_fold_max _).mpr (.inr ⟨0, Finset.mem_univ _, ?_⟩)
    rw [hf]; exact_mod_cast abs_nonneg (x 0)
  have h1 : (t : EReal) ≤ ((B : ℝ) : EReal) := by
    rw [← ht]
    refine (Finset.fold_max_le _).mpr ⟨by rw [negInf]; exact bot_le, fun d _ => ?_⟩
    rw [hf]; exact_mod_cast hb d
  obtain ⟨e, e0, e1, he⟩ := ofBits_448
  have t0 : 0 ≤ t := by exact_mod_cast h0
  have t1 : t ≤ B := by exact_mod_cast h1
  refine ⟨t * e, mul_nonneg t0 e0, ?_, ?_⟩
  · exact lt_of_le_of_lt (mul_le_mul t1 e1 e0 (le_trans t0 t1)) hB
  · unfold amax
    rw [ht, he, EReal.coe_mul]

theorem amax_real (a : Fin 512 → EReal) (ha : ∀ d, ∃ r : ℝ, a d = (r : EReal) ∧ |r| ≤ top) :
    ∃ ρ : ℝ, 0 ≤ ρ ∧ ρ < th 253 ∧ amax a = (ρ : EReal) :=
  amax_real_of top (by unfold top th; norm_num) a ha

end Cert.Bounds
-- ==== Proof.NormMath.lean ====
/-
  Hand-written, untrusted. The group normalisation as a function of one batch of the input: means and variances over all rows
  and the sixteen channels of a group, and the bound that no normalised entry exceeds the square root of a group's size. A group with an infinite entry normalises to zero.
-/
module

public import proofs.«01_k».proof.Proof.QuantMath

@[expose] public section

noncomputable section

namespace Cert.NormMath

open Cert.QuantMath
open Idealize.ShloMosaic

/-- The `l`-th channel of `d`'s group. -/
def lane (d : Fin 512) (l : Fin 16) : Fin 512 := ⟨d.val / 16 * 16 + l.val, by omega⟩

theorem lane_lane (d : Fin 512) (l k : Fin 16) : lane (lane d l) k = lane d k :=
  Fin.ext (by unfold lane; dsimp only; omega)

theorem lane_self (d : Fin 512) : lane d ⟨d.val % 16, Nat.mod_lt _ (by omega)⟩ = d :=
  Fin.ext (by unfold lane; dsimp only; omega)

/-- The total over `d`'s group. -/
def gsum (f : Fin 16384 → Fin 512 → EReal) (d : Fin 512) : EReal := ∑ i, ∑ l, f i (lane d l)

/-- One over a group's size. -/
def inv : EReal := ((th 109 : ℝ) : EReal)

theorem ofBits_inv : Ideal.ofBits .f32 0x36800000#32 = inv := by
  have := ofBits_field 109 (by omega) (by omega)
  rw [show fieldWord (BitVec.ofNat 32 109) = 0x36800000#32 by decide] at this
  exact this

theorem ofBits_count : Ideal.ofBits .f32 0x48800000#32 = ((th 145 : ℝ) : EReal) := by
  have := ofBits_field 145 (by omega) (by omega)
  rw [show fieldWord (BitVec.ofNat 32 145) = 0x48800000#32 by decide] at this
  exact this

theorem div_count (x : EReal) : Ideal.div x (Ideal.ofBits .f32 0x48800000#32) = x * inv := by
  rw [ofBits_count, Ideal.div_coe (th_pos 145).ne', inv]
  refine congrArg _ (congrArg _ ?_)
  unfold th
  norm_num

def mean (x : Fin 16384 → Fin 512 → EReal) (d : Fin 512) : EReal := gsum x d * inv

def dev (x : Fin 16384 → Fin 512 → EReal) (i : Fin 16384) (d : Fin 512) : EReal := x i d - mean x d

def var (x : Fin 16384 → Fin 512 → EReal) (d : Fin 512) : EReal := gsum (fun i e => dev x i e * dev x i e) d * inv

def rstd (x : Fin 16384 → Fin 512 → EReal) (d : Fin 512) : EReal := Ideal.rsqrt (var x d + Ideal.ofBits .f32 0x358637BD#32)

/-- The normalised entry with its gain and offset. -/
def normed (x : Fin 16384 → Fin 512 → EReal) (g b : Fin 512 → EReal) (i : Fin 16384) (d : Fin 512) : EReal :=
  dev x i d * rstd x d * g d + b d

theorem gsum_lane (f : Fin 16384 → Fin 512 → EReal) (d : Fin 512) (l : Fin 16) : gsum f (lane d l) = gsum f d := by
  unfold gsum; simp only [lane_lane]

theorem mean_lane (x : Fin 16384 → Fin 512 → EReal) (d : Fin 512) (l : Fin 16) : mean x (lane d l) = mean x d := by
  unfold mean; rw [gsum_lane]

theorem eps_pos : ∃ e : ℝ, 0 < e ∧ Ideal.ofBits .f32 0x358637BD#32 = ((e : ℝ) : EReal) := by
  unfold Ideal.ofBits Ideal.ieee
  dsimp only
  rw [show ((0x358637BD#32).extractLsb' 23 8).toNat = 107 by decide, show ((0x358637BD#32).extractLsb' 0 23).toNat = 407485 by decide,
    show (0x358637BD#32).extractLsb' (8 + 23) 1 = 0#1 by decide, if_neg (by norm_num), if_neg (by norm_num)]
  refine ⟨_, ?_, rfl⟩
  norm_num

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem gsum_real (f : Fin 16384 → Fin 512 → ℝ) (d : Fin 512) :
    gsum (fun i e => ((f i e : ℝ) : EReal)) d = ((∑ i, ∑ l, f i (lane d l) : ℝ) : EReal) := by
  unfold gsum; simp only [coe_sum]

/-- A number whose square is no more than the sum of the squares it is one of, over the root of their mean and a positive
    number, is at most the root of their count. -/
theorem ratio_le (a S e : ℝ) (he : 0 < e) (h : a * a ≤ S) :
    |a * (Real.sqrt (S * th 109 + e))⁻¹| ≤ 512 := by
  have hS : 0 ≤ S := le_trans (mul_self_nonneg a) h
  have h9 : th 109 = 1 / 262144 := by unfold th; norm_num
  have hv : 0 < S * th 109 + e := by rw [h9]; positivity
  have hs := Real.sqrt_pos.mpr hv
  rw [abs_mul, abs_inv, abs_of_pos hs, ← div_eq_mul_inv, div_le_iff₀ hs]
  refine abs_le_of_sq_le_sq ?_ (by positivity)
  rw [mul_pow, Real.sq_sqrt hv.le, h9]
  nlinarith

/-- Of a finite input with bounded gain and offset every entry is a real number, and no larger than 512 gains and an offset. -/
theorem normed_real (x : Fin 16384 → Fin 512 → ℝ) (g b : Fin 512 → ℝ) (B : ℝ) (hg : ∀ d, |g d| ≤ B) (hb : ∀ d, |b d| ≤ B)
    (i : Fin 16384) (d : Fin 512) :
    ∃ r : ℝ, normed (fun i d => (x i d : EReal)) (fun d => (g d : EReal)) (fun d => (b d : EReal)) i d = (r : EReal) ∧ |r| ≤ 513 * B := by
  obtain ⟨e, he, hee⟩ := eps_pos
  set μ : Fin 512 → ℝ := fun d => (∑ i, ∑ l, x i (lane d l)) * th 109 with hμ
  have hm : ∀ d, mean (fun i d => (x i d : EReal)) d = (μ d : EReal) := fun d => by
    unfold mean inv; rw [gsum_real, ← EReal.coe_mul]
  have hd : ∀ i d, dev (fun i d => (x i d : EReal)) i d = ((x i d - μ d : ℝ) : EReal) := fun i d => by
    unfold dev; rw [hm, EReal.coe_sub]
  set S : ℝ := ∑ i, ∑ l, (x i (lane d l) - μ (lane d l)) * (x i (lane d l) - μ (lane d l)) with hSdef
  have hvar : var (fun i d => (x i d : EReal)) d = ((S * th 109 : ℝ) : EReal) := by
    unfold var inv
    simp only [hd, ← EReal.coe_mul]
    rw [gsum_real (fun i e => (x i e - μ e) * (x i e - μ e)), ← EReal.coe_mul]
  have hle : (x i d - μ d) * (x i d - μ d) ≤ S := by
    have h1 := Finset.single_le_sum (f := fun l => (x i (lane d l) - μ (lane d l)) * (x i (lane d l) - μ (lane d l)))
      (fun l _ => mul_self_nonneg _) (Finset.mem_univ ⟨d.val % 16, Nat.mod_lt _ (by omega)⟩)
    have h2 := Finset.single_le_sum (f := fun i => ∑ l, (x i (lane d l) - μ (lane d l)) * (x i (lane d l) - μ (lane d l)))
      (fun i _ => Finset.sum_nonneg fun l _ => mul_self_nonneg _) (Finset.mem_univ i)
    rw [lane_self] at h1
    exact h1.trans h2
  have hS : 0 ≤ S := le_trans (mul_self_nonneg _) hle
  have hv : 0 < S * th 109 + e := by have := mul_nonneg hS (th_pos 109).le; linarith
  have hr : rstd (fun i d => (x i d : EReal)) d = (((Real.sqrt (S * th 109 + e))⁻¹ : ℝ) : EReal) := by
    unfold rstd
    rw [hvar, hee, ← EReal.coe_add, Ideal.rsqrt_coe, if_neg (not_lt.mpr hv.le), if_neg hv.ne']
  refine ⟨(x i d - μ d) * (Real.sqrt (S * th 109 + e))⁻¹ * g d + b d, ?_, ?_⟩
  · unfold normed
    rw [hd, hr, ← EReal.coe_mul, ← EReal.coe_mul, ← EReal.coe_add]
  · have h0 := ratio_le _ S e he hle
    have hB : 0 ≤ B := (abs_nonneg _).trans (hg d)
    calc _ ≤ |(x i d - μ d) * (Real.sqrt (S * th 109 + e))⁻¹ * g d| + |b d| := abs_add_le _ _
      _ ≤ 512 * B + B := add_le_add (by rw [abs_mul]; exact mul_le_mul h0 (hg d) (abs_nonneg _) (by norm_num)) (hb d)
      _ = 513 * B := by ring

/-! ### Infinite inputs -/

theorem inf_add (a b : EReal) (h : a = ⊤ ∨ a = ⊥) : a + b = ⊤ ∨ a + b = ⊥ := by
  rcases h with rfl | rfl
  · induction b <;> simp
  · simp

theorem inf_sum {ι : Type} [Fintype ι] (f : ι → EReal) (a : ι) (h : f a = ⊤ ∨ f a = ⊥) : ∑ j, f j = ⊤ ∨ ∑ j, f j = ⊥ := by
  classical
  rw [← Finset.add_sum_erase _ _ (Finset.mem_univ a)]
  exact inf_add _ _ h

theorem top_sum {ι : Type} [Fintype ι] (f : ι → EReal) (a : ι) (h : ∀ j, f j = ⊤) : ∑ j, f j = ⊤ := by
  classical
  rw [← Finset.add_sum_erase _ _ (Finset.mem_univ a), h a]
  refine EReal.top_add_of_ne_bot (ne_of_gt (lt_of_lt_of_le EReal.bot_lt_zero (Finset.sum_nonneg fun j _ => ?_)))
  rw [h j]; exact le_top

/-- An infinite entry in a group makes every deviation there infinite, so the variance is, and what is left is the offset. -/
theorem normed_inf (x : Fin 16384 → Fin 512 → EReal) (g b : Fin 512 → EReal) (i : Fin 16384) (d : Fin 512) (j : Fin 16384) (l : Fin 16)
    (h : x j (lane d l) = ⊤ ∨ x j (lane d l) = ⊥) : normed x g b i d = b d := by
  have hp := th_pos 109
  have hm : mean x d = ⊤ ∨ mean x d = ⊥ := by
    unfold mean inv gsum
    rcases inf_sum (fun i => ∑ l, x i (lane d l)) j (inf_sum _ l h) with e | e <;> rw [e]
    · exact .inl (EReal.top_mul_coe_of_pos hp)
    · exact .inr (EReal.bot_mul_coe_of_pos hp)
  have hd : ∀ i l, dev x i (lane d l) * dev x i (lane d l) = ⊤ := fun i l => by
    have : dev x i (lane d l) = ⊤ ∨ dev x i (lane d l) = ⊥ := by
      unfold dev
      rw [mean_lane, sub_eq_add_neg, add_comm]
      exact inf_add _ _ (by rcases hm with e | e <;> simp [e])
    rcases this with e | e <;> rw [e] <;> rfl
  have hv : var x d = ⊤ := by
    unfold var inv gsum
    rw [top_sum _ 0 fun i => top_sum _ 0 fun l => hd i l]
    exact EReal.top_mul_coe_of_pos hp
  obtain ⟨e, _, he⟩ := eps_pos
  unfold normed rstd
  rw [hv, he, EReal.top_add_coe, Ideal.rsqrt_top, mul_zero, zero_mul, zero_add]

/-- A normalised entry depends on its group alone. -/
theorem normed_congr (x y : Fin 16384 → Fin 512 → EReal) (g b : Fin 512 → EReal) (i : Fin 16384) (d : Fin 512)
    (h : ∀ j l, x j (lane d l) = y j (lane d l)) : normed x g b i d = normed y g b i d := by
  have hm : mean x d = mean y d := by unfold mean gsum; simp only [h]
  have hd : ∀ i l, dev x i (lane d l) = dev y i (lane d l) := fun i l => by unfold dev; rw [mean_lane, mean_lane, h, hm]
  have hr : rstd x d = rstd y d := by unfold rstd var gsum; simp only [hd]
  have h0 := hd i ⟨d.val % 16, Nat.mod_lt _ (by omega)⟩
  rw [lane_self] at h0
  unfold normed
  rw [h0, hr]

/-- Of any input, with bounded gain and offset, every entry is a real number, and no larger than 512 gains and an offset. -/
theorem normed_bounded (x : Fin 16384 → Fin 512 → EReal) (g b : Fin 512 → ℝ) (B : ℝ) (hg : ∀ d, |g d| ≤ B) (hb : ∀ d, |b d| ≤ B)
    (i : Fin 16384) (d : Fin 512) :
    ∃ r : ℝ, normed x (fun d => (g d : EReal)) (fun d => (b d : EReal)) i d = (r : EReal) ∧ |r| ≤ 513 * B := by
  by_cases h : ∃ j l, x j (lane d l) = ⊤ ∨ x j (lane d l) = ⊥
  · obtain ⟨j, l, h⟩ := h
    refine ⟨b d, normed_inf x _ _ i d j l h, (hb d).trans ?_⟩
    have := (abs_nonneg _).trans (hb d)
    linarith
  · push Not at h
    rw [normed_congr x (fun i d => ((x i d).toReal : EReal)) _ _ i d fun j l => (EReal.coe_toReal (h j l).1 (h j l).2).symm]
    exact normed_real _ g b B hg hb i d

/-! ### Sums in pieces, and the sixteen channels by four exchanges -/

theorem sum_pieces (f : ℕ → EReal) (a b : ℕ) : ∑ k ∈ Finset.range a, ∑ j ∈ Finset.range b, f (b * k + j) = ∑ i ∈ Finset.range (a * b), f i := by
  induction a with
  | zero => simp
  | succ a ih => rw [Finset.sum_range_succ, ih, Nat.succ_mul, Finset.sum_range_add, Nat.mul_comm b a]

/-- One exchange: an entry and the one whose channel differs in one bit. -/
def swap (k : Fin 16) (w : Fin 16 → EReal) (r : Fin 16) : EReal := w r + w (r ^^^ k)

theorem xor_inj (r : Fin 16) : Function.Injective fun m : Fin 16 => r ^^^ m := by
  revert r; decide

theorem xor_assoc : ∀ r : Fin 16, ∀ a ∈ ([1, 2, 3, 4, 5, 6, 7, 8] : List (Fin 16)), ∀ b ∈ ([1, 2, 4, 8] : List (Fin 16)), (r ^^^ b) ^^^ a = r ^^^ (b ^^^ a) := by
  decide

theorem swaps (w : Fin 16 → EReal) (r : Fin 16) : swap 8 (swap 4 (swap 2 (swap 1 w))) r = ∑ l, w l := by
  rw [← Equiv.sum_comp (Equiv.ofBijective _ (Finite.injective_iff_bijective.mp (xor_inj r))) w]
  simp only [Equiv.ofBijective_apply, Fin.sum_univ_succ, Fin.sum_univ_zero, swap]
  revert r
  intro r
  fin_cases r <;> (simp (decide := true) only []; abel)

end Cert.NormMath
-- ==== Proof.NormIdeal.Stats.lean ====
/-
  Hand-written, untrusted. The statistics that `cc0_norm_qkv` takes at a batch's first point, over the extended reals: its two
  loops' totals, the exchange of totals between a group's channels, and the mean and the deviation's inverse they give.
-/
module

public import proofs.«01_k».proof.Proof.Gen.NormIdeal.Frame
public import proofs.«01_k».proof.Proof.NormMath
public import Idealize.ShloMosaic.Lib.Pointwise
public import Idealize.ShloMosaic.Lib.KernelVsHost
public import Idealize.ShloMosaic.Lib.Pipeline.ValueKit

@[expose] public section

set_option maxRecDepth 16384

noncomputable section

namespace Cert.NormIdeal.Hand

open Cert.NormIdeal Cert.NormIdeal.Gen Cert.NormMath
open Idealize.ShloMosaic hiding inv
open Idealize.ShloMosaic.TcCoe Idealize.ShloMosaic.Tactic

variable (c : Dev nD) (t : Fin cfg0.N) (h0 : t.val % 16 = 0) (x : Vec Ideal S1x16384x512 .bf16)

/-! ### The loops -/

/-- What the first loop carries before trip `n`. -/
abbrev st1 (n : ℕ) : FVec Ideal S8x512 .f32 :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hs0_0 t).unread x) k0_pay2 n
/-- What the second loop carries before trip `n`. -/
abbrev st2 (a : FVec Ideal S1x512 .f32) (n : ℕ) : FVec Ideal S8x512 .f32 :=
  st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) k0_pay2 a ((hs0_0 t).unread x) k0_pay2 n

/-- A row of the batch by its number. -/
def rowAt (i : ℕ) (d : Fin 512) : EReal := if h : i < 16384 then x (ix3 0 ⟨i, h⟩ d) else 0

theorem off_eq : ∀ k : Fin 32, BitVec.toNat (Scalar.indexCast (Scalar.muli (Scf.iv 0#32 1#32 k.val) 512#32)) = 512 * k.val := by
  decide +kernel

theorem trips_eq : k0_t1_loop.trips = 32 := by decide
theorem trips_eq' : k0_t2_loop.trips = 32 := by decide

theorem ld_row (off : Fin 3 → ℕ) (o : ℕ) (ho : o + 512 ≤ 16384) (o0 : off 0 = 0) (o1 : off 1 = o) (o2 : off 2 = 0) (inb) (i d : Fin 512) :
    View.ld x (Rect.unit (s := S1x16384x512) off ![1, 512, 512] inb) (ix3 0 i d) = rowAt x (o + i.val) d := by
  rw [rowAt, dif_pos (by omega)]
  refine View.ld_unit_apply_of x _ _ inb _ _ fun a => ?_
  fin_cases a <;> simp [ix3, o0, o1, o2]

theorem pay3_apply (a : FVec Ideal S8x512 .f32) (w : Vec Ideal S1x512x512 .bf16) (s : Fin 8) (d : Fin 512) :
    k0_pay3 a w (ix2 s d) = a (ix2 s d) + ∑ j : Fin 64, w (ix3 0 ⟨j.val * 8 + s.val, by omega⟩ d) := by
  pointwise [k0_pay3]

theorem pay6_apply (μ : FVec Ideal S1x512 .f32) (a : FVec Ideal S8x512 .f32) (w : Vec Ideal S1x512x512 .bf16) (s : Fin 8) (d : Fin 512) :
    k0_pay6 μ a w (ix2 s d) = a (ix2 s d) + ∑ j : Fin 64, (w (ix3 0 ⟨j.val * 8 + s.val, by omega⟩ d) - μ (ix2 0 d) * inv)
      * (w (ix3 0 ⟨j.val * 8 + s.val, by omega⟩ d) - μ (ix2 0 d) * inv) := by
  rw [← ofBits_inv]
  pointwise [k0_pay6, k0_pay5]

theorem st1_succ (k : Fin k0_t1_loop.trips) (s : Fin 8) (d : Fin 512) : st1 c t h0 x (k.val + 1) (ix2 s d)
    = st1 c t h0 x k.val (ix2 s d) + ∑ j : Fin 64, rowAt x (512 * k.val + (j.val * 8 + s.val)) d := by
  refine (congrFun (st_k0_t1_succ (k0_h1 := (hcond0_0 t).mpr h0) (k := k) ..) _).trans ?_
  unfold tripR_k0_t1 trip_k0_t1
  dsimp only
  sl_unfold_words
  simp only [View.readAt_eq_ld, (hs0_0 t).read_unread]
  rw [pay3_apply]
  refine congrArg _ (Finset.sum_congr rfl fun j _ => ?_)
  have hk : k.val < 32 := lt_of_lt_of_eq k.isLt trips_eq
  have e := off_eq ⟨k.val, hk⟩
  dsimp only at e
  · exact ld_row x _ (512 * k.val) (by omega) rfl e rfl _ _ d
  exact t

theorem st2_succ (a : FVec Ideal S1x512 .f32) (k : Fin k0_t2_loop.trips) (s : Fin 8) (d : Fin 512) : st2 c t h0 x a (k.val + 1) (ix2 s d)
    = st2 c t h0 x a k.val (ix2 s d) + ∑ j : Fin 64, (rowAt x (512 * k.val + (j.val * 8 + s.val)) d - a (ix2 0 d) * inv)
      * (rowAt x (512 * k.val + (j.val * 8 + s.val)) d - a (ix2 0 d) * inv) := by
  refine (congrFun (st_k0_t2_succ (k0_h1 := (hcond0_0 t).mpr h0) (k := k) ..) _).trans ?_
  unfold tripR_k0_t2 trip_k0_t2
  dsimp only
  sl_unfold_words
  simp only [View.readAt_eq_ld, (hs0_0 t).read_unread]
  rw [pay6_apply]
  have hk : k.val < 32 := lt_of_lt_of_eq k.isLt trips_eq'
  have e := off_eq ⟨k.val, hk⟩
  dsimp only at e
  refine congrArg _ (Finset.sum_congr rfl fun j _ => ?_)
  exact congrArg (fun y => (y - a (ix2 0 d) * inv) * (y - a (ix2 0 d) * inv)) (ld_row x _ (512 * k.val) (by omega) rfl e rfl _ _ d)
  exact t

/-- A loop that adds a term per trip leaves their total. -/
theorem loop_sum (f : ℕ → FVec Ideal S8x512 .f32) (u : ℕ → Fin 512 → EReal) (hz : ∀ s d, f 0 (ix2 s d) = 0)
    (hs : ∀ k, k < 32 → ∀ (s : Fin 8) (d : Fin 512), f (k + 1) (ix2 s d) = f k (ix2 s d) + ∑ j : Fin 64, u (512 * k + (j.val * 8 + s.val)) d)
    (d : Fin 512) : ∑ s : Fin 8, f 32 (ix2 s d) = ∑ i : Fin 16384, u i.val d := by
  have h : ∀ n, n ≤ 32 → ∀ s : Fin 8, f n (ix2 s d) = ∑ k ∈ Finset.range n, ∑ j ∈ Finset.range 64, u (512 * k + (8 * j + s.val)) d := by
    intro n hn s
    induction n with
    | zero => rw [hz]; simp
    | succ n ih =>
      rw [hs n hn s d, ih (by omega), Finset.sum_range_succ]
      refine congrArg _ ?_
      rw [Finset.sum_range]
      exact Finset.sum_congr rfl fun j _ => by rw [Nat.mul_comm j.val]
  have e : ∀ k, ∑ s ∈ Finset.range 8, ∑ j ∈ Finset.range 64, u (512 * k + (8 * j + s)) d = ∑ i ∈ Finset.range 512, u (512 * k + i) d := fun k => by
    rw [Finset.sum_comm]
    exact sum_pieces (fun i => u (512 * k + i) d) 64 8
  calc _ = ∑ s ∈ Finset.range 8, ∑ k ∈ Finset.range 32, ∑ j ∈ Finset.range 64, u (512 * k + (8 * j + s)) d := by
        rw [Finset.sum_range]; exact Finset.sum_congr rfl fun s _ => h 32 le_rfl s
    _ = ∑ k ∈ Finset.range 32, ∑ i ∈ Finset.range 512, u (512 * k + i) d := by
        rw [Finset.sum_comm]; exact Finset.sum_congr rfl fun k _ => e k
    _ = ∑ i ∈ Finset.range 16384, u i d := sum_pieces (fun i => u i d) 32 512
    _ = _ := Finset.sum_range _

theorem pay2_apply (s : Fin 8) (d : Fin 512) : (k0_pay2 : FVec Ideal S8x512 .f32) (ix2 s d) = 0 := by
  pointwise [k0_pay2]

/-- The batch's rows. -/
def xRows (i : Fin 16384) (d : Fin 512) : EReal := x (ix3 0 i d)

theorem rowAt_fin (i : Fin 16384) (d : Fin 512) : rowAt x i.val d = xRows x i d := dif_pos i.isLt

theorem total1 (d : Fin 512) : ∑ s : Fin 8, st1 c t h0 x 32 (ix2 s d) = ∑ i, xRows x i d :=
  (loop_sum (st1 c t h0 x) (rowAt x) (fun s d => pay2_apply s d) (fun k hk => st1_succ c t h0 x ⟨k, lt_of_lt_of_eq hk trips_eq.symm⟩) d).trans
    (Finset.sum_congr rfl fun i _ => rowAt_fin x i d)

theorem total2 (a : FVec Ideal S1x512 .f32) (d : Fin 512) : ∑ s : Fin 8, st2 c t h0 x a 32 (ix2 s d)
    = ∑ i, (xRows x i d - a (ix2 0 d) * inv) * (xRows x i d - a (ix2 0 d) * inv) :=
  (loop_sum (st2 c t h0 x a) (fun i d => (rowAt x i d - a (ix2 0 d) * inv) * (rowAt x i d - a (ix2 0 d) * inv)) (fun s d => pay2_apply s d)
    (fun k hk => st2_succ c t h0 x a ⟨k, lt_of_lt_of_eq hk trips_eq'.symm⟩) d).trans (Finset.sum_congr rfl fun i _ => by rw [rowAt_fin])

/-! ### The exchange between a group's channels -/

/-- One exchange as the body writes it. -/
def swapV (k lo hi : BitVec 32) (v : FVec Ideal S1x512 .f32) : FVec Ideal S1x512 .f32 :=
  addf v (select (cmpi .eq (andi (iota .tc S1x512 32 [1] iota_S1x512_d1_w32) (broadcast S1x512 k)) (broadcast S1x512 0#32))
    (dynamicRotate 1 hi none v rotates_S1x512_d1) (dynamicRotate 1 lo none v rotates_S1x512_d1))

theorem rot_apply (k : ℕ) (b : BitVec 32) (hb : b.toNat = k) (hk : k ≤ 512) (v : FVec Ideal S1x512 .f32) (d e : Fin 512)
    (he : e.val = (d.val + 512 - k % 512) % 512) : dynamicRotate 1 b none v rotates_S1x512_d1 (ix2 0 d) = v (ix2 0 e) := by
  refine dynamicRotate_apply _ _ _ _ _ _ fun a => ?_
  fin_cases a
  · rfl
  · simp [ix2, he, hb]

theorem swapV_apply (k : Fin 16) (hk : k ∈ ([1, 2, 4, 8] : List (Fin 16))) (v : FVec Ideal S1x512 .f32) (d : Fin 512) (r : Fin 16) :
    swapV (BitVec.ofNat 32 k.val) (BitVec.ofNat 32 k.val) (BitVec.ofNat 32 (512 - k.val)) v (ix2 0 (lane d r))
      = swap k (fun l => v (ix2 0 (lane d l))) r := by
  have bit : ∀ d : Fin 512, ∀ k ∈ ([1, 2, 4, 8] : List (Fin 16)), (IntOp.cmpi .eq (IntOp.andi (BitVec.ofNat 32 d.val) (BitVec.ofNat 32 k.val)) 0#32 = 1#1
      ↔ (d.val % 16 &&& k.val) = 0) := by decide +kernel
  have up : ∀ r : Fin 16, ∀ k ∈ ([1, 2, 4, 8] : List (Fin 16)), (r.val &&& k.val) = 0 → (r ^^^ k).val = r.val + k.val := by decide
  have down : ∀ r : Fin 16, ∀ k ∈ ([1, 2, 4, 8] : List (Fin 16)), ¬ (r.val &&& k.val) = 0 → (r ^^^ k).val + k.val = r.val := by decide
  have pos : 1 ≤ k.val := by revert k; decide
  have hl : (lane d r).val = d.val / 16 * 16 + r.val := rfl
  have hmod : (lane d r).val % 16 = r.val := by rw [hl]; omega
  have hx : (lane d (r ^^^ k)).val = d.val / 16 * 16 + (r ^^^ k).val := rfl
  have e : swapV (BitVec.ofNat 32 k.val) (BitVec.ofNat 32 k.val) (BitVec.ofNat 32 (512 - k.val)) v (ix2 0 (lane d r))
      = v (ix2 0 (lane d r)) + (if IntOp.cmpi .eq (IntOp.andi (BitVec.ofNat 32 (lane d r).val) (BitVec.ofNat 32 k.val)) 0#32 = 1#1
        then dynamicRotate 1 (BitVec.ofNat 32 (512 - k.val)) none v rotates_S1x512_d1 (ix2 0 (lane d r))
        else dynamicRotate 1 (BitVec.ofNat 32 k.val) none v rotates_S1x512_d1 (ix2 0 (lane d r))) := by
    pointwise [swapV]
    rfl
  rw [e, swap]
  refine congrArg _ ?_
  by_cases hz : (r.val &&& k.val) = 0
  · rw [if_pos ((bit _ k hk).mpr (by rw [hmod]; exact hz))]
    have := up r k hk hz
    exact rot_apply (512 - k.val) _ (by rw [BitVec.toNat_ofNat]; omega) (by omega) v _ _ (by omega)
  · rw [if_neg (fun h => hz (by have := (bit _ k hk).mp h; rwa [hmod] at this))]
    have := down r k hk hz
    exact rot_apply k.val _ (by rw [BitVec.toNat_ofNat]; omega) (by omega) v _ _ (by omega)

/-- The sum over the eight rows. -/
def colSum (a : FVec Ideal S8x512 .f32) : FVec Ideal S1x512 .f32 :=
  shapeCast S1x512 (multiReduction .add [0] S512 a 0x00000000#32 reduces_S8x512_S512 (.inl rfl) rfl) shapeCasts_S512_S1x512

theorem colSum_apply (a : FVec Ideal S8x512 .f32) (d : Fin 512) : colSum a (ix2 0 d) = ∑ s : Fin 8, a (ix2 s d) := by
  pointwise [colSum]

theorem pay4_eq (a : FVec Ideal S8x512 .f32) :
    k0_pay4 a = swapV 8#32 8#32 504#32 (swapV 4#32 4#32 508#32 (swapV 2#32 2#32 510#32 (swapV 1#32 1#32 511#32 (colSum a)))) := rfl

theorem pay78_eq (a : FVec Ideal S8x512 .f32) :
    addf (k0_pay7 a) (k0_pay8 a) = swapV 8#32 8#32 504#32 (swapV 4#32 4#32 508#32 (swapV 2#32 2#32 510#32 (swapV 1#32 1#32 511#32 (colSum a)))) := rfl

theorem swaps_apply (v : FVec Ideal S1x512 .f32) (d : Fin 512) :
    swapV 8#32 8#32 504#32 (swapV 4#32 4#32 508#32 (swapV 2#32 2#32 510#32 (swapV 1#32 1#32 511#32 v))) (ix2 0 d) = ∑ l, v (ix2 0 (lane d l)) := by
  have h8 := fun v d r => swapV_apply 8 (by decide) v d r
  have h4 := fun v d => funext fun r => swapV_apply 4 (by decide) v d r
  have h2 := fun v d => funext fun r => swapV_apply 2 (by decide) v d r
  have h1 := fun v d => funext fun r => swapV_apply 1 (by decide) v d r
  conv_lhs => rw [← lane_self d]
  refine (h8 _ _ _).trans ?_
  refine (congrArg (fun f => swap 8 f _) (h4 _ _)).trans ?_
  refine (congrArg (fun f => swap 8 (swap 4 f) _) (h2 _ _)).trans ?_
  refine (congrArg (fun f => swap 8 (swap 4 (swap 2 f)) _) (h1 _ _)).trans ?_
  exact swaps _ _

/-! ### The mean and the deviation's inverse -/

/-- The scratch that holds the mean, as the first point leaves it. -/
def muV : FVec Ideal S1x512 .f32 := k0_pay9 (k0_pay5 (k0_pay4 (st1 c t h0 x 32)))
/-- The scratch that holds the deviation's inverse, as the first point leaves it. -/
def rsV : FVec Ideal S1x512 .f32 :=
  k0_pay10 (k0_pay7 (st2 c t h0 x (k0_pay4 (st1 c t h0 x 32)) 32)) (k0_pay8 (st2 c t h0 x (k0_pay4 (st1 c t h0 x 32)) 32))

theorem gtotal1 (d : Fin 512) : k0_pay4 (st1 c t h0 x 32) (ix2 0 d) = gsum (xRows x) d := by
  rw [pay4_eq, swaps_apply, gsum, Finset.sum_comm]
  exact Finset.sum_congr rfl fun l _ => (colSum_apply _ _).trans (total1 c t h0 x _)

theorem muV_apply (d : Fin 512) : muV c t h0 x (ix2 0 d) = mean (xRows x) d := by
  have e : ∀ a : FVec Ideal S1x512 .f32, k0_pay9 (k0_pay5 a) (ix2 0 d) = a (ix2 0 d) * Ideal.ofBits .f32 0x36800000#32 := fun a => by
    pointwise [k0_pay9, k0_pay5]
  rw [muV, e, gtotal1, ofBits_inv]
  rfl

theorem rsV_apply (d : Fin 512) : rsV c t h0 x (ix2 0 d) = rstd (xRows x) d := by
  have e : ∀ a b : FVec Ideal S1x512 .f32, k0_pay10 a b (ix2 0 d)
      = Ideal.rsqrt (addf a b (ix2 0 d) * Ideal.ofBits .f32 0x36800000#32 + Ideal.ofBits .f32 0x358637BD#32) := fun a b => by
    pointwise [k0_pay10]
  rw [rsV, e, pay78_eq, swaps_apply, ofBits_inv, rstd, var, gsum, Finset.sum_comm]
  refine congrArg (fun y => Ideal.rsqrt (y * NormMath.inv + _)) (Finset.sum_congr rfl fun l _ => ?_)
  refine (colSum_apply _ _).trans ((total2 c t h0 x _ _).trans (Finset.sum_congr rfl fun i _ => ?_))
  rw [gtotal1]
  rfl

end Cert.NormIdeal.Hand
-- ==== Proof.NormIdeal.Quant.lean ====
/-
  Hand-written, untrusted. The payloads of `cc0_norm_qkv`'s normalisation, quantisation and three projections read at an
  index, over the extended reals.
-/
module

public import proofs.«01_k».proof.Proof.Gen.NormIdeal.Skeleton
public import proofs.«01_k».proof.Proof.QuantMath
public import Idealize.ShloMosaic.Lib.Pointwise

@[expose] public section

set_option maxRecDepth 16384

noncomputable section

namespace Cert.NormIdeal.Hand

open Cert.NormIdeal Cert.NormIdeal.Gen Cert.QuantMath
open Idealize.ShloMosaic Idealize.ShloMosaic.TcCoe Idealize.ShloMosaic.Tactic

section
variable (x : Vec Ideal S1x1024x512 .bf16) (mu rs g be : Vec Ideal S1x512 .f32)

/-- The column of exponent fields the body finds. -/
def nField : IVec S1024x1 32 := k0_pay15 (k0_pay12 x mu rs g be) (k0_pay13 x mu rs g be) (k0_pay14 x mu rs g be)

theorem pay11_apply (r : Fin 1024) (d : Fin 512) : k0_pay11 x mu rs g be (ix2 r d)
    = (x (ix3 0 r d) - mu (ix2 0 d)) * rs (ix2 0 d) * g (ix2 0 d) + be (ix2 0 d) := by
  pointwise [k0_pay11]

theorem pay12_apply (r : Fin 1024) : k0_pay12 x mu rs g be (ix2 r 0) = amax fun d => k0_pay11 x mu rs g be (ix2 r d) := by
  pointwise [k0_pay12]
  rfl

/-- A halving step on the whole column. -/
def stepV (R : FVec Ideal S1024x1 .f32) (s : BitVec 32) (f : IVec S1024x1 32) : IVec S1024x1 32 :=
  select (cmpf .oge R (bitcastToFloat .f32 (shli (addi f (broadcast S1024x1 s)) (broadcast S1024x1 23#32)))) (addi f (broadcast S1024x1 s)) f

theorem stepV_apply (R : FVec Ideal S1024x1 .f32) (s : BitVec 32) (f : IVec S1024x1 32) (i : S1024x1.Idx) :
    stepV R s f i = stepW (R i) s (f i) := rfl

theorem pay13_eq : k0_pay13 x mu rs g be = stepV (k0_pay12 x mu rs g be) 128#32 (broadcast S1024x1 0#32) := rfl

theorem pay14_eq : k0_pay14 x mu rs g be = addi (k0_pay13 x mu rs g be) (broadcast S1024x1 64#32) := rfl

theorem pay15_eq (R : FVec Ideal S1024x1 .f32) (f : IVec S1024x1 32) : k0_pay15 R f (addi f (broadcast S1024x1 64#32))
    = stepV R 1#32 (stepV R 2#32 (stepV R 4#32 (stepV R 8#32 (stepV R 16#32 (stepV R 32#32 (stepV R 64#32 f)))))) := by
  unfold k0_pay15
  simp only [stepV]

theorem nField_apply (r : Fin 1024) : nField x mu rs g be (ix2 r 0) = fieldW (amax fun d => k0_pay11 x mu rs g be (ix2 r d)) := by
  rw [nField, pay14_eq, pay15_eq, stepV_apply, stepV_apply, stepV_apply, stepV_apply, stepV_apply, stepV_apply, stepV_apply, pay13_eq, stepV_apply,
    pay12_apply]
  rfl
end

section
variable (h : FVec Ideal S1024x512 .f32) (f : IVec S1024x1 32) (r : Fin 1024) (ρ : ℝ) (hρ : ρ < th 253) (hf : f (ix2 r 0) = fieldW (ρ : EReal))
include hρ hf

theorem pay17_apply : (k0_pay17 f : FVec Ideal S1024x1 .f32) (ix2 r 0) = (((2 : ℝ) ^ expo ρ : ℝ) : EReal) := by
  pointwise [k0_pay17, k0_pay16]
  rw [hf]
  exact scale_word ρ hρ

theorem pay18_apply (d : Fin 512) : k0_pay18 h f (ix2 r d) = code (fun d => h (ix2 r d)) ρ d := by
  pointwise [k0_pay18, k0_pay16]
  rw [hf]
  unfold code
  rw [← inv_word ρ hρ]
  rfl

theorem pay19_apply (d : Fin 512) : k0_pay19 h f (ix3 0 r d) = code (fun d => h (ix2 r d)) ρ d := by
  rw [← pay18_apply h f r ρ hρ hf]
  pointwise [k0_pay19]

theorem pay20_apply : (k0_pay20 f : FVec Ideal S1x1x1024 .f32) (ix3 0 0 r) = (((2 : ℝ) ^ expo ρ : ℝ) : EReal) := by
  rw [← pay17_apply f r ρ hρ hf]
  pointwise [k0_pay20]

theorem nQ_apply (w : Vec Ideal S512x512 .fp8e4m3) (s b : Vec Ideal S1x512 .f32) (n : Fin 512) :
    k0_pay23 (k0_pay21 h f w) (k0_pay22 f) s b (ix3 0 r n)
      = proj (fun d => h (ix2 r d)) ρ (fun d n => w (ix2 d n)) (fun n => s (ix2 0 n)) (fun n => b (ix2 0 n)) n := by
  pointwise [k0_pay23, k0_pay21, k0_pay22]
  rw [pay17_apply f r ρ hρ hf]
  simp only [pay18_apply h f r ρ hρ hf]
  rfl

theorem nK_apply (w : Vec Ideal S512x512 .fp8e4m3) (s : Vec Ideal S1x512 .f32) (n : Fin 512) :
    k0_pay24 (k0_pay17 f) (k0_pay18 h f) w s (ix3 0 r n)
      = proj (fun d => h (ix2 r d)) ρ (fun d n => w (ix2 d n)) (fun n => s (ix2 0 n)) (fun _ => 0) n := by
  pointwise [k0_pay24]
  rw [pay17_apply f r ρ hρ hf]
  simp only [pay18_apply h f r ρ hρ hf]
  unfold proj
  rw [add_zero]

theorem nV_apply (w : Vec Ideal S512x512 .fp8e4m3) (s b : Vec Ideal S1x512 .f32) (n : Fin 512) :
    k0_pay1 (k0_pay25 (k0_pay17 f) (k0_pay18 h f) w s) (k0_pay26 b) (ix3 0 r n)
      = proj (fun d => h (ix2 r d)) ρ (fun d n => w (ix2 d n)) (fun n => s (ix2 0 n)) (fun n => b (ix2 0 n)) n := by
  pointwise [k0_pay1, k0_pay25, k0_pay26]
  rw [pay17_apply f r ρ hρ hf]
  simp only [pay18_apply h f r ρ hρ hf]
  rfl

end

end Cert.NormIdeal.Hand
-- ==== Proof.NormIdeal.Points.lean ====
/-
  Hand-written, untrusted. What each grid point of `cc0_norm_qkv` leaves in its outputs and in its two scratches, over the
  extended reals: the payloads of the point's blocks and of the statistics, which the batch's first point took.
-/
module

public import proofs.«01_k».proof.Proof.NormIdeal.Stats
public import proofs.«01_k».proof.Proof.NormIdeal.Quant
public import Idealize.ShloMosaic.Lib.Pipeline.ValueKit
public import Idealize.ShloMosaic.Lib.Pipeline.ReadBack

@[expose] public section

set_option maxRecDepth 16384

noncomputable section

namespace Cert.NormIdeal.Hand

open Cert.NormIdeal Cert.NormIdeal.Gen Cert.NormMath
open Idealize.ShloMosaic hiding inv
open Idealize.ShloMosaic.TcCoe Idealize.ShloMosaic.Tactic

variable (m : (ℓ : Loc nD τ sig) → Buf (Elt Ideal) ℓ) (c : Dev nD) (t : Fin cfg0.N)

theorem zero2 : (![0, 0] : Fin 2 → Nat) = fun _ => 0 := funext fun a => by fin_cases a <;> rfl
theorem zero3 : (![0, 0, 0] : Fin 3 → Nat) = fun _ => 0 := funext fun a => by fin_cases a <;> rfl

theorem ld_vec (X : Vec Ideal S1x512 .f32) (inb) : View.ld X (Rect.unit (s := S1x512) ![0, 0] S1x512.size inb) = X := View.ld_unit_zero zero2 inb X
theorem ld_mat (X : Vec Ideal S512x512 .fp8e4m3) (inb) : View.ld X (Rect.unit (s := S512x512) ![0, 0] S512x512.size inb) = X := View.ld_unit_zero zero2 inb X

/-- The mean's scratch after point `t`. -/
def mu : Vec Ideal S1x512 .f32 := (outsAt0 m c t.val t.isLt).2.2.2.2.2.1
/-- The inverse deviation's scratch after point `t`. -/
def rs : Vec Ideal S1x512 .f32 := (outsAt0 m c t.val t.isLt).2.2.2.2.2.2

theorem mu_A (h0 : t.val % 16 = 0) : mu m c t = muV c t h0 (iblk m c 0 t) := by
  unfold mu
  rw [outsAt0_A m c t h0]
  dsimp only
  unfold sout0_A_0
  refine (View.read_writes_eq_canon _ _ _ ?_).trans ?_
  · intro y; apply scover0_A_0
  unfold kernelRun0_A
  dsimp only
  sl_unfold_words
  exact View.canon_unit_zero zero2 _ _

theorem rs_A (h0 : t.val % 16 = 0) : rs m c t = rsV c t h0 (iblk m c 0 t) := by
  unfold rs
  rw [outsAt0_A m c t h0]
  dsimp only
  unfold sout0_A_1
  refine (View.read_writes_eq_canon _ _ _ ?_).trans ?_
  · intro y; apply scover0_A_1
  unfold kernelRun0_A
  dsimp only
  sl_unfold_words
  exact View.canon_unit_zero zero2 _ _

theorem mu_B (h0 : ¬ t.val % 16 = 0) (s : Fin cfg0.N) (hs : s.val = t.val - 1) : mu m c t = mu m c s := by
  unfold mu
  rw [outsAt0_B m c t h0]
  obtain ⟨s, h⟩ := s
  dsimp only at hs
  subst hs
  rfl

theorem rs_B (h0 : ¬ t.val % 16 = 0) (s : Fin cfg0.N) (hs : s.val = t.val - 1) : rs m c t = rs m c s := by
  unfold rs
  rw [outsAt0_B m c t h0]
  obtain ⟨s, h⟩ := s
  dsimp only at hs
  subst hs
  rfl

/-- The point's rows of the batch. -/
def xb : Vec Ideal S1x1024x512 .bf16 := fun j =>
  (iblk m c 0 t : Vec Ideal S1x16384x512 .bf16) (ix3 0 ⟨1024 * (t.val % 16) + (j 1).val, by have : (j 1).val < 1024 := (j 1).isLt; omega⟩ (j 2))

theorem xoff : ∀ t : Fin cfg0.N, BitVec.toNat (Scalar.indexCast (Scalar.muli (BitVec.ofNat 32 (grid0.coords t 1).val) 1024#32)) = 1024 * (t.val % 16) := by
  decide +kernel

theorem ld_xb (off : Fin 3 → ℕ) (o0 : off 0 = 0) (o1 : off 1 = 1024 * (t.val % 16)) (o2 : off 2 = 0) (inb) :
    View.ld (iblk m c 0 t : Vec Ideal S1x16384x512 .bf16) (Rect.unit (s := S1x16384x512) off ![1, 1024, 512] inb) = xb m c t := by
  funext j
  refine View.ld_unit_apply_of _ _ _ inb _ _ fun a => ?_
  have z : (j 0).val = 0 := by have : (j 0).val < 1 := (j 0).isLt; omega
  fin_cases a
  · simp [ix3, o0, z]
  · simp [ix3, o1]
  · simp [ix3, o2]

/-- The normalised rows. -/
def hV : FVec Ideal S1024x512 .f32 := k0_pay11 (xb m c t) (mu m c t) (rs m c t) (iblk m c 1 t) (iblk m c 2 t)
/-- The column of exponent fields. -/
def fV : IVec S1024x1 32 := nField (xb m c t) (mu m c t) (rs m c t) (iblk m c 1 t) (iblk m c 2 t)

section
variable {X Y : Vec Ideal S1x1024x512 .bf16} {a a' r r' g g' e e' s s' b b' : Vec Ideal S1x512 .f32} {w w' : Vec Ideal S512x512 .fp8e4m3}

theorem h_congr (hX : X = Y) (ha : a = a') (hr : r = r') (hg : g = g') (he : e = e') : k0_pay11 X a r g e = k0_pay11 Y a' r' g' e' := by
  subst hX ha hr hg he; rfl
theorem f_congr (hX : X = Y) (ha : a = a') (hr : r = r') (hg : g = g') (he : e = e') :
    k0_pay15 (k0_pay12 X a r g e) (k0_pay13 X a r g e) (k0_pay14 X a r g e) = nField Y a' r' g' e' := by subst hX ha hr hg he; rfl
variable {h h' : FVec Ideal S1024x512 .f32} {f f' : IVec S1024x1 32}
theorem q_congr (hh : h = h') (hf : f = f') (hw : w = w') (hs : s = s') (hb : b = b') :
    k0_pay23 (k0_pay21 h f w) (k0_pay22 f) s b = k0_pay23 (k0_pay21 h' f' w') (k0_pay22 f') s' b' := by subst hh hf hw hs hb; rfl
theorem k_congr (hh : h = h') (hf : f = f') (hw : w = w') (hs : s = s') :
    k0_pay24 (k0_pay17 f) (k0_pay18 h f) w s = k0_pay24 (k0_pay17 f') (k0_pay18 h' f') w' s' := by subst hh hf hw hs; rfl
theorem v_congr (hh : h = h') (hf : f = f') (hw : w = w') (hs : s = s') (hb : b = b') :
    k0_pay1 (k0_pay25 (k0_pay17 f) (k0_pay18 h f) w s) (k0_pay26 b) = k0_pay1 (k0_pay25 (k0_pay17 f') (k0_pay18 h' f') w' s') (k0_pay26 b') := by
  subst hh hf hw hs hb; rfl
end

/-- What point `t` leaves in the five output blocks. -/
def outQ : Vec Ideal S1x1024x512 .bf16 := k0_pay23 (k0_pay21 (hV m c t) (fV m c t) (iblk m c 3 t)) (k0_pay22 (fV m c t)) (iblk m c 6 t) (iblk m c 9 t)
def outK : Vec Ideal S1x1024x512 .bf16 := k0_pay24 (k0_pay17 (fV m c t)) (k0_pay18 (hV m c t) (fV m c t)) (iblk m c 4 t) (iblk m c 7 t)
def outV : Vec Ideal S1x1024x512 .bf16 :=
  k0_pay1 (k0_pay25 (k0_pay17 (fV m c t)) (k0_pay18 (hV m c t) (fV m c t)) (iblk m c 5 t) (iblk m c 8 t)) (k0_pay26 (iblk m c 10 t))
def outC : Vec Ideal S1x1024x512 .fp8e4m3 := k0_pay19 (hV m c t) (fV m c t)
def outS : Vec Ideal S1x1x1024 .f32 := k0_pay20 (F := Ideal) (fV m c t)

/-- The five blocks after point `t`. -/
def Outs : Prop := (outsAt0 m c t.val t.isLt).1 = outQ m c t ∧ (outsAt0 m c t.val t.isLt).2.1 = outK m c t
  ∧ (outsAt0 m c t.val t.isLt).2.2.1 = outV m c t ∧ (outsAt0 m c t.val t.isLt).2.2.2.1 = outC m c t
  ∧ (outsAt0 m c t.val t.isLt).2.2.2.2.1 = outS m c t

theorem outs_A (h0 : t.val % 16 = 0) : Outs m c t := by
  have hx := fun inb => ld_xb m c t ![0, BitVec.toNat (Scalar.indexCast (Scalar.muli (BitVec.ofNat 32 (grid0.coords t 1).val) 1024#32)), 0] rfl (xoff t) rfl inb
  unfold Outs outQ outK outV outC outS hV fV
  rw [mu_A m c t h0, rs_A m c t h0]
  rw [outsAt0_A m c t h0]
  dsimp only
  refine ⟨?_, ?_, ?_, ?_, ?_⟩
  · unfold out0_A_11
    refine (View.read_writes_eq_canon _ _ _ (fun y => by apply cover0_A_11)).trans ?_
    unfold kernelRun0_A
    dsimp only
    sl_unfold_words
    refine (View.canon_unit_zero zero3 _ _).trans ?_
    simp only [View.readAt_eq_ld, (hs0_0 t).read_unread, (hs0_1 t).read_unread, (hs0_2 t).read_unread, (hs0_3 t).read_unread, (hs0_6 t).read_unread, (hs0_9 t).read_unread]
    exact q_congr (h_congr (hx _) (View.readCov_unit_zero _ zero2 _ _) (View.readCov_unit_zero _ zero2 _ _) (ld_vec _ _) (ld_vec _ _)) (f_congr (hx _) (View.readCov_unit_zero _ zero2 _ _) (View.readCov_unit_zero _ zero2 _ _) (ld_vec _ _) (ld_vec _ _)) (ld_mat _ _) (ld_vec _ _) (ld_vec _ _)
  · unfold out0_A_12
    refine (View.read_writes_eq_canon _ _ _ (fun y => by apply cover0_A_12)).trans ?_
    unfold kernelRun0_A
    dsimp only
    sl_unfold_words
    refine (View.canon_unit_zero zero3 _ _).trans ?_
    simp only [View.readAt_eq_ld, (hs0_0 t).read_unread, (hs0_1 t).read_unread, (hs0_2 t).read_unread, (hs0_4 t).read_unread, (hs0_7 t).read_unread]
    exact k_congr (h_congr (hx _) (View.readCov_unit_zero _ zero2 _ _) (View.readCov_unit_zero _ zero2 _ _) (ld_vec _ _) (ld_vec _ _)) (f_congr (hx _) (View.readCov_unit_zero _ zero2 _ _) (View.readCov_unit_zero _ zero2 _ _) (ld_vec _ _) (ld_vec _ _)) (ld_mat _ _) (ld_vec _ _)
  · unfold out0_A_13
    refine (View.read_writes_eq_canon _ _ _ (fun y => by apply cover0_A_13)).trans ?_
    unfold kernelRun0_A
    dsimp only
    sl_unfold_words
    refine (View.canon_unit_zero zero3 _ _).trans ?_
    simp only [View.readAt_eq_ld, (hs0_0 t).read_unread, (hs0_1 t).read_unread, (hs0_2 t).read_unread, (hs0_5 t).read_unread, (hs0_8 t).read_unread, (hs0_10 t).read_unread]
    exact v_congr (h_congr (hx _) (View.readCov_unit_zero _ zero2 _ _) (View.readCov_unit_zero _ zero2 _ _) (ld_vec _ _) (ld_vec _ _)) (f_congr (hx _) (View.readCov_unit_zero _ zero2 _ _) (View.readCov_unit_zero _ zero2 _ _) (ld_vec _ _) (ld_vec _ _)) (ld_mat _ _) (ld_vec _ _) (ld_vec _ _)
  · unfold out0_A_14
    refine (View.read_writes_eq_canon _ _ _ (fun y => by apply cover0_A_14)).trans ?_
    unfold kernelRun0_A
    dsimp only
    sl_unfold_words
    refine (View.canon_unit_zero zero3 _ _).trans ?_
    simp only [View.readAt_eq_ld, (hs0_0 t).read_unread, (hs0_1 t).read_unread, (hs0_2 t).read_unread]
    exact congrArg₂ k0_pay19 (h_congr (hx _) (View.readCov_unit_zero _ zero2 _ _) (View.readCov_unit_zero _ zero2 _ _) (ld_vec _ _) (ld_vec _ _)) (f_congr (hx _) (View.readCov_unit_zero _ zero2 _ _) (View.readCov_unit_zero _ zero2 _ _) (ld_vec _ _) (ld_vec _ _))
  · unfold out0_A_15
    refine (View.read_writes_eq_canon _ _ _ (fun y => by apply cover0_A_15)).trans ?_
    unfold kernelRun0_A
    dsimp only
    sl_unfold_words
    refine (View.canon_unit_zero zero3 _ _).trans ?_
    simp only [View.readAt_eq_ld, (hs0_0 t).read_unread, (hs0_1 t).read_unread, (hs0_2 t).read_unread]
    exact congrArg (k0_pay20 (F := Ideal)) (f_congr (hx _) (View.readCov_unit_zero _ zero2 _ _) (View.readCov_unit_zero _ zero2 _ _) (ld_vec _ _) (ld_vec _ _))

theorem outs_B (h0 : ¬ t.val % 16 = 0) : Outs m c t := by
  have hx := fun inb => ld_xb m c t ![0, BitVec.toNat (Scalar.indexCast (Scalar.muli (BitVec.ofNat 32 (grid0.coords t 1).val) 1024#32)), 0] rfl (xoff t) rfl inb
  unfold Outs outQ outK outV outC outS hV fV
  rw [mu_B m c t h0 ⟨t.val - 1, Nat.lt_of_le_of_lt (Nat.sub_le _ _) t.isLt⟩ rfl, rs_B m c t h0 ⟨t.val - 1, Nat.lt_of_le_of_lt (Nat.sub_le _ _) t.isLt⟩ rfl]
  rw [outsAt0_B m c t h0]
  dsimp only
  refine ⟨?_, ?_, ?_, ?_, ?_⟩
  · unfold out0_B_11
    refine (View.read_writes_eq_canon _ _ _ (fun y => by apply cover0_B_11)).trans ?_
    unfold kernelRun0_B
    dsimp only
    sl_unfold_words
    refine (View.canon_unit_zero zero3 _ _).trans ?_
    simp only [View.readAt_eq_ld, (hs0_0 t).read_unread, (hs0_1 t).read_unread, (hs0_2 t).read_unread, (hs0_3 t).read_unread, (hs0_6 t).read_unread, (hs0_9 t).read_unread]
    exact q_congr (h_congr (hx _) ((ld_vec _ _).trans (Idealize.ShloMosaic.read_unread_whole _ _ _)) ((ld_vec _ _).trans (Idealize.ShloMosaic.read_unread_whole _ _ _)) (ld_vec _ _) (ld_vec _ _)) (f_congr (hx _) ((ld_vec _ _).trans (Idealize.ShloMosaic.read_unread_whole _ _ _)) ((ld_vec _ _).trans (Idealize.ShloMosaic.read_unread_whole _ _ _)) (ld_vec _ _) (ld_vec _ _)) (ld_mat _ _) (ld_vec _ _) (ld_vec _ _)
  · unfold out0_B_12
    refine (View.read_writes_eq_canon _ _ _ (fun y => by apply cover0_B_12)).trans ?_
    unfold kernelRun0_B
    dsimp only
    sl_unfold_words
    refine (View.canon_unit_zero zero3 _ _).trans ?_
    simp only [View.readAt_eq_ld, (hs0_0 t).read_unread, (hs0_1 t).read_unread, (hs0_2 t).read_unread, (hs0_4 t).read_unread, (hs0_7 t).read_unread]
    exact k_congr (h_congr (hx _) ((ld_vec _ _).trans (Idealize.ShloMosaic.read_unread_whole _ _ _)) ((ld_vec _ _).trans (Idealize.ShloMosaic.read_unread_whole _ _ _)) (ld_vec _ _) (ld_vec _ _)) (f_congr (hx _) ((ld_vec _ _).trans (Idealize.ShloMosaic.read_unread_whole _ _ _)) ((ld_vec _ _).trans (Idealize.ShloMosaic.read_unread_whole _ _ _)) (ld_vec _ _) (ld_vec _ _)) (ld_mat _ _) (ld_vec _ _)
  · unfold out0_B_13
    refine (View.read_writes_eq_canon _ _ _ (fun y => by apply cover0_B_13)).trans ?_
    unfold kernelRun0_B
    dsimp only
    sl_unfold_words
    refine (View.canon_unit_zero zero3 _ _).trans ?_
    simp only [View.readAt_eq_ld, (hs0_0 t).read_unread, (hs0_1 t).read_unread, (hs0_2 t).read_unread, (hs0_5 t).read_unread, (hs0_8 t).read_unread, (hs0_10 t).read_unread]
    exact v_congr (h_congr (hx _) ((ld_vec _ _).trans (Idealize.ShloMosaic.read_unread_whole _ _ _)) ((ld_vec _ _).trans (Idealize.ShloMosaic.read_unread_whole _ _ _)) (ld_vec _ _) (ld_vec _ _)) (f_congr (hx _) ((ld_vec _ _).trans (Idealize.ShloMosaic.read_unread_whole _ _ _)) ((ld_vec _ _).trans (Idealize.ShloMosaic.read_unread_whole _ _ _)) (ld_vec _ _) (ld_vec _ _)) (ld_mat _ _) (ld_vec _ _) (ld_vec _ _)
  · unfold out0_B_14
    refine (View.read_writes_eq_canon _ _ _ (fun y => by apply cover0_B_14)).trans ?_
    unfold kernelRun0_B
    dsimp only
    sl_unfold_words
    refine (View.canon_unit_zero zero3 _ _).trans ?_
    simp only [View.readAt_eq_ld, (hs0_0 t).read_unread, (hs0_1 t).read_unread, (hs0_2 t).read_unread]
    exact congrArg₂ k0_pay19 (h_congr (hx _) ((ld_vec _ _).trans (Idealize.ShloMosaic.read_unread_whole _ _ _)) ((ld_vec _ _).trans (Idealize.ShloMosaic.read_unread_whole _ _ _)) (ld_vec _ _) (ld_vec _ _)) (f_congr (hx _) ((ld_vec _ _).trans (Idealize.ShloMosaic.read_unread_whole _ _ _)) ((ld_vec _ _).trans (Idealize.ShloMosaic.read_unread_whole _ _ _)) (ld_vec _ _) (ld_vec _ _))
  · unfold out0_B_15
    refine (View.read_writes_eq_canon _ _ _ (fun y => by apply cover0_B_15)).trans ?_
    unfold kernelRun0_B
    dsimp only
    sl_unfold_words
    refine (View.canon_unit_zero zero3 _ _).trans ?_
    simp only [View.readAt_eq_ld, (hs0_0 t).read_unread, (hs0_1 t).read_unread, (hs0_2 t).read_unread]
    exact congrArg (k0_pay20 (F := Ideal)) (f_congr (hx _) ((ld_vec _ _).trans (Idealize.ShloMosaic.read_unread_whole _ _ _)) ((ld_vec _ _).trans (Idealize.ShloMosaic.read_unread_whole _ _ _)) (ld_vec _ _) (ld_vec _ _))

theorem outs_all : Outs m c t := if h0 : t.val % 16 = 0 then outs_A m c t h0 else outs_B m c t h0

end Cert.NormIdeal.Hand
-- ==== Proof.NormIdeal.Arrays.lean ====
/-
  Hand-written, untrusted. The five result arrays of `cc0_norm_qkv` after the run, over the extended reals: each point writes
  back its rows of the batch, normalised, quantised row by row and projected three times.
-/
module

public import proofs.«01_k».proof.Proof.NormIdeal.Points
public import proofs.«01_k».proof.Proof.KernelIdeal.Results
public import Idealize.ShloMosaic.Lib.StableHlo.ReadAt
public import Idealize.ShloMosaic.Lib.Claim

@[expose] public section

set_option maxRecDepth 16384

noncomputable section

namespace Cert.NormIdeal.Hand

open Cert.NormIdeal Cert.NormIdeal.Gen Cert.NormMath Cert.QuantMath
open Cert.KernelIdeal.Hand (rho projOf resProj resCodes resScale)
open Idealize.ShloMosaic hiding inv
open Idealize.ShloMosaic.TcCoe Idealize.ShloMosaic.Tactic
open Idealize.SL.Sem

/-- The normalised input: row `i` of batch `b`. -/
def hOf (x : Vec Ideal S2x16384x512 .bf16) (g be : Vec Ideal S512 .f32) (b : Fin 2) (i : Fin 16384) (d : Fin 512) : EReal :=
  normed (fun i d => x (ix3 b i d)) (fun d => g (ix1 d)) (fun d => be (ix1 d)) i d

/-- No bias. -/
def noBias : Vec Ideal S512 .f32 := fun _ => 0

/-! ### The blocks -/

/-- Point `t`'s batch, and row `r` of its rows. -/
def bOf (t : ℕ) : Fin 2 := ⟨t / 16 % 2, Nat.mod_lt _ (by omega)⟩
def rOf (t : ℕ) (r : Fin 1024) : Fin 16384 := ⟨1024 * (t % 16) + r.val, by omega⟩

theorem t_lt (t : Fin cfg0.N) : t.val < 32 := lt_of_lt_of_eq t.isLt N_0

theorem idx_x : ∀ t : Fin cfg0.N, win0_0.index t 0 = t.val / 16 ∧ win0_0.index t 1 = 0 ∧ win0_0.index t 2 = 0 :=
  (by decide +kernel : ∀ t : Fin grid0.N, win0_0.index t 0 = t.val / 16 ∧ win0_0.index t 1 = 0 ∧ win0_0.index t 2 = 0)
theorem idx_v : ∀ t : Fin cfg0.N, (∀ a, win0_1.index t a = 0) ∧ (∀ a, win0_2.index t a = 0) ∧ (∀ a, win0_6.index t a = 0)
    ∧ (∀ a, win0_7.index t a = 0) ∧ (∀ a, win0_8.index t a = 0) ∧ (∀ a, win0_9.index t a = 0) ∧ (∀ a, win0_10.index t a = 0) :=
  (by decide +kernel : ∀ t : Fin grid0.N, (∀ a, win0_1.index t a = 0) ∧ (∀ a, win0_2.index t a = 0) ∧ (∀ a, win0_6.index t a = 0)
    ∧ (∀ a, win0_7.index t a = 0) ∧ (∀ a, win0_8.index t a = 0) ∧ (∀ a, win0_9.index t a = 0) ∧ (∀ a, win0_10.index t a = 0))
theorem idx_w : ∀ t : Fin cfg0.N, (∀ a, win0_3.index t a = 0) ∧ (∀ a, win0_4.index t a = 0) ∧ (∀ a, win0_5.index t a = 0) :=
  (by decide +kernel : ∀ t : Fin grid0.N, (∀ a, win0_3.index t a = 0) ∧ (∀ a, win0_4.index t a = 0) ∧ (∀ a, win0_5.index t a = 0))
theorem idx_out : ∀ t : Fin cfg0.N, ((win0_11.index t 0 = t.val / 16 ∧ win0_11.index t 1 = t.val % 16 ∧ win0_11.index t 2 = 0)
      ∧ (win0_12.index t 0 = t.val / 16 ∧ win0_12.index t 1 = t.val % 16 ∧ win0_12.index t 2 = 0)
      ∧ (win0_13.index t 0 = t.val / 16 ∧ win0_13.index t 1 = t.val % 16 ∧ win0_13.index t 2 = 0))
    ∧ (win0_14.index t 0 = t.val / 16 ∧ win0_14.index t 1 = t.val % 16 ∧ win0_14.index t 2 = 0)
    ∧ (win0_15.index t 0 = t.val / 16 ∧ win0_15.index t 1 = 0 ∧ win0_15.index t 2 = t.val % 16) :=
  (by decide +kernel : ∀ t : Fin grid0.N, ((win0_11.index t 0 = t.val / 16 ∧ win0_11.index t 1 = t.val % 16 ∧ win0_11.index t 2 = 0)
      ∧ (win0_12.index t 0 = t.val / 16 ∧ win0_12.index t 1 = t.val % 16 ∧ win0_12.index t 2 = 0)
      ∧ (win0_13.index t 0 = t.val / 16 ∧ win0_13.index t 1 = t.val % 16 ∧ win0_13.index t 2 = 0))
    ∧ (win0_14.index t 0 = t.val / 16 ∧ win0_14.index t 1 = t.val % 16 ∧ win0_14.index t 2 = 0)
    ∧ (win0_15.index t 0 = t.val / 16 ∧ win0_15.index t 1 = 0 ∧ win0_15.index t 2 = t.val % 16))

variable (m : (ℓ : Loc nD τ sig) → Buf (Elt Ideal) ℓ) (c : Dev nD)

/-! ### What the blocks hold -/

theorem V_x : (V m c main_arg0 : Vec Ideal S2x16384x512 .bf16) = m ((c : Thread nD τ).loc main_arg0) := by
  show StableHlo.after hostOps0 (fun b => m (c, b)) (Proc.tc.devRef main_arg0) = _
  after_reads_simp
theorem V_w3 : (V m c main_arg3 : Vec Ideal S512x512 .fp8e4m3) = m ((c : Thread nD τ).loc main_arg3) := by
  show StableHlo.after hostOps0 (fun b => m (c, b)) (Proc.tc.devRef main_arg3) = _
  after_reads_simp
theorem V_w4 : (V m c main_arg4 : Vec Ideal S512x512 .fp8e4m3) = m ((c : Thread nD τ).loc main_arg4) := by
  show StableHlo.after hostOps0 (fun b => m (c, b)) (Proc.tc.devRef main_arg4) = _
  after_reads_simp
theorem V_w5 : (V m c main_arg5 : Vec Ideal S512x512 .fp8e4m3) = m ((c : Thread nD τ).loc main_arg5) := by
  show StableHlo.after hostOps0 (fun b => m (c, b)) (Proc.tc.devRef main_arg5) = _
  after_reads_simp

/-- A whole window over a row: its block is the row. -/
theorem row_whole (p : Fin 2 → ℕ) (h : ∀ a, p a = 0) (n : Fin 512) (z : S1x512.Idx) (hz : ∀ a, (z a).val = p a * S1x512.size a + 1 * ((ix2 0 n : S1x512.Idx) a).val) :
    z = ix2 0 n := funext fun a => Fin.ext (by rw [hz a, h a]; omega)
theorem mat_whole (p : Fin 2 → ℕ) (h : ∀ a, p a = 0) (d n : Fin 512) (z : S512x512.Idx) (hz : ∀ a, (z a).val = p a * S512x512.size a + 1 * ((ix2 d n : S512x512.Idx) a).val) :
    z = ix2 d n := funext fun a => Fin.ext (by rw [hz a, h a]; omega)

theorem host_0 (n : Fin 512) : (V m c main_v0 : Vec Ideal S1x512 .f32) (ix2 0 n) = (m ((c : Thread nD τ).loc main_arg1) : Vec Ideal S512 .f32) (ix1 n) := by
  unfold V; after_reads_at
theorem host_1 (n : Fin 512) : (V m c main_v1 : Vec Ideal S1x512 .f32) (ix2 0 n) = (m ((c : Thread nD τ).loc main_arg2) : Vec Ideal S512 .f32) (ix1 n) := by
  unfold V; after_reads_at
theorem host_2 (n : Fin 512) : (V m c main_v2 : Vec Ideal S1x512 .f32) (ix2 0 n) = (m ((c : Thread nD τ).loc main_arg6) : Vec Ideal S512 .f32) (ix1 n) := by
  unfold V; after_reads_at
theorem host_3 (n : Fin 512) : (V m c main_v3 : Vec Ideal S1x512 .f32) (ix2 0 n) = (m ((c : Thread nD τ).loc main_arg7) : Vec Ideal S512 .f32) (ix1 n) := by
  unfold V; after_reads_at
theorem host_4 (n : Fin 512) : (V m c main_v4 : Vec Ideal S1x512 .f32) (ix2 0 n) = (m ((c : Thread nD τ).loc main_arg8) : Vec Ideal S512 .f32) (ix1 n) := by
  unfold V; after_reads_at
theorem host_5 (n : Fin 512) : (V m c main_v5 : Vec Ideal S1x512 .f32) (ix2 0 n) = (m ((c : Thread nD τ).loc main_arg9) : Vec Ideal S512 .f32) (ix1 n) := by
  unfold V; after_reads_at
theorem host_6 (n : Fin 512) : (V m c main_v6 : Vec Ideal S1x512 .f32) (ix2 0 n) = (m ((c : Thread nD τ).loc main_arg10) : Vec Ideal S512 .f32) (ix1 n) := by
  unfold V; after_reads_at

variable (t : Fin cfg0.N)

theorem x_read (i : Fin 16384) (d : Fin 512) : (iblk m c 0 t : Vec Ideal S1x16384x512 .bf16) (ix3 0 i d)
    = (m ((c : Thread nD τ).loc main_arg0) : Vec Ideal S2x16384x512 .bf16) (ix3 (bOf t.val) i d) := by
  have ht := t_lt t
  obtain ⟨h0, h1, h2⟩ := idx_x t
  rw [← V_x m c]
  refine congrArg (V m c main_arg0) (funext fun a => ?_)
  fin_cases a
  · refine Fin.ext (show win0_0.index t 0 * 1 + 1 * 0 = t.val / 16 % 2 from ?_); omega
  · refine Fin.ext (show win0_0.index t 1 * 16384 + 1 * i.val = i.val from ?_); omega
  · refine Fin.ext (show win0_0.index t 2 * 512 + 1 * d.val = d.val from ?_); omega

theorem g_read (n : Fin 512) : (iblk m c 1 t : Vec Ideal S1x512 .f32) (ix2 0 n) = (m ((c : Thread nD τ).loc main_arg1) : Vec Ideal S512 .f32) (ix1 n) :=
  (congrArg (V m c main_v0) (row_whole _ (idx_v t).1 n _ fun _ => rfl)).trans (host_0 m c n)
theorem be_read (n : Fin 512) : (iblk m c 2 t : Vec Ideal S1x512 .f32) (ix2 0 n) = (m ((c : Thread nD τ).loc main_arg2) : Vec Ideal S512 .f32) (ix1 n) :=
  (congrArg (V m c main_v1) (row_whole _ (idx_v t).2.1 n _ fun _ => rfl)).trans (host_1 m c n)
theorem s6_read (n : Fin 512) : (iblk m c 6 t : Vec Ideal S1x512 .f32) (ix2 0 n) = (m ((c : Thread nD τ).loc main_arg6) : Vec Ideal S512 .f32) (ix1 n) :=
  (congrArg (V m c main_v2) (row_whole _ (idx_v t).2.2.1 n _ fun _ => rfl)).trans (host_2 m c n)
theorem s7_read (n : Fin 512) : (iblk m c 7 t : Vec Ideal S1x512 .f32) (ix2 0 n) = (m ((c : Thread nD τ).loc main_arg7) : Vec Ideal S512 .f32) (ix1 n) :=
  (congrArg (V m c main_v3) (row_whole _ (idx_v t).2.2.2.1 n _ fun _ => rfl)).trans (host_3 m c n)
theorem s8_read (n : Fin 512) : (iblk m c 8 t : Vec Ideal S1x512 .f32) (ix2 0 n) = (m ((c : Thread nD τ).loc main_arg8) : Vec Ideal S512 .f32) (ix1 n) :=
  (congrArg (V m c main_v4) (row_whole _ (idx_v t).2.2.2.2.1 n _ fun _ => rfl)).trans (host_4 m c n)
theorem b9_read (n : Fin 512) : (iblk m c 9 t : Vec Ideal S1x512 .f32) (ix2 0 n) = (m ((c : Thread nD τ).loc main_arg9) : Vec Ideal S512 .f32) (ix1 n) :=
  (congrArg (V m c main_v5) (row_whole _ (idx_v t).2.2.2.2.2.1 n _ fun _ => rfl)).trans (host_5 m c n)
theorem b10_read (n : Fin 512) : (iblk m c 10 t : Vec Ideal S1x512 .f32) (ix2 0 n) = (m ((c : Thread nD τ).loc main_arg10) : Vec Ideal S512 .f32) (ix1 n) :=
  (congrArg (V m c main_v6) (row_whole _ (idx_v t).2.2.2.2.2.2 n _ fun _ => rfl)).trans (host_6 m c n)

theorem w3_read (d n : Fin 512) : (iblk m c 3 t : Vec Ideal S512x512 .fp8e4m3) (ix2 d n) = (m ((c : Thread nD τ).loc main_arg3) : Vec Ideal S512x512 .fp8e4m3) (ix2 d n) :=
  (congrArg (V m c main_arg3) (mat_whole _ (idx_w t).1 d n _ fun _ => rfl)).trans (congrFun (V_w3 m c) _)
theorem w4_read (d n : Fin 512) : (iblk m c 4 t : Vec Ideal S512x512 .fp8e4m3) (ix2 d n) = (m ((c : Thread nD τ).loc main_arg4) : Vec Ideal S512x512 .fp8e4m3) (ix2 d n) :=
  (congrArg (V m c main_arg4) (mat_whole _ (idx_w t).2.1 d n _ fun _ => rfl)).trans (congrFun (V_w4 m c) _)
theorem w5_read (d n : Fin 512) : (iblk m c 5 t : Vec Ideal S512x512 .fp8e4m3) (ix2 d n) = (m ((c : Thread nD τ).loc main_arg5) : Vec Ideal S512x512 .fp8e4m3) (ix2 d n) :=
  (congrArg (V m c main_arg5) (mat_whole _ (idx_w t).2.2 d n _ fun _ => rfl)).trans (congrFun (V_w5 m c) _)

/-! ### The statistics, kept over a batch's points -/

/-- Batch `b`'s rows. -/
def xOf (b : Fin 2) (i : Fin 16384) (d : Fin 512) : EReal := (m ((c : Thread nD τ).loc main_arg0) : Vec Ideal S2x16384x512 .bf16) (ix3 b i d)

theorem rows_eq : xRows (iblk m c 0 t) = xOf m c (bOf t.val) := funext fun i => funext fun d => x_read m c t i d

theorem stats : ∀ (n : ℕ) (t : Fin cfg0.N), t.val = n → ∀ d, mu m c t (ix2 0 d) = mean (xOf m c (bOf n)) d ∧ rs m c t (ix2 0 d) = rstd (xOf m c (bOf n)) d := by
  intro n
  induction n with
  | zero =>
    intro t ht d
    have h0 : t.val % 16 = 0 := by omega
    rw [mu_A m c t h0, rs_A m c t h0, muV_apply, rsV_apply, rows_eq, ht]
    exact ⟨rfl, rfl⟩
  | succ n ih =>
    intro t ht d
    by_cases h0 : t.val % 16 = 0
    · rw [mu_A m c t h0, rs_A m c t h0, muV_apply, rsV_apply, rows_eq, ht]
      exact ⟨rfl, rfl⟩
    · have hs : n < cfg0.N := lt_trans (by omega) t.isLt
      have e : bOf (n + 1) = bOf n := Fin.ext (show (n + 1) / 16 % 2 = n / 16 % 2 by omega)
      rw [mu_B m c t h0 ⟨n, hs⟩ (by dsimp only; omega), rs_B m c t h0 ⟨n, hs⟩ (by dsimp only; omega), e]
      exact ih ⟨n, hs⟩ rfl d

/-- The normalised input of device `c`'s arguments. -/
def hNorm : Fin 2 → Fin 16384 → Fin 512 → EReal :=
  hOf (m ((c : Thread nD τ).loc main_arg0)) (m ((c : Thread nD τ).loc main_arg1)) (m ((c : Thread nD τ).loc main_arg2))

theorem hV_apply (r : Fin 1024) (d : Fin 512) : hV m c t (ix2 r d) = hNorm m c (bOf t.val) (rOf t.val r) d := by
  obtain ⟨h1, h2⟩ := stats m c t.val t rfl d
  unfold hV
  rw [pay11_apply, h1, h2, g_read, be_read]
  refine congrArg (fun z => (z - mean (xOf m c (bOf t.val)) d) * rstd (xOf m c (bOf t.val)) d * _ + _) ?_
  exact x_read m c t (rOf t.val r) d

theorem hV_row (r : Fin 1024) : (fun d => hV m c t (ix2 r d)) = hNorm m c (bOf t.val) (rOf t.val r) := funext fun d => hV_apply m c t r d

end Cert.NormIdeal.Hand
-- ==== Proof.NormIdeal.Values.lean ====
/-
  Hand-written, untrusted. The run of `cc0_norm_qkv` over the extended reals leaves its five results as functions of the
  arguments.
-/
module

public import proofs.«01_k».proof.Proof.NormIdeal.Arrays

@[expose] public section

set_option maxRecDepth 16384

noncomputable section

namespace Cert.NormIdeal.Hand

open Cert.NormIdeal Cert.NormIdeal.Gen Cert.NormMath Cert.QuantMath
open Cert.KernelIdeal.Hand (rho projOf resProj resCodes resScale)
open Idealize.ShloMosaic hiding inv
open Idealize.ShloMosaic.TcCoe Idealize.ShloMosaic.Tactic
open Idealize.SL.Sem

/-! ### A block's place in its array -/

/-- A block whose entries are those of an array's rows, read at the block's place in the array. -/
theorem block_eq {β : Type} (G : S2x16384x512.Idx → β) (f : S1x1024x512.Idx → β) (t : Fin cfg0.N) (p : Fin 3 → ℕ)
    (hp : p 0 = t.val / 16 ∧ p 1 = t.val % 16 ∧ p 2 = 0)
    (hf : ∀ r d, f (ix3 0 r d) = G (ix3 (bOf t.val) (rOf t.val r) d)) (y : S1x1024x512.Idx) (z : S2x16384x512.Idx)
    (hz : ∀ a, (z a).val = p a * S1x1024x512.size a + 1 * (y a).val) : f y = G z := by
  have ht := t_lt t
  obtain ⟨p0, p1, p2⟩ := hp
  have y0 : (y 0).val < 1 := (y 0).isLt
  have z0 : (z 0).val = p 0 * 1 + 1 * (y 0).val := hz 0
  have z1 : (z 1).val = p 1 * 1024 + 1 * (y 1).val := hz 1
  have z2 : (z 2).val = p 2 * 512 + 1 * (y 2).val := hz 2
  have ey : y = ix3 0 (y 1) (y 2) := funext fun a => by
    fin_cases a
    · exact Fin.ext (show (y 0).val = 0 by omega)
    · rfl
    · rfl
  have ez : z = ix3 (bOf t.val) (rOf t.val (y 1)) (y 2) := funext fun a => by
    fin_cases a
    · exact Fin.ext (show (z 0).val = t.val / 16 % 2 by omega)
    · exact Fin.ext (show (z 1).val = 1024 * (t.val % 16) + (y 1).val by omega)
    · exact Fin.ext (show (z 2).val = (y 2).val by omega)
  rw [ey, ez]
  exact hf _ _

/-- The same for the row of scales. -/
theorem lane_eq {β : Type} (G : S2x1x16384.Idx → β) (f : S1x1x1024.Idx → β) (t : Fin cfg0.N) (p : Fin 3 → ℕ)
    (hp : p 0 = t.val / 16 ∧ p 1 = 0 ∧ p 2 = t.val % 16)
    (hf : ∀ r, f (ix3 0 0 r) = G (ix3 (bOf t.val) 0 (rOf t.val r))) (y : S1x1x1024.Idx) (z : S2x1x16384.Idx)
    (hz : ∀ a, (z a).val = p a * S1x1x1024.size a + 1 * (y a).val) : f y = G z := by
  have ht := t_lt t
  obtain ⟨p0, p1, p2⟩ := hp
  have y0 : (y 0).val < 1 := (y 0).isLt
  have y1 : (y 1).val < 1 := (y 1).isLt
  have z0 : (z 0).val = p 0 * 1 + 1 * (y 0).val := hz 0
  have z1 : (z 1).val = p 1 * 1 + 1 * (y 1).val := hz 1
  have z2 : (z 2).val = p 2 * 1024 + 1 * (y 2).val := hz 2
  have ey : y = ix3 0 0 (y 2) := funext fun a => by
    fin_cases a
    · exact Fin.ext (show (y 0).val = 0 by omega)
    · exact Fin.ext (show (y 1).val = 0 by omega)
    · rfl
  have ez : z = ix3 (bOf t.val) 0 (rOf t.val (y 2)) := funext fun a => by
    fin_cases a
    · exact Fin.ext (show (z 0).val = t.val / 16 % 2 by omega)
    · exact Fin.ext (show (z 1).val = 0 by omega)
    · exact Fin.ext (show (z 2).val = 1024 * (t.val % 16) + (y 2).val by omega)
  rw [ey, ez]
  exact hf _

/-- The point that writes row `i` of batch `b`. -/
theorem row_block (b i : ℕ) (hb : b < 2) (hi : i < 16384) : ∃ t : Fin cfg0.N, t.val / 16 = b ∧ t.val % 16 = i / 1024 :=
  ⟨⟨16 * b + i / 1024, lt_of_lt_of_eq (by omega : 16 * b + i / 1024 < 32) N_0.symm⟩, show (16 * b + i / 1024) / 16 = b by omega,
    show (16 * b + i / 1024) % 16 = i / 1024 by omega⟩

theorem in_block (i : S2x16384x512.Idx) (t : Fin cfg0.N) (p : Fin 3 → ℕ) (hp : p 0 = t.val / 16 ∧ p 1 = t.val % 16 ∧ p 2 = 0)
    (h1 : t.val / 16 = (i 0).val) (h2 : t.val % 16 = (i 1).val / 1024) (a : Fin 3) :
    p a * S1x1024x512.size a ≤ (i a).val ∧ (i a).val < p a * S1x1024x512.size a + S1x1024x512.size a := by
  have hd : (i 2).val < 512 := (i 2).isLt
  obtain ⟨p0, p1, p2⟩ := hp
  fin_cases a
  · show p 0 * 1 ≤ (i 0).val ∧ (i 0).val < p 0 * 1 + 1
    omega
  · show p 1 * 1024 ≤ (i 1).val ∧ (i 1).val < p 1 * 1024 + 1024
    omega
  · show p 2 * 512 ≤ (i 2).val ∧ (i 2).val < p 2 * 512 + 512
    omega

variable (m : (ℓ : Loc nD τ sig) → Buf (Elt Ideal) ℓ) (c : Dev nD)

/-! ### What a point writes back -/

section
variable (hρ : ∀ b i, ∃ ρ : ℝ, ρ < th 253 ∧ amax (hNorm m c b i) = (ρ : EReal)) (t : Fin cfg0.N)

include hρ in
theorem rho_spec (b : Fin 2) (i : Fin 16384) : rho (hNorm m c) b i < th 253 ∧ amax (hNorm m c b i) = (rho (hNorm m c) b i : EReal) := by
  obtain ⟨ρ, h1, h2⟩ := hρ b i
  unfold rho
  rw [h2, EReal.toReal_coe]
  exact ⟨h1, rfl⟩

include hρ in
theorem field_at (r : Fin 1024) : fV m c t (ix2 r 0) = fieldW (rho (hNorm m c) (bOf t.val) (rOf t.val r) : EReal) := by
  unfold fV
  rw [nField_apply, ← (rho_spec m c hρ (bOf t.val) (rOf t.val r)).2, ← hV_row m c t r]
  rfl

include hρ in
theorem q_at (r : Fin 1024) (n : Fin 512) : outQ m c t (ix3 0 r n) = resProj (hNorm m c) (m ((c : Thread nD τ).loc main_arg3)) (m ((c : Thread nD τ).loc main_arg6)) (m ((c : Thread nD τ).loc main_arg9)) (ix3 (bOf t.val) (rOf t.val r) n) := by
  refine (nQ_apply (hV m c t) (fV m c t) r _ (rho_spec m c hρ (bOf t.val) (rOf t.val r)).1 (field_at m c hρ t r) (iblk m c 3 t) (iblk m c 6 t) (iblk m c 9 t) n).trans ?_
  rw [hV_row]
  simp only [w3_read, s6_read, b9_read]
  rfl

include hρ in
theorem k_at (r : Fin 1024) (n : Fin 512) : outK m c t (ix3 0 r n) = resProj (hNorm m c) (m ((c : Thread nD τ).loc main_arg4)) (m ((c : Thread nD τ).loc main_arg7)) noBias (ix3 (bOf t.val) (rOf t.val r) n) := by
  refine (nK_apply (hV m c t) (fV m c t) r _ (rho_spec m c hρ (bOf t.val) (rOf t.val r)).1 (field_at m c hρ t r) (iblk m c 4 t) (iblk m c 7 t) n).trans ?_
  rw [hV_row]
  simp only [w4_read, s7_read]
  rfl

include hρ in
theorem v_at (r : Fin 1024) (n : Fin 512) : outV m c t (ix3 0 r n) = resProj (hNorm m c) (m ((c : Thread nD τ).loc main_arg5)) (m ((c : Thread nD τ).loc main_arg8)) (m ((c : Thread nD τ).loc main_arg10)) (ix3 (bOf t.val) (rOf t.val r) n) := by
  refine (nV_apply (hV m c t) (fV m c t) r _ (rho_spec m c hρ (bOf t.val) (rOf t.val r)).1 (field_at m c hρ t r) (iblk m c 5 t) (iblk m c 8 t) (iblk m c 10 t) n).trans ?_
  rw [hV_row]
  simp only [w5_read, s8_read, b10_read]
  rfl

include hρ in
theorem codes_at (r : Fin 1024) (n : Fin 512) : outC m c t (ix3 0 r n) = resCodes (hNorm m c) (ix3 (bOf t.val) (rOf t.val r) n) := by
  refine (pay19_apply (hV m c t) (fV m c t) r _ (rho_spec m c hρ (bOf t.val) (rOf t.val r)).1 (field_at m c hρ t r) n).trans ?_
  rw [hV_row]
  rfl

include hρ in
theorem scale_at (r : Fin 1024) : outS m c t (ix3 0 0 r) = resScale (hNorm m c) (ix3 (bOf t.val) 0 (rOf t.val r)) :=
  pay20_apply (fV m c t) r _ (rho_spec m c hρ (bOf t.val) (rOf t.val r)).1 (field_at m c hρ t r)

include hρ in
theorem flushed_q : (dats m 0 c).flushed 11 t = (win0_11.blk t).view.read (Elt Ideal) (resProj (hNorm m c) (m ((c : Thread nD τ).loc main_arg3)) (m ((c : Thread nD τ).loc main_arg6)) (m ((c : Thread nD τ).loc main_arg9))) := by
  show (cfg0.win 11).cut (grid0.coords t) ((dats m 0 c).after 11 t) = _
  rw [after0_11, (outs_all m c t).1]
  exact funext fun y => block_eq _ (outQ m c t) t (win0_11.index t) (idx_out t).1.1 (q_at m c hρ t) y _ fun a => rfl

include hρ in
theorem flushed_k : (dats m 0 c).flushed 12 t = (win0_12.blk t).view.read (Elt Ideal) (resProj (hNorm m c) (m ((c : Thread nD τ).loc main_arg4)) (m ((c : Thread nD τ).loc main_arg7)) noBias) := by
  show (cfg0.win 12).cut (grid0.coords t) ((dats m 0 c).after 12 t) = _
  rw [after0_12, (outs_all m c t).2.1]
  exact funext fun y => block_eq _ (outK m c t) t (win0_12.index t) (idx_out t).1.2.1 (k_at m c hρ t) y _ fun a => rfl

include hρ in
theorem flushed_v : (dats m 0 c).flushed 13 t = (win0_13.blk t).view.read (Elt Ideal) (resProj (hNorm m c) (m ((c : Thread nD τ).loc main_arg5)) (m ((c : Thread nD τ).loc main_arg8)) (m ((c : Thread nD τ).loc main_arg10))) := by
  show (cfg0.win 13).cut (grid0.coords t) ((dats m 0 c).after 13 t) = _
  rw [after0_13, (outs_all m c t).2.2.1]
  exact funext fun y => block_eq _ (outV m c t) t (win0_13.index t) (idx_out t).1.2.2 (v_at m c hρ t) y _ fun a => rfl

include hρ in
theorem flushed_codes : (dats m 0 c).flushed 14 t = (win0_14.blk t).view.read (Elt Ideal) (resCodes (hNorm m c)) := by
  show (cfg0.win 14).cut (grid0.coords t) ((dats m 0 c).after 14 t) = _
  rw [after0_14, (outs_all m c t).2.2.2.1]
  exact funext fun y => block_eq _ (outC m c t) t (win0_14.index t) (idx_out t).2.1 (codes_at m c hρ t) y _ fun a => rfl

include hρ in
theorem flushed_scale : (dats m 0 c).flushed 15 t = (win0_15.blk t).view.read (Elt Ideal) (resScale (hNorm m c)) := by
  show (cfg0.win 15).cut (grid0.coords t) ((dats m 0 c).after 15 t) = _
  rw [after0_15, (outs_all m c t).2.2.2.2]
  exact funext fun y => lane_eq _ (outS m c t) t (win0_15.index t) (idx_out t).2.2 (scale_at m c hρ t) y _ fun a => rfl

end

/-! ### The blocks cover the arrays -/

theorem cover_q (i : S2x16384x512.Idx) : ∃ t : Fin cfg0.N, (cfg0.win 11).flush t = true ∧ i ∈ ((cfg0.win 11).blk t).view.set := by
  obtain ⟨t, h1, h2⟩ := row_block (i 0).val (i 1).val (i 0).isLt (i 1).isLt
  refine ⟨t, flush0_11 t, ?_⟩
  show i ∈ ((View.whole main_v7_0).slice (win0_11.rect t)).set
  rw [View.set_slice_whole, Rect.mem_set_unit]
  exact in_block i t (win0_11.index t) (idx_out t).1.1 h1 h2

theorem cover_k (i : S2x16384x512.Idx) : ∃ t : Fin cfg0.N, (cfg0.win 12).flush t = true ∧ i ∈ ((cfg0.win 12).blk t).view.set := by
  obtain ⟨t, h1, h2⟩ := row_block (i 0).val (i 1).val (i 0).isLt (i 1).isLt
  refine ⟨t, flush0_12 t, ?_⟩
  show i ∈ ((View.whole main_v7_1).slice (win0_12.rect t)).set
  rw [View.set_slice_whole, Rect.mem_set_unit]
  exact in_block i t (win0_12.index t) (idx_out t).1.2.1 h1 h2

theorem cover_v (i : S2x16384x512.Idx) : ∃ t : Fin cfg0.N, (cfg0.win 13).flush t = true ∧ i ∈ ((cfg0.win 13).blk t).view.set := by
  obtain ⟨t, h1, h2⟩ := row_block (i 0).val (i 1).val (i 0).isLt (i 1).isLt
  refine ⟨t, flush0_13 t, ?_⟩
  show i ∈ ((View.whole main_v7_2).slice (win0_13.rect t)).set
  rw [View.set_slice_whole, Rect.mem_set_unit]
  exact in_block i t (win0_13.index t) (idx_out t).1.2.2 h1 h2

theorem cover_codes (i : S2x16384x512.Idx) : ∃ t : Fin cfg0.N, (cfg0.win 14).flush t = true ∧ i ∈ ((cfg0.win 14).blk t).view.set := by
  obtain ⟨t, h1, h2⟩ := row_block (i 0).val (i 1).val (i 0).isLt (i 1).isLt
  refine ⟨t, flush0_14 t, ?_⟩
  show i ∈ ((View.whole main_v7_3).slice (win0_14.rect t)).set
  rw [View.set_slice_whole, Rect.mem_set_unit]
  exact in_block i t (win0_14.index t) (idx_out t).2.1 h1 h2

theorem cover_scale (i : S2x1x16384.Idx) : ∃ t : Fin cfg0.N, (cfg0.win 15).flush t = true ∧ i ∈ ((cfg0.win 15).blk t).view.set := by
  have hd : (i 1).val < 1 := (i 1).isLt
  obtain ⟨t, h1, h2⟩ := row_block (i 0).val (i 2).val (i 0).isLt (i 2).isLt
  obtain ⟨p0, p1, p2⟩ := (idx_out t).2.2
  refine ⟨t, flush0_15 t, ?_⟩
  show i ∈ ((View.whole main_v7_4).slice (win0_15.rect t)).set
  rw [View.set_slice_whole, Rect.mem_set_unit]
  intro a
  fin_cases a
  · show win0_15.index t 0 * 1 ≤ (i 0).val ∧ (i 0).val < win0_15.index t 0 * 1 + 1
    omega
  · show win0_15.index t 1 * 1 ≤ (i 1).val ∧ (i 1).val < win0_15.index t 1 * 1 + 1
    omega
  · show win0_15.index t 2 * 1024 ≤ (i 2).val ∧ (i 2).val < win0_15.index t 2 * 1024 + 1024
    omega

/-! ### The run's results -/

theorem run_values (g : Dev nD → PrngReg) (hρ : ∀ c b i, ∃ ρ : ℝ, ρ < th 253 ∧ amax (hNorm m c b i) = (ρ : EReal)) :
    θ_run defs (onTc (τ := τ) (main (F := Ideal))) ⟨m, fun _ => 0, g⟩ (fun r => ∀ c : Dev nD,
    r.2.mem ((c : Thread nD τ).loc main_v7_0) = resProj (hNorm m c) (m ((c : Thread nD τ).loc main_arg3)) (m ((c : Thread nD τ).loc main_arg6)) (m ((c : Thread nD τ).loc main_arg9))
      ∧ r.2.mem ((c : Thread nD τ).loc main_v7_1) = resProj (hNorm m c) (m ((c : Thread nD τ).loc main_arg4)) (m ((c : Thread nD τ).loc main_arg7)) noBias
      ∧ r.2.mem ((c : Thread nD τ).loc main_v7_2) = resProj (hNorm m c) (m ((c : Thread nD τ).loc main_arg5)) (m ((c : Thread nD τ).loc main_arg8)) (m ((c : Thread nD τ).loc main_arg10))
      ∧ r.2.mem ((c : Thread nD τ).loc main_v7_3) = resCodes (hNorm m c)
      ∧ r.2.mem ((c : Thread nD τ).loc main_v7_4) = resScale (hNorm m c)) := by
  refine (θ_run defs _ _).mono (fun r h c => ?_) (run_main m g)
  exact ⟨((h c).1 11).trans ((dats m 0 c).arrAt_eq_of_cover 11 _ (fun t _ => flushed_q m c (hρ c) t) cover_q),
    ((h c).1 12).trans ((dats m 0 c).arrAt_eq_of_cover 12 _ (fun t _ => flushed_k m c (hρ c) t) cover_k),
    ((h c).1 13).trans ((dats m 0 c).arrAt_eq_of_cover 13 _ (fun t _ => flushed_v m c (hρ c) t) cover_v),
    ((h c).1 14).trans ((dats m 0 c).arrAt_eq_of_cover 14 _ (fun t _ => flushed_codes m c (hρ c) t) cover_codes),
    ((h c).1 15).trans ((dats m 0 c).arrAt_eq_of_cover 15 _ (fun t _ => flushed_scale m c (hρ c) t) cover_scale)⟩

end Cert.NormIdeal.Hand
-- ==== Proof.NormReferenceIdeal.Host.lean ====
/-
  Hand-written, untrusted. The reference's group normalisation over the extended reals: what its host operations leave for
  the tail, entry by entry.
-/
module

public import proofs.«01_k».proof.Proof.Gen.NormReferenceIdeal.Frame
public import proofs.«01_k».proof.Proof.NormIdeal.Arrays
public import Idealize.ShloMosaic.Lib.StableHlo.ReadAt
public import Idealize.ShloMosaic.Lib.Claim

@[expose] public section

set_option maxRecDepth 16384

noncomputable section

namespace Cert.NormReferenceIdeal.Hand

open Cert.NormReferenceIdeal Cert.NormReferenceIdeal.Gen Cert.NormMath Cert.NormIdeal.Hand
open Idealize.ShloMosaic hiding inv
open Idealize.ShloMosaic.TcCoe Idealize.ShloMosaic.Tactic

/-! ### The host operations, in steps -/

def hAdd (x : FVec Ideal S2x16384x32x16 .f32) : FVec Ideal S2x32 .f32 :=
  Host.reduceAdd x (constant S_ .f32 0x00000000#32) reducesTo_S2x16384x32x16_S2x32_d1_3 h_S_

def hMean (x : FVec Ideal S2x16384x32x16 .f32) : FVec Ideal S2x1x32x1 .f32 :=
  Host.divf (broadcastInDim S2x1x32x1 ![0, 2] bcast_S2x32_S2x1x32x1_0_2 (hAdd x))
    (broadcastInDim S2x1x32x1 ![] bcast_S_S2x1x32x1 (constant S_ .f32 0x48800000#32))

def hSpread (y : FVec Ideal S2x1x32x1 .f32) : FVec Ideal S2x16384x32x16 .f32 :=
  broadcastInDim S2x16384x32x16 ![0, 1, 2, 3] bcast_S2x1x32x1_S2x16384x32x16_0_1_2_3 y

def hDev (x : FVec Ideal S2x16384x32x16 .f32) : FVec Ideal S2x16384x32x16 .f32 := subf x (hSpread (hMean x))

def hRstd (e : FVec Ideal S2x16384x32x16 .f32) : FVec Ideal S2x1x32x1 .f32 :=
  Host.rsqrt (addf (hMean (mulf e e)) (broadcastInDim S2x1x32x1 ![] bcast_S_S2x1x32x1 (constant S_ .f32 0x358637BD#32)))

def hScaled (e : FVec Ideal S2x16384x32x16 .f32) : FVec Ideal S2x16384x32x16 .f32 := mulf e (hSpread (hRstd e))

def hVec (g : FVec Ideal S512 .f32) : FVec Ideal S2x16384x512 .f32 :=
  broadcastInDim S2x16384x512 ![0, 1, 2] bcast_S1x1x512_S2x16384x512_0_1_2 (broadcastInDim S1x1x512 ![2] bcast_S512_S1x1x512_2 g)

def hSplit (x : FVec Ideal S2x16384x512 .bf16) : FVec Ideal S2x16384x32x16 .f32 :=
  shapeCast S2x16384x32x16 (extf .f32 x bitsLt_bf16_f32) shapeCasts_S2x16384x512_S2x16384x32x16

def hMerge (y : FVec Ideal S2x16384x32x16 .f32) : FVec Ideal S2x16384x512 .f32 :=
  shapeCast S2x16384x512 y shapeCasts_S2x16384x32x16_S2x16384x512

def hH (x : FVec Ideal S2x16384x512 .bf16) (g be : FVec Ideal S512 .f32) : FVec Ideal S2x16384x512 .f32 :=
  addf (mulf (hMerge (hScaled (hDev (hSplit x)))) (hVec g)) (hVec be)

section
variable (m : (ℓ : Loc nD τ sig) → Buf (Elt Ideal) ℓ) (c : Dev nD)

theorem V_h : (V m c main_v25 : Vec Ideal S32768x512 .f32) = shapeCast S32768x512 (hH (m ((c : Thread nD τ).loc main_arg0))
    (m ((c : Thread nD τ).loc main_arg1)) (m ((c : Thread nD τ).loc main_arg2))) shapeCasts_S2x16384x512_S32768x512 := by
  show StableHlo.after hostOps0 (fun b => m (c, b)) (Proc.tc.devRef main_v25) = _
  after_reads_simp
  rfl

theorem V_26 : (V m c main_v26 : Vec Ideal S1x512 .f32) = shapeCast S1x512 (m ((c : Thread nD τ).loc main_arg6) : Vec Ideal S512 .f32) shapeCasts_S512_S1x512 := by
  show StableHlo.after hostOps0 (fun b => m (c, b)) (Proc.tc.devRef main_v26) = _
  after_reads_simp
  rfl
theorem V_27 : (V m c main_v27 : Vec Ideal S1x512 .f32) = shapeCast S1x512 (m ((c : Thread nD τ).loc main_arg7) : Vec Ideal S512 .f32) shapeCasts_S512_S1x512 := by
  show StableHlo.after hostOps0 (fun b => m (c, b)) (Proc.tc.devRef main_v27) = _
  after_reads_simp
  rfl
theorem V_28 : (V m c main_v28 : Vec Ideal S1x512 .f32) = shapeCast S1x512 (m ((c : Thread nD τ).loc main_arg8) : Vec Ideal S512 .f32) shapeCasts_S512_S1x512 := by
  show StableHlo.after hostOps0 (fun b => m (c, b)) (Proc.tc.devRef main_v28) = _
  after_reads_simp
  rfl
theorem V_29 : (V m c main_v29 : Vec Ideal S1x512 .f32) = shapeCast S1x512 (m ((c : Thread nD τ).loc main_arg9) : Vec Ideal S512 .f32) shapeCasts_S512_S1x512 := by
  show StableHlo.after hostOps0 (fun b => m (c, b)) (Proc.tc.devRef main_v29) = _
  after_reads_simp
  rfl
theorem V_30 : (V m c main_v30 : Vec Ideal S1x512 .f32) = shapeCast S1x512 (m ((c : Thread nD τ).loc main_arg10) : Vec Ideal S512 .f32) shapeCasts_S512_S1x512 := by
  show StableHlo.after hostOps0 (fun b => m (c, b)) (Proc.tc.devRef main_v30) = _
  after_reads_simp
  rfl
end

/-! ### A sum over rows and a group's channels -/

theorem fiber (b : Fin 2) (g : Fin 32) (i : S2x16384x32x16.Idx) :
    reducesTo_S2x16384x32x16_S2x32_d1_3.drop i = ix2 b g ↔ ∃ k : Fin 16384 × Fin 16, ix4 b k.1 g k.2 = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext a
    apply Fin.ext
    match a with
    | ⟨0, _⟩ => rfl
    | ⟨1, _⟩ => rfl

theorem hAdd_apply (x : FVec Ideal S2x16384x32x16 .f32) (b : Fin 2) (g : Fin 32) :
    hAdd x (ix2 b g) = ∑ i : Fin 16384, ∑ l : Fin 16, x (ix4 b i g l) := by
  refine (show hAdd x (ix2 b g) = Ideal.ofBits .f32 0x00000000#32
    + ∑ i ∈ Finset.univ.filter (fun i => reducesTo_S2x16384x32x16_S2x32_d1_3.drop i = ix2 b g), x i from rfl).trans ?_
  rw [Ideal.ofBits_zero_f32, zero_add]
  refine (Finset.sum_filter_eq_sum_of_fiber _ (fun k : Fin 16384 × Fin 16 => ix4 b k.1 g k.2)
    (fun _ _ e => Prod.ext (congrFun e 1) (congrFun e 3)) (fiber b g) x).trans ?_
  simp only [Fintype.sum_prod_type]

/-! ### Entry by entry -/

/-- Channel `l` of group `g`. -/
def chan (g : Fin 32) (l : Fin 16) : Fin 512 := ⟨g.val * 16 + l.val, by omega⟩

/-- A channel's group and its place in it. -/
def grp (d : Fin 512) : Fin 32 := ⟨d.val / 16, by omega⟩
def plc (d : Fin 512) : Fin 16 := ⟨d.val % 16, by omega⟩

theorem chan_eq (d : Fin 512) : chan (grp d) (plc d) = d := Fin.ext (by simp only [chan, grp, plc]; omega)
theorem chan_lane (d : Fin 512) (l : Fin 16) : chan (grp d) l = lane d l := rfl

theorem split_apply (x : FVec Ideal S2x16384x512 .bf16) (b : Fin 2) (i : Fin 16384) (g : Fin 32) (l : Fin 16) :
    hSplit x (ix4 b i g l) = x (ix3 b i (chan g l)) := by
  pointwise [hSplit, chan]

theorem merge_apply (y : FVec Ideal S2x16384x32x16 .f32) (b : Fin 2) (i : Fin 16384) (d : Fin 512) :
    hMerge y (ix3 b i d) = y (ix4 b i (grp d) (plc d)) := by
  pointwise [hMerge, grp, plc]

theorem vec_at (g : FVec Ideal S512 .f32) (b : Fin 2) (i : Fin 16384) (d : Fin 512) : hVec g (ix3 b i d) = g (ix1 d) := by
  pointwise [hVec]

theorem spread_apply (y : FVec Ideal S2x1x32x1 .f32) (b : Fin 2) (i : Fin 16384) (g : Fin 32) (l : Fin 16) :
    hSpread y (ix4 b i g l) = y (ix4 b 0 g 0) := by
  pointwise [hSpread]

theorem keep_apply (s : FVec Ideal S2x32 .f32) (b : Fin 2) (g : Fin 32) :
    broadcastInDim S2x1x32x1 ![0, 2] bcast_S2x32_S2x1x32x1_0_2 s (ix4 b 0 g 0) = s (ix2 b g) := by
  pointwise

theorem div_at {s : Shape} (x y : FVec Ideal s .f32) (i : s.Idx) : Host.divf x y i = Ideal.div (x i) (y i) := rfl
theorem rsqrt_at {s : Shape} (x : FVec Ideal s .f32) (i : s.Idx) : Host.rsqrt x i = Ideal.rsqrt (x i) := rfl
theorem sub_at {s : Shape} (x y : FVec Ideal s .f32) (i : s.Idx) : subf x y i = x i - y i := rfl
theorem add_at {s : Shape} (x y : FVec Ideal s .f32) (i : s.Idx) : addf x y i = x i + y i := rfl
theorem mul_at {s : Shape} (x y : FVec Ideal s .f32) (i : s.Idx) : mulf x y i = x i * y i := rfl
theorem fill_at (w : BitVec 32) (i : S2x1x32x1.Idx) :
    (broadcastInDim S2x1x32x1 ![] bcast_S_S2x1x32x1 (constant S_ .f32 w) : FVec Ideal S2x1x32x1 .f32) i = Ideal.ofBits .f32 w := rfl

theorem hMean_apply (x : FVec Ideal S2x16384x32x16 .f32) (b : Fin 2) (g : Fin 32) :
    hMean x (ix4 b 0 g 0) = (∑ i : Fin 16384, ∑ l : Fin 16, x (ix4 b i g l)) * inv := by
  rw [hMean, div_at, keep_apply, fill_at, div_count, hAdd_apply]

section
variable (x : FVec Ideal S2x16384x512 .bf16) (b : Fin 2)

/-- Batch `b` of the input. -/
def batch (i : Fin 16384) (d : Fin 512) : EReal := x (ix3 b i d)

theorem mean_chan (d : Fin 512) : hMean (hSplit x) (ix4 b 0 (grp d) 0) = mean (batch x b) d := by
  rw [hMean_apply]
  simp only [split_apply]
  rfl

theorem hDev_apply (i : Fin 16384) (d : Fin 512) (l : Fin 16) : hDev (hSplit x) (ix4 b i (grp d) l) = dev (batch x b) i (lane d l) := by
  rw [hDev, sub_at, spread_apply, mean_chan, split_apply, dev, mean_lane]
  rfl

theorem hRstd_apply (d : Fin 512) : hRstd (hDev (hSplit x)) (ix4 b 0 (grp d) 0) = rstd (batch x b) d := by
  rw [hRstd, rsqrt_at, add_at, fill_at, hMean_apply]
  simp only [mul_at, hDev_apply]
  rfl

theorem hH_apply (g be : FVec Ideal S512 .f32) (i : Fin 16384) (d : Fin 512) : hH x g be (ix3 b i d) = hOf x g be b i d := by
  rw [hH, add_at, mul_at, vec_at, vec_at, merge_apply, hScaled, mul_at, spread_apply, hRstd_apply, hDev_apply]
  rw [show lane d (plc d) = d from lane_self d]
  rfl
end

end Cert.NormReferenceIdeal.Hand
-- ==== Proof.NormReferenceIdeal.Payloads.lean ====
/-
  Hand-written, untrusted. The normalising reference's tail is the attention reference's tail with three projections, one of
  them without a bias: its vectors are that tail's.
-/
module

public import proofs.«01_k».proof.Proof.Gen.NormReferenceIdeal.Skeleton
public import proofs.«01_k».proof.Proof.ReferenceIdeal.Values
public import proofs.«01_k».proof.Proof.NormIdeal.Arrays

@[expose] public section

set_option maxRecDepth 16384

noncomputable section

namespace Cert.NormReferenceIdeal.Hand

open Cert.NormReferenceIdeal Cert.NormReferenceIdeal.Gen Cert.QuantMath Cert.KernelIdeal.Hand
open Cert.ReferenceIdeal.Hand (tailExp tailMax tailCodes exp_apply tailCodes_apply flat flat_row row batches_apply vec_apply)
open Cert.NormIdeal.Hand (noBias)
open Idealize.ShloMosaic Idealize.ShloMosaic.TcCoe Idealize.ShloMosaic.Tactic

theorem pay4_eq (a : Vec Ideal S32768x512 .f32) : k0_pay4 a = a := by funext j; pointwise [k0_pay4]

theorem pay5_eq (a : Vec Ideal S32768x512 .f32) : k0_pay5 a = tailExp (tailMax a) := by
  unfold k0_pay5
  rw [pay4_eq]
  rfl

theorem pay6_eq (a : Vec Ideal S32768x512 .f32) : k0_pay6 a = Cert.ReferenceIdeal.Gen.k0_pay5 a := by
  rw [Cert.ReferenceIdeal.Hand.pay5_eq]
  unfold k0_pay6
  rw [pay5_eq]

theorem pay7_eq (a : Vec Ideal S32768x512 .f32) : k0_pay7 a = Cert.ReferenceIdeal.Gen.k0_pay6 a := by
  rw [Cert.ReferenceIdeal.Hand.pay6_eq]
  unfold k0_pay7
  rw [pay5_eq, pay4_eq]
  rfl

section
variable (a : Vec Ideal S32768x512 .f32) (w : Vec Ideal S512x512 .fp8e4m3) (s b : Vec Ideal S1x512 .f32)

theorem pay1_eq : k0_pay1 (k0_pay8 a w s b) = Cert.ReferenceIdeal.Gen.k0_pay2 (Cert.ReferenceIdeal.Gen.k0_pay7 a w s b) := by
  unfold k0_pay8
  rw [pay6_eq, pay7_eq]
  rfl

theorem pay3_eq : k0_pay3 (k0_pay6 a) (k0_pay7 a) w s b = Cert.ReferenceIdeal.Gen.k0_pay2 (Cert.ReferenceIdeal.Gen.k0_pay7 a w s b) := by
  rw [pay6_eq, pay7_eq]
  rfl

theorem pay2_apply (r : Fin 32768) (ρ : ℝ) (h0 : 0 ≤ ρ) (ha : amax (fun d => a (ix2 r d)) = (ρ : EReal)) (n : Fin 512) :
    k0_pay2 (k0_pay6 a) (k0_pay7 a) w s (ix2 r n) = proj (fun d => a (ix2 r d)) ρ (fun d n => w (ix2 d n)) (fun n => s (ix2 0 n)) (fun _ => 0) n := by
  rw [pay6_eq, pay7_eq]
  pointwise [k0_pay2]
  rw [Cert.ReferenceIdeal.Hand.pay5_apply a r ρ h0 ha]
  simp only [Cert.ReferenceIdeal.Hand.pay6_apply a r ρ h0 ha]
  unfold proj
  rw [add_zero]
end

/-- The keys: the projection without a bias. -/
theorem keys_eq (A : Vec Ideal S2x16384x512 .f32) (w : Vec Ideal S512x512 .fp8e4m3) (s : Vec Ideal S512 .f32)
    (a : Fin 2 → Fin 16384 → Fin 512 → EReal) (hA : ∀ b i d, A (ix3 b i d) = a b i d)
    (h0 : ∀ b i, 0 ≤ rho a b i) (ha : ∀ b i, amax (a b i) = (rho a b i : EReal)) :
    shapeCast S2x16384x512 (k0_pay2 (k0_pay6 (flat A)) (k0_pay7 (flat A)) w (shapeCast S1x512 s shapeCasts_S512_S1x512))
      shapeCasts_S32768x512_S2x16384x512 = resProj a w s noBias := by
  funext j
  obtain ⟨b, i, n, rfl⟩ : ∃ b i n, j = ix3 b i n := ⟨_, _, _, eq_ix3 j⟩
  have hr := flat_row A a hA b i
  refine (batches_apply (et := .bf16) _ b i n).trans ((pay2_apply _ _ _ (row b i) (rho a b i) (h0 b i) (by rw [hr]; exact ha b i) n).trans ?_)
  rw [hr]
  exact congrArg (fun t => proj (a b i) (rho a b i) (fun d n => w (ix2 d n)) t (fun _ => 0) n) (funext fun n => vec_apply s n)

end Cert.NormReferenceIdeal.Hand
-- ==== Proof.NormReferenceIdeal.Values.lean ====
/-
  Hand-written, untrusted. The normalising reference's run over the extended reals: the tail's five arrays, the reshapes that
  follow it, and the five results as functions of the arguments: the functions the kernel's run leaves.
-/
module

public import proofs.«01_k».proof.Proof.NormReferenceIdeal.Host
public import proofs.«01_k».proof.Proof.NormReferenceIdeal.Payloads

@[expose] public section

set_option maxRecDepth 16384

noncomputable section

namespace Cert.NormReferenceIdeal.Hand

open Cert.NormReferenceIdeal Cert.NormReferenceIdeal.Gen Cert.KernelIdeal.Hand Cert.QuantMath
open Cert.ReferenceIdeal.Hand (zero2 zero1 flat proj_eq codes_eq scale_eq)
open Cert.NormIdeal.Hand (hOf noBias)
open Idealize.ShloMosaic Idealize.ShloMosaic.TcCoe Idealize.ShloMosaic.Tactic

variable (m : (ℓ : Loc nD τ sig) → Buf (Elt Ideal) ℓ) (c : Dev nD)

/-! ### Each window's one block is its whole array -/

/-- The region's one point. -/
def t₀ : Fin cfg0.N := ⟨0, by decide⟩

theorem blk_0 : iblk m c 0 t₀ = (V m c main_v25 : Vec Ideal S32768x512 .f32) :=
  Memref.read_access_unit_zero (Elt Ideal) main_v25 (funext fun a => by fin_cases a <;> decide) (fun a => by fin_cases a <;> decide) _
theorem blk_1 : iblk m c 1 t₀ = (V m c main_arg3 : Vec Ideal S512x512 .fp8e4m3) :=
  Memref.read_access_unit_zero (Elt Ideal) main_arg3 (funext fun a => by fin_cases a <;> decide) (fun a => by fin_cases a <;> decide) _
theorem blk_2 : iblk m c 2 t₀ = (V m c main_arg4 : Vec Ideal S512x512 .fp8e4m3) :=
  Memref.read_access_unit_zero (Elt Ideal) main_arg4 (funext fun a => by fin_cases a <;> decide) (fun a => by fin_cases a <;> decide) _
theorem blk_3 : iblk m c 3 t₀ = (V m c main_arg5 : Vec Ideal S512x512 .fp8e4m3) :=
  Memref.read_access_unit_zero (Elt Ideal) main_arg5 (funext fun a => by fin_cases a <;> decide) (fun a => by fin_cases a <;> decide) _
theorem blk_4 : iblk m c 4 t₀ = (V m c main_v26 : Vec Ideal S1x512 .f32) :=
  Memref.read_access_unit_zero (Elt Ideal) main_v26 (funext fun a => by fin_cases a <;> decide) (fun a => by fin_cases a <;> decide) _
theorem blk_5 : iblk m c 5 t₀ = (V m c main_v27 : Vec Ideal S1x512 .f32) :=
  Memref.read_access_unit_zero (Elt Ideal) main_v27 (funext fun a => by fin_cases a <;> decide) (fun a => by fin_cases a <;> decide) _
theorem blk_6 : iblk m c 6 t₀ = (V m c main_v28 : Vec Ideal S1x512 .f32) :=
  Memref.read_access_unit_zero (Elt Ideal) main_v28 (funext fun a => by fin_cases a <;> decide) (fun a => by fin_cases a <;> decide) _
theorem blk_7 : iblk m c 7 t₀ = (V m c main_v29 : Vec Ideal S1x512 .f32) :=
  Memref.read_access_unit_zero (Elt Ideal) main_v29 (funext fun a => by fin_cases a <;> decide) (fun a => by fin_cases a <;> decide) _
theorem blk_8 : iblk m c 8 t₀ = (V m c main_v30 : Vec Ideal S1x512 .f32) :=
  Memref.read_access_unit_zero (Elt Ideal) main_v30 (funext fun a => by fin_cases a <;> decide) (fun a => by fin_cases a <;> decide) _

section
variable (x0 : Vec Ideal S32768x512 .f32) (x1 x2 x3 : Vec Ideal S512x512 .fp8e4m3) (x4 x5 x6 x7 x8 : Vec Ideal S1x512 .f32)

theorem pay9_eq : k0_pay9 x0 x1 x2 x3 x4 x5 x6 x7 x8 = k0_pay6 x0 := by rw [k0_pay9, View.ld_unit_zero zero2]
theorem pay10_eq : k0_pay10 x0 x1 x2 x3 x4 x5 x6 x7 x8 = k0_pay7 x0 := by rw [k0_pay10, View.ld_unit_zero zero2]

theorem out_9 : out0_9 x0 x1 x2 x3 x4 x5 x6 x7 x8 = k0_pay1 (k0_pay8 x0 x1 x4 x7) := by
  rw [out0_9, View.canon_unit_zero zero2, View.ld_unit_zero zero2, View.ld_unit_zero zero2, View.ld_unit_zero zero2, View.ld_unit_zero zero2]
theorem out_10 : out0_10 x0 x1 x2 x3 x4 x5 x6 x7 x8 = k0_pay2 (k0_pay6 x0) (k0_pay7 x0) x2 x5 := by
  rw [out0_10, View.canon_unit_zero zero2, pay9_eq, pay10_eq, View.ld_unit_zero zero2, View.ld_unit_zero zero2]
theorem out_11 : out0_11 x0 x1 x2 x3 x4 x5 x6 x7 x8 = k0_pay3 (k0_pay6 x0) (k0_pay7 x0) x3 x6 x8 := by
  rw [out0_11, View.canon_unit_zero zero2, pay9_eq, pay10_eq, View.ld_unit_zero zero2, View.ld_unit_zero zero2, View.ld_unit_zero zero2]
theorem out_12 : out0_12 x0 x1 x2 x3 x4 x5 x6 x7 x8 = k0_pay7 x0 := by
  rw [out0_12, View.canon_unit_zero zero2, pay10_eq]
theorem out_13 : out0_13 x0 x1 x2 x3 x4 x5 x6 x7 x8 = k0_pay6 x0 := by
  rw [out0_13, View.canon_unit_zero zero1, pay9_eq]
end

theorem flushed_at (w : Fin cfg0.W) (hw : (cfg0.win w).flush t₀ = true) :
    ((cfg0.win w).blk t₀).view.read (Elt Ideal) ((dats m 0 c).arrAt w cfg0.N) = (dats m 0 c).flushed w t₀ := by
  rw [show cfg0.N = (t₀ : Fin cfg0.N).val + 1 from rfl, (dats m 0 c).arrAt_succ w t₀, if_pos hw]
  exact View.read_write_univ _ _

/-- The block written back is the whole vector. -/
theorem cut_13 (x : Vec Ideal S32768 .f32) : (cfg0.win 13).cut (cfg0.grid.coords t₀) x = x := rfl

theorem arr_9 : (dats m 0 c).arrAt 9 cfg0.N = k0_pay1 (k0_pay8 (V m c main_v25) (V m c main_arg3) (V m c main_v26) (V m c main_v29)) := by
  have hr := fun f => Memref.read_access_unit_zero (Elt Ideal) main_v31_0 (off := fun a => (win0_9.index t₀) a * main_v31_0.ty.shape.size a)
    (funext fun a => by fin_cases a <;> decide) (fun a => by fin_cases a <;> decide) f
  refine (hr _).symm.trans ((flushed_at m c 9 (flush0_9 t₀)).trans ?_)
  show (cfg0.win 9).cut _ ((dats m 0 c).after 9 t₀) = _
  rw [after0_9, out_9, blk_0, blk_1, blk_4, blk_7]
  rfl

theorem arr_10 : (dats m 0 c).arrAt 10 cfg0.N = k0_pay2 (k0_pay6 (V m c main_v25)) (k0_pay7 (V m c main_v25)) (V m c main_arg4) (V m c main_v27) := by
  have hr := fun f => Memref.read_access_unit_zero (Elt Ideal) main_v31_1 (off := fun a => (win0_10.index t₀) a * main_v31_1.ty.shape.size a)
    (funext fun a => by fin_cases a <;> decide) (fun a => by fin_cases a <;> decide) f
  refine (hr _).symm.trans ((flushed_at m c 10 (flush0_10 t₀)).trans ?_)
  show (cfg0.win 10).cut _ ((dats m 0 c).after 10 t₀) = _
  rw [after0_10, out_10, blk_0, blk_2, blk_5]
  rfl

theorem arr_11 : (dats m 0 c).arrAt 11 cfg0.N = k0_pay3 (k0_pay6 (V m c main_v25)) (k0_pay7 (V m c main_v25)) (V m c main_arg5) (V m c main_v28) (V m c main_v30) := by
  have hr := fun f => Memref.read_access_unit_zero (Elt Ideal) main_v31_2 (off := fun a => (win0_11.index t₀) a * main_v31_2.ty.shape.size a)
    (funext fun a => by fin_cases a <;> decide) (fun a => by fin_cases a <;> decide) f
  refine (hr _).symm.trans ((flushed_at m c 11 (flush0_11 t₀)).trans ?_)
  show (cfg0.win 11).cut _ ((dats m 0 c).after 11 t₀) = _
  rw [after0_11, out_11, blk_0, blk_3, blk_6, blk_8]
  rfl

theorem arr_12 : (dats m 0 c).arrAt 12 cfg0.N = k0_pay7 (V m c main_v25) := by
  have hr := fun f => Memref.read_access_unit_zero (Elt Ideal) main_v31_3 (off := fun a => (win0_12.index t₀) a * main_v31_3.ty.shape.size a)
    (funext fun a => by fin_cases a <;> decide) (fun a => by fin_cases a <;> decide) f
  refine (hr _).symm.trans ((flushed_at m c 12 (flush0_12 t₀)).trans ?_)
  show (cfg0.win 12).cut _ ((dats m 0 c).after 12 t₀) = _
  rw [after0_12, out_12, blk_0]
  rfl

theorem arr_13 : (dats m 0 c).arrAt 13 cfg0.N = k0_pay6 (V m c main_v25) := by
  have hr := fun f => Memref.read_access_unit_zero (Elt Ideal) main_v31_4 (off := fun a => (win0_13.index t₀) a * main_v31_4.ty.shape.size a)
    (funext fun a => by fin_cases a <;> decide) (fun a => by fin_cases a <;> decide) f
  refine (hr _).symm.trans ((flushed_at m c 13 (flush0_13 t₀)).trans ?_)
  show (cfg0.win 13).cut _ ((dats m 0 c).after 13 t₀) = _
  rw [after0_13, out_13, blk_0]
  exact cut_13 _

/-! ### The reshapes after the region -/

section
variable (W : Valuation τ sig (Elt Ideal))

theorem tail_32 : StableHlo.after (List.flatten [hostOps1]) W (Proc.devRef .tc main_v32)
    = shapeCast S2x16384x512 (W (Proc.devRef .tc main_v31_0) : Vec Ideal S32768x512 .bf16) shapeCasts_S32768x512_S2x16384x512 := by
  show StableHlo.after hostOps1 W (Proc.tc.devRef main_v32) = _
  after_reads_simp
  rfl
theorem tail_33 : StableHlo.after (List.flatten [hostOps1]) W (Proc.devRef .tc main_v33)
    = shapeCast S2x16384x512 (W (Proc.devRef .tc main_v31_1) : Vec Ideal S32768x512 .bf16) shapeCasts_S32768x512_S2x16384x512 := by
  show StableHlo.after hostOps1 W (Proc.tc.devRef main_v33) = _
  after_reads_simp
  rfl
theorem tail_34 : StableHlo.after (List.flatten [hostOps1]) W (Proc.devRef .tc main_v34)
    = shapeCast S2x16384x512 (W (Proc.devRef .tc main_v31_2) : Vec Ideal S32768x512 .bf16) shapeCasts_S32768x512_S2x16384x512 := by
  show StableHlo.after hostOps1 W (Proc.tc.devRef main_v34) = _
  after_reads_simp
  rfl
theorem tail_35 : StableHlo.after (List.flatten [hostOps1]) W (Proc.devRef .tc main_v35)
    = shapeCast S2x16384x512 (W (Proc.devRef .tc main_v31_3) : Vec Ideal S32768x512 .fp8e4m3) shapeCasts_S32768x512_S2x16384x512 := by
  show StableHlo.after hostOps1 W (Proc.tc.devRef main_v35) = _
  after_reads_simp
  rfl
theorem tail_36 : StableHlo.after (List.flatten [hostOps1]) W (Proc.devRef .tc main_v36)
    = shapeCast S2x1x16384 (W (Proc.devRef .tc main_v31_4) : Vec Ideal S32768 .f32) shapeCasts_S32768_S2x1x16384 := by
  show StableHlo.after hostOps1 W (Proc.tc.devRef main_v36) = _
  after_reads_simp
  rfl
end

/-- The windows' arrays are distinct. -/
theorem arr_inj : Function.Injective (Pipeline.arrRef spec0) := by decide

theorem end_32 : Pipeline.afterTail₀ cfgs (dats m) 0 (V0 m) [hostOps1] c main_v32
    = shapeCast S2x16384x512 (k0_pay1 (k0_pay8 (V m c main_v25) (V m c main_arg3) (V m c main_v26) (V m c main_v29))) shapeCasts_S32768x512_S2x16384x512 :=
  (tail_32 _).trans (congrArg (fun x : Vec Ideal S32768x512 .bf16 => shapeCast S2x16384x512 x shapeCasts_S32768x512_S2x16384x512)
    ((Pipeline.withArrays_arr spec0 arr_inj c (V0 m c) (fun w => (dats m 0 c).arrAt w cfg0.N) 9).trans (arr_9 m c)))
theorem end_33 : Pipeline.afterTail₀ cfgs (dats m) 0 (V0 m) [hostOps1] c main_v33
    = shapeCast S2x16384x512 (k0_pay2 (k0_pay6 (V m c main_v25)) (k0_pay7 (V m c main_v25)) (V m c main_arg4) (V m c main_v27)) shapeCasts_S32768x512_S2x16384x512 :=
  (tail_33 _).trans (congrArg (fun x : Vec Ideal S32768x512 .bf16 => shapeCast S2x16384x512 x shapeCasts_S32768x512_S2x16384x512)
    ((Pipeline.withArrays_arr spec0 arr_inj c (V0 m c) (fun w => (dats m 0 c).arrAt w cfg0.N) 10).trans (arr_10 m c)))
theorem end_34 : Pipeline.afterTail₀ cfgs (dats m) 0 (V0 m) [hostOps1] c main_v34
    = shapeCast S2x16384x512 (k0_pay3 (k0_pay6 (V m c main_v25)) (k0_pay7 (V m c main_v25)) (V m c main_arg5) (V m c main_v28) (V m c main_v30)) shapeCasts_S32768x512_S2x16384x512 :=
  (tail_34 _).trans (congrArg (fun x : Vec Ideal S32768x512 .bf16 => shapeCast S2x16384x512 x shapeCasts_S32768x512_S2x16384x512)
    ((Pipeline.withArrays_arr spec0 arr_inj c (V0 m c) (fun w => (dats m 0 c).arrAt w cfg0.N) 11).trans (arr_11 m c)))
theorem end_35 : Pipeline.afterTail₀ cfgs (dats m) 0 (V0 m) [hostOps1] c main_v35
    = shapeCast S2x16384x512 (k0_pay7 (V m c main_v25)) shapeCasts_S32768x512_S2x16384x512 :=
  (tail_35 _).trans (congrArg (fun x : Vec Ideal S32768x512 .fp8e4m3 => shapeCast S2x16384x512 x shapeCasts_S32768x512_S2x16384x512)
    ((Pipeline.withArrays_arr spec0 arr_inj c (V0 m c) (fun w => (dats m 0 c).arrAt w cfg0.N) 12).trans (arr_12 m c)))
theorem end_36 : Pipeline.afterTail₀ cfgs (dats m) 0 (V0 m) [hostOps1] c main_v36
    = shapeCast S2x1x16384 (k0_pay6 (V m c main_v25)) shapeCasts_S32768_S2x1x16384 :=
  (tail_36 _).trans (congrArg (fun x : Vec Ideal S32768 .f32 => shapeCast S2x1x16384 x shapeCasts_S32768_S2x1x16384)
    ((Pipeline.withArrays_arr spec0 arr_inj c (V0 m c) (fun w => (dats m 0 c).arrAt w cfg0.N) 13).trans (arr_13 m c)))

/-! ### The run's results -/

/-- The normalised input of device `c`'s arguments. -/
def hRef : Fin 2 → Fin 16384 → Fin 512 → EReal :=
  hOf (m ((c : Thread nD τ).loc main_arg0)) (m ((c : Thread nD τ).loc main_arg1)) (m ((c : Thread nD τ).loc main_arg2))

section
variable (g : Dev nD → PrngReg) (hρ : ∀ c b i, ∃ ρ : ℝ, 0 ≤ ρ ∧ amax (hRef m c b i) = (ρ : EReal))

include hρ in
theorem rho_spec (c : Dev nD) (b : Fin 2) (i : Fin 16384) : 0 ≤ rho (hRef m c) b i ∧ amax (hRef m c b i) = (rho (hRef m c) b i : EReal) := by
  obtain ⟨ρ, h1, h2⟩ := hρ c b i
  unfold rho
  rw [h2, EReal.toReal_coe]
  exact ⟨h1, rfl⟩

include hρ in
theorem run_values : θ_run defs (onTc (τ := τ) (main (F := Ideal))) ⟨m, fun _ => 0, g⟩ (fun r => ∀ c : Dev nD,
    r.2.mem ((c : Thread nD τ).loc main_v32) = resProj (hRef m c) (m ((c : Thread nD τ).loc main_arg3)) (m ((c : Thread nD τ).loc main_arg6)) (m ((c : Thread nD τ).loc main_arg9))
      ∧ r.2.mem ((c : Thread nD τ).loc main_v33) = resProj (hRef m c) (m ((c : Thread nD τ).loc main_arg4)) (m ((c : Thread nD τ).loc main_arg7)) noBias
      ∧ r.2.mem ((c : Thread nD τ).loc main_v34) = resProj (hRef m c) (m ((c : Thread nD τ).loc main_arg5)) (m ((c : Thread nD τ).loc main_arg8)) (m ((c : Thread nD τ).loc main_arg10))
      ∧ r.2.mem ((c : Thread nD τ).loc main_v35) = resCodes (hRef m c)
      ∧ r.2.mem ((c : Thread nD τ).loc main_v36) = resScale (hRef m c)) := by
  refine (θ_run defs _ _).mono (fun r h c => ?_) (run_main m g)
  have hA : ∀ b i d, hH (m ((c : Thread nD τ).loc main_arg0)) (m ((c : Thread nD τ).loc main_arg1)) (m ((c : Thread nD τ).loc main_arg2)) (ix3 b i d)
      = hRef m c b i d := fun b i d => hH_apply _ b _ _ i d
  have h0 := fun b i => (rho_spec m hρ c b i).1
  have ha := fun b i => (rho_spec m hρ c b i).2
  refine ⟨?_, ?_, ?_, ?_, ?_⟩
  · refine ((h c).2 main_v32 (Pipeline.mem_restRefs_of main_v32 (by decide) (by decide))).trans ((end_32 m c).trans ?_)
    rw [V_h, V_26, V_29, V_main_arg3, pay1_eq]
    exact proj_eq _ _ _ _ _ hA h0 ha
  · refine ((h c).2 main_v33 (Pipeline.mem_restRefs_of main_v33 (by decide) (by decide))).trans ((end_33 m c).trans ?_)
    rw [V_h, V_27, V_main_arg4]
    exact keys_eq _ _ _ _ hA h0 ha
  · refine ((h c).2 main_v34 (Pipeline.mem_restRefs_of main_v34 (by decide) (by decide))).trans ((end_34 m c).trans ?_)
    rw [V_h, V_28, V_30, V_main_arg5, pay3_eq]
    exact proj_eq _ _ _ _ _ hA h0 ha
  · refine ((h c).2 main_v35 (Pipeline.mem_restRefs_of main_v35 (by decide) (by decide))).trans ((end_35 m c).trans ?_)
    rw [V_h, pay7_eq]
    exact codes_eq _ _ hA h0 ha
  · refine ((h c).2 main_v36 (Pipeline.mem_restRefs_of main_v36 (by decide) (by decide))).trans ((end_36 m c).trans ?_)
    rw [V_h, pay6_eq]
    exact scale_eq _ _ hA h0 ha
end

end Cert.NormReferenceIdeal.Hand
-- ==== Proof.NormBounds.lean ====
/-
  Hand-written, untrusted. From the precondition `bounded` (gains and offsets no larger than 2^125) to the
  scaled largest absolute value of every row of the normalised input: a real below 2^126.
-/
module

public import proofs.«01_k».proof.Pre_bounded
public import proofs.«01_k».proof.Proof.Bounds
public import proofs.«01_k».proof.Proof.NormIdeal.Arrays

@[expose] public section

set_option maxRecDepth 16384

noncomputable section

namespace Cert.NormBounds

open Cert.QuantMath Cert.NormMath Cert.NormIdeal.Hand Cert.Bounds
open Idealize.ShloMosaic hiding inv
open Idealize.ShloMosaic.Tactic

theorem ofBits_gain : Ideal.ofBits .f32 0x7E000000#32 = ((th 252 : ℝ) : EReal) := by
  have := ofBits_field 252 (by omega) (by omega)
  rw [show fieldWord (BitVec.ofNat 32 252) = 0x7E000000#32 by decide] at this
  exact this

section
variable [Cert.Pre_bounded.Facts]
  (x : Vec Ideal Cert.Pre_bounded.S2x16384x512 .bf16) (g be : Vec Ideal Cert.Pre_bounded.S512 .f32) (wq wk wv : Vec Ideal Cert.Pre_bounded.S512x512 .fp8e4m3)
  (sq sk sv bq bv : Vec Ideal Cert.Pre_bounded.S512 .f32)
  (h : Cert.Pre_bounded.fn (F := Ideal) x g be wq wk wv sq sk sv bq bv = fun _ => 1#1)
include h

theorem entries (d : Fin 512) : (∃ r : ℝ, g (ix1 d) = (r : EReal) ∧ |r| ≤ th 252) ∧ (∃ r : ℝ, be (ix1 d) = (r : EReal) ∧ |r| ≤ th 252) := by
  have e : IntOp.andi (Ideal.cmp .ole (max (g (ix1 d)) (-(g (ix1 d)))) (Ideal.ofBits .f32 0x7E000000#32))
      (Ideal.cmp .ole (max (be (ix1 d)) (-(be (ix1 d)))) (Ideal.ofBits .f32 0x7E000000#32)) = 1#1 := congrFun h (ix1 d)
  rw [and_one, cmp_ole, cmp_ole, ofBits_gain] at e
  exact ⟨real_of_le e.1, real_of_le e.2⟩

/-- Every row of the normalised input has a real largest absolute value, and the scales' exponent of it is in range. -/
theorem amax_norm (b : Fin 2) (i : Fin 16384) : ∃ ρ : ℝ, 0 ≤ ρ ∧ ρ < th 253 ∧ amax (hOf x g be b i) = (ρ : EReal) := by
  have e := entries x g be wq wk wv sq sk sv bq bv h
  choose gR hg hgB using fun d => (e d).1
  choose bR hb hbB using fun d => (e d).2
  refine amax_real_of (513 * th 252) (by unfold th; norm_num) _ fun d => ?_
  have := normed_bounded (fun i d => x (ix3 b i d)) gR bR (th 252) hgB hbB i d
  unfold hOf
  simp only [hg, hb]
  exact this
end

end Cert.NormBounds
-- ==== Proof.lean ====
/-
  Hand-written, untrusted. The certificate's claims: the frames from the runs of the kernel (`Proof/KernelIdeal/Frame.lean`
  and its twin for the program as printed) and of the reference, the named constant's rule, and the kernel's results against
  the reference's from the two `run_values`; then the same of the normalising call.
-/
module

public import proofs.«01_k».proof.Defs
public import proofs.«01_k».proof.Proof.Kernel.Frame
public import proofs.«01_k».proof.Proof.KernelIdeal.Frame
public import proofs.«01_k».proof.Proof.KernelIdeal.Arrays
public import proofs.«01_k».proof.Proof.Gen.ReferenceIdeal.Frame
public import proofs.«01_k».proof.Proof.ReferenceIdeal.Values
public import proofs.«01_k».proof.Proof.Bounds
public import proofs.«01_k».proof.Proof.Gen.Norm.Frame
public import proofs.«01_k».proof.Proof.NormIdeal.Values
public import proofs.«01_k».proof.Proof.NormReferenceIdeal.Values
public import proofs.«01_k».proof.Proof.NormBounds

@[expose] public section

noncomputable section

namespace Cert.Proof

open Idealize.ShloMosaic Idealize.SL.Sem Idealize.ShloMosaic.TcCoe Idealize.ShloMosaic.Tactic

theorem factsPre : Cert.Pre_finite.Facts := ⟨by decide⟩

theorem quiescentP : quiescent_Kernel (hKernel := Cert.Kernel.Gen.facts) := by
  intro m g _; exact Cert.Kernel.Hand.frame m g
theorem quiescentPI : quiescent_KernelIdeal (hKernelIdeal := Cert.KernelIdeal.Gen.facts) := by
  intro m g _; exact Cert.KernelIdeal.Hand.frame m g
theorem quiescentPIpre : quiescent_KernelIdeal_pre_finite (hKernelIdeal := Cert.KernelIdeal.Gen.facts) (hPre_finite := factsPre) := by
  intro m g _; exact Cert.KernelIdeal.Hand.frame m g
theorem quiescentRI : quiescent_ReferenceIdeal (hReferenceIdeal := Cert.ReferenceIdeal.Gen.facts) := by
  intro m g _; exact Cert.ReferenceIdeal.Gen.frame m g
theorem quiescentRIpre : quiescent_ReferenceIdeal_pre_finite (hReferenceIdeal := Cert.ReferenceIdeal.Gen.facts) (hPre_finite := factsPre) := by
  intro m g _; exact Cert.ReferenceIdeal.Gen.frame m g
theorem preservesP : preserves_Kernel_KernelIdeal := IdealRules.named_const.statement _ _ _ _ _ rfl

/-- On finite queries, keys and values the kernel's four results are the reference's. -/
theorem algebraicP : algebraic_KernelIdeal_ReferenceIdeal_pre_finite (hKernelIdeal := Cert.KernelIdeal.Gen.facts)
    (hReferenceIdeal := Cert.ReferenceIdeal.Gen.facts) (hPre_finite := factsPre) := by
  letI := factsPre
  intro m g m' g' hpre hargs
  choose qR kR vR hq hk hv hB using fun c => Cert.Bounds.reals _ _ _ _ _ _ _ (hpre c)
  have hamax := fun c b i => Cert.Bounds.amax_real _ (fun d => Cert.Bounds.att_real (qR c) (kR c) (vR c) _ (hv c) _ (hB c) b i d)
  have hkernel := Cert.KernelIdeal.Hand.run_values m g qR kR hq hk (fun c b i => (hamax c b i).imp fun _ h => h.2)
  have href := Cert.ReferenceIdeal.Hand.run_values m' g' qR kR (fun c => by rw [(hargs c).1]; exact hq c) (fun c => by rw [(hargs c).2.1]; exact hk c)
    (fun c b i => by rw [(hargs c).2.2.1]; exact (hamax c b i).imp fun _ h => ⟨h.1, h.2.2⟩)
  refine ⟨_, _, _, _, hkernel, (θ_run _ _ _).mono (fun r h c => ?_) href⟩
  obtain ⟨h0, h1, h2, h3, hkeep⟩ := h c
  obtain ⟨_, _, e2, e3, e4, e5, e6⟩ := hargs c
  refine ⟨h0.trans ?_, h1.trans ?_, h2.trans ?_, h3.trans ?_, hkeep⟩
  · unfold Cert.ReferenceIdeal.Hand.attOf; rw [e2, e3, e4, e5, e6]; rfl
  · unfold Cert.ReferenceIdeal.Hand.attOf; rw [e2, e4, e5, e6]; rfl
  · unfold Cert.ReferenceIdeal.Hand.attOf; rw [e2]; rfl
  · unfold Cert.ReferenceIdeal.Hand.attOf; rw [e2]; rfl

/-! ### The normalising call -/

theorem factsBounded : Cert.Pre_bounded.Facts := ⟨by decide⟩

theorem quiescentN : quiescent_Norm (hNorm := Cert.Norm.Gen.facts) := by
  intro m g _; exact Cert.Norm.Gen.frame m g
theorem quiescentNI : quiescent_NormIdeal (hNormIdeal := Cert.NormIdeal.Gen.facts) := by
  intro m g _; exact Cert.NormIdeal.Gen.frame m g
theorem quiescentNIpre : quiescent_NormIdeal_pre_bounded (hNormIdeal := Cert.NormIdeal.Gen.facts) (hPre_bounded := factsBounded) := by
  intro m g _; exact Cert.NormIdeal.Gen.frame m g
theorem quiescentNRI : quiescent_NormReferenceIdeal (hNormReferenceIdeal := Cert.NormReferenceIdeal.Gen.facts) := by
  intro m g _; exact Cert.NormReferenceIdeal.Gen.frame m g
theorem quiescentNRIpre : quiescent_NormReferenceIdeal_pre_bounded (hNormReferenceIdeal := Cert.NormReferenceIdeal.Gen.facts)
    (hPre_bounded := factsBounded) := by
  intro m g _; exact Cert.NormReferenceIdeal.Gen.frame m g

/-- For gains and offsets no larger than 2^125 the normalising call's five results are its reference's. -/
theorem algebraicN : algebraic_NormIdeal_NormReferenceIdeal_pre_bounded (hNormIdeal := Cert.NormIdeal.Gen.facts)
    (hNormReferenceIdeal := Cert.NormReferenceIdeal.Gen.facts) (hPre_bounded := factsBounded) := by
  letI := factsBounded
  intro m g m' g' hpre hargs
  have hamax := fun c b i => Cert.NormBounds.amax_norm _ _ _ _ _ _ _ _ _ _ _ (hpre c) b i
  have he : ∀ c, Cert.NormReferenceIdeal.Hand.hRef m' c = Cert.NormIdeal.Hand.hNorm m c := fun c => by
    unfold Cert.NormReferenceIdeal.Hand.hRef
    rw [(hargs c).1, (hargs c).2.1, (hargs c).2.2.1]
    rfl
  have hkernel := θ_run_and (Cert.NormIdeal.Hand.run_values m g fun c b i => (hamax c b i).imp fun _ h => h.2) (Cert.NormIdeal.Gen.unchanged m g)
  have href := θ_run_and (Cert.NormReferenceIdeal.Hand.run_values m' g' fun c b i => by
    rw [he]; exact (hamax c b i).imp fun _ h => ⟨h.1, h.2.2⟩) (Cert.NormReferenceIdeal.Gen.unchanged m' g')
  refine ⟨fun c => Cert.KernelIdeal.Hand.resProj (Cert.NormIdeal.Hand.hNorm m c) (m (c.tc.loc Cert.NormIdeal.main_arg3)) (m (c.tc.loc Cert.NormIdeal.main_arg6)) (m (c.tc.loc Cert.NormIdeal.main_arg9)),
    fun c => Cert.KernelIdeal.Hand.resProj (Cert.NormIdeal.Hand.hNorm m c) (m (c.tc.loc Cert.NormIdeal.main_arg4)) (m (c.tc.loc Cert.NormIdeal.main_arg7)) Cert.NormIdeal.Hand.noBias,
    fun c => Cert.KernelIdeal.Hand.resProj (Cert.NormIdeal.Hand.hNorm m c) (m (c.tc.loc Cert.NormIdeal.main_arg5)) (m (c.tc.loc Cert.NormIdeal.main_arg8)) (m (c.tc.loc Cert.NormIdeal.main_arg10)),
    fun c => Cert.KernelIdeal.Hand.resCodes (Cert.NormIdeal.Hand.hNorm m c), fun c => Cert.KernelIdeal.Hand.resScale (Cert.NormIdeal.Hand.hNorm m c),
    θ_run_mono hkernel fun r h c => ?_, θ_run_mono href fun r h c => ?_⟩
  · obtain ⟨h0, h1, h2, h3, h4⟩ := h.1 c
    exact ⟨h0, h1, h2, h3, h4, h.2 c⟩
  · obtain ⟨h0, h1, h2, h3, h4⟩ := h.1 c
    obtain ⟨_, _, _, e3, e4, e5, e6, e7, e8, e9, e10⟩ := hargs c
    refine ⟨h0.trans ?_, h1.trans ?_, h2.trans ?_, h3.trans ?_, h4.trans ?_, h.2 c⟩
    · rw [he, e3, e6, e9]
    · rw [he, e4, e7]
    · rw [he, e5, e8, e10]
    · rw [he]
    · rw [he]

theorem claim : Cert.Claim := ⟨Cert.Kernel.Gen.facts, Cert.KernelIdeal.Gen.facts, Cert.ReferenceIdeal.Gen.facts, Cert.Norm.Gen.facts,
  Cert.NormIdeal.Gen.facts, Cert.NormReferenceIdeal.Gen.facts, factsPre, factsBounded, quiescentP, quiescentPI, quiescentPIpre, quiescentRI, quiescentRIpre,
  quiescentN, quiescentNI, quiescentNIpre, quiescentNRI, quiescentNRIpre, preservesP, algebraicP, trivial, algebraicN⟩

end Cert.Proof

end
